-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  IdealRules.named_const.Statement Cert.KernelIdeal.κ "s" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v66) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v19_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v19_1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v92) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v44) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S32768x12288 : Shape := ⟨2, ![32768, 12288]⟩
abbrev S4x128 : Shape := ⟨2, ![4, 128]⟩
abbrev S256 : Shape := ⟨1, ![256]⟩
abbrev S8x512x16x256 : Shape := ⟨4, ![8, 512, 16, 256]⟩
abbrev S_ : Shape := ⟨0, ![]⟩

class Facts : Prop where
  bitsLt_bf16_f32 : FTy.bits .bf16 < FTy.bits .f32
  bcast_S_S32768x12288 : S_.BroadcastsInDim S32768x12288 (![] : Fin 0 → Fin S32768x12288.rank)
  reducesTo_S32768x12288_S_d0_1 : S32768x12288.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S256 : S_.BroadcastsInDim S256 (![] : Fin 0 → Fin S256.rank)
  reducesTo_S256_S_d0 : S256.ReducesTo [0] S_
  bcast_S_S8x512x16x256 : S_.BroadcastsInDim S8x512x16x256 (![] : Fin 0 → Fin S8x512x16x256.rank)
  reducesTo_S8x512x16x256_S_d0_1_2_3 : S8x512x16x256.ReducesTo [0, 1, 2, 3] S_

variable [Facts]

def fn_part1 {F : FTy → Type} [FloatOps F] (main_arg4 : FVec F S8x512x16x256 .f32) (main_v4 : IVec S_ 1) (main_v8 : IVec S_ 1) (main_v12 : IVec S_ 1) (main_v15 : IVec S8x512x16x256 1) (main_c_5 : IVec S_ 1) : IVec S_ 1 :=
  let main_v16 : IVec S_ 1 := (fun x v => Host.reduce IntOp.andi x v reducesTo_S8x512x16x256_S_d0_1_2_3 h_S_) main_v15 main_c_5
  let main_v17 : FVec F S8x512x16x256 .f32 := Host.absf main_arg4
  let main_cst_6 : FVec F S_ .f32 := constant S_ .f32 0x7F800000#32
  let main_v18 : FVec F S8x512x16x256 .f32 := broadcastInDim S8x512x16x256 ![] bcast_S_S8x512x16x256 main_cst_6
  let main_v19 : IVec S8x512x16x256 1 := cmpf .olt main_v17 main_v18
  let main_c_7 : IVec S_ 1 := constantI S_ 1 1#1
  let main_v20 : IVec S_ 1 := (fun x v => Host.reduce IntOp.andi x v reducesTo_S8x512x16x256_S_d0_1_2_3 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S32768x12288 .bf16) (main_arg1 : FVec F S4x128 .f32) (main_arg2 : FVec F S256 .f32) (main_arg3 : FVec F S8x512x16x256 .f32) (main_arg4 : FVec F S8x512x16x256 .f32) : IVec S_ 1 :=
  let main_v0 : FVec F S32768x12288 .f32 := (extf .f32 · bitsLt_bf16_f32) main_arg0
  let main_v1 : FVec F S32768x12288 .f32 := Host.absf main_v0
  let main_cst : FVec F S_ .f32 := constant S_ .f32 0x7F800000#32
  let main_v2 : FVec F S32768x12288 .f32 := broadcastInDim S32768x12288 ![] bcast_S_S32768x12288 main_cst
  let main_v3 : IVec S32768x12288 1 := cmpf .olt main_v1 main_v2
  let main_c : IVec S_ 1 := constantI S_ 1 1#1
  let main_v4 : IVec S_ 1 := (fun x v => Host.reduce IntOp.andi x v reducesTo_S32768x12288_S_d0_1 h_S_) main_v3 main_c
  let main_v5 : FVec F S4x128 .f32 := Host.absf main_arg1
  let main_cst_0 : FVec F S_ .f32 := constant S_ .f32 0x7F800000#32
  let main_v6 : FVec F S4x128 .f32 := broadcastInDim S4x128 ![] bcast_S_S4x128 main_cst_0
  let main_v7 : IVec S4x128 1 := cmpf .olt main_v5 main_v6
  let main_c_1 : IVec S_ 1 := constantI S_ 1 1#1
  let main_v8 : IVec S_ 1 := (fun x v => Host.reduce IntOp.andi x v reducesTo_S4x128_S_d0_1 h_S_) main_v7 main_c_1
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : FVec F S8x512x16x256 .f32 := Host.absf main_arg3
  let main_cst_4 : FVec F S_ .f32 := constant S_ .f32 0x7F800000#32
  let main_v14 : FVec F S8x512x16x256 .f32 := broadcastInDim S8x512x16x256 ![] bcast_S_S8x512x16x256 main_cst_4
  let main_v15 : IVec S8x512x16x256 1 := cmpf .olt main_v13 main_v14
  let main_c_5 : IVec S_ 1 := constantI S_ 1 1#1
  fn_part1 (F := F) main_arg4 main_v4 main_v8 main_v12 main_v15 main_c_5
-- ==== Pre_finite11.lean ====
abbrev S8192x14336 : Shape := ⟨2, ![8192, 14336]⟩
abbrev S2048 : Shape := ⟨1, ![2048]⟩
abbrev S2x8 : Shape := ⟨2, ![2, 8]⟩
abbrev S_ : Shape := ⟨0, ![]⟩

class Facts : Prop where
  bcast_S_S2x8 : S_.BroadcastsInDim S2x8 (![] : Fin 0 → Fin S2x8.rank)
  reducesTo_S2x8_S_d0_1 : S2x8.ReducesTo [0, 1] S_
  h_S_ : 0 < S_.numel

variable [Facts]

def fn {F : FTy → Type} [FloatOps F] (main_arg0 : FVec F S8192x14336 .bf16) (main_arg1 : FVec F S2048 .f32) (main_arg2 : FVec F S2x8 .f32) : IVec S_ 1 :=
  let main_cst : FVec F S_ .f32 := constant S_ .f32 0x7F800000#32
  let main_v0 : FVec F S2x8 .f32 := broadcastInDim S2x8 ![] bcast_S_S2x8 main_cst
  let main_v1 : IVec S2x8 1 := cmpf .olt main_arg2 main_v0
  let main_c : IVec S_ 1 := constantI S_ 1 1#1
  let main_v2 : IVec S_ 1 := (fun x v => Host.reduce IntOp.andi x v reducesTo_S2x8_S_d0_1 h_S_) main_v1 main_c
  main_v2
-- ==== Kernel.lean ====
abbrev S32768x12288 : Shape := ⟨2, ![32768, 12288]⟩
abbrev S4x128 : Shape := ⟨2, ![4, 128]⟩
abbrev S256 : Shape := ⟨1, ![256]⟩
abbrev S8x512x16x256 : Shape := ⟨4, ![8, 512, 16, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S8x512x4096 : Shape := ⟨3, ![8, 512, 4096]⟩
abbrev S1x256 : Shape := ⟨2, ![1, 256]⟩
abbrev S32768x4096 : Shape := ⟨2, ![32768, 4096]⟩
abbrev S512x256 : Shape := ⟨2, ![512, 256]⟩
abbrev S4096x256 : Shape := ⟨2, ![4096, 256]⟩
abbrev S1x512x256 : Shape := ⟨3, ![1, 512, 256]⟩
abbrev S1024x256 : Shape := ⟨2, ![1024, 256]⟩
abbrev S1024x128 : Shape := ⟨2, ![1024, 128]⟩
abbrev S512x128 : Shape := ⟨2, ![512, 128]⟩
abbrev S512x1 : Shape := ⟨2, ![512, 1]⟩
abbrev S512x1024 : Shape := ⟨2, ![512, 1024]⟩
abbrev S512 : Shape := ⟨1, ![512]⟩
abbrev S512x512 : Shape := ⟨2, ![512, 512]⟩
abbrev S1x128 : Shape := ⟨2, ![1, 128]⟩
abbrev S1 : Shape := ⟨1, ![1]⟩
abbrev S1x1 : Shape := ⟨2, ![1, 1]⟩

abbrev nBuf : Space → Nat
  | .hbm => 44
  | .vmem => 17
  | .smem => 0
  | _ => 0

abbrev bufTy : (tb : Table) → Fin (tcTables nBuf tb) → BufTy
  | .hbm, ⟨0, _⟩ => ⟨S32768x12288, .bf16⟩
  | .hbm, ⟨1, _⟩ => ⟨S4x128, .f32⟩
  | .hbm, ⟨2, _⟩ => ⟨S256, .f32⟩
  | .hbm, ⟨3, _⟩ => ⟨S8x512x16x256, .f32⟩
  | .hbm, ⟨4, _⟩ => ⟨S8x512x16x256, .f32⟩
  | .hbm, ⟨5, _⟩ => ⟨S64, .i32⟩
  | .hbm, ⟨6, _⟩ => ⟨S64x64, .i32⟩
  | .hbm, ⟨7, _⟩ => ⟨S4096, .i32⟩
  | .hbm, ⟨8, _⟩ => ⟨S4096, .f32⟩
  | .hbm, ⟨9, _⟩ => ⟨S64, .i32⟩
  | .hbm, ⟨10, _⟩ => ⟨S1x64, .i32⟩
  | .hbm, ⟨11, _⟩ => ⟨S64x64, .i32⟩
  | .hbm, ⟨12, _⟩ => ⟨S4096, .i32⟩
  | .hbm, ⟨13, _⟩ => ⟨S4096, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x128, .f32⟩
  | .hbm, ⟨36, _⟩ => ⟨S4096x64, .f32⟩
  | .hbm, ⟨37, _⟩ => ⟨S4096x128, .f32⟩
  | .hbm, ⟨38, _⟩ => ⟨S8x512x4096, .f32⟩
  | .hbm, ⟨39, _⟩ => ⟨S8x512x4096, .bf16⟩
  | .hbm, ⟨40, _⟩ => ⟨S8x512x4096, .f32⟩
  | .hbm, ⟨41, _⟩ => ⟨S8x512x4096, .bf16⟩
  | .hbm, ⟨42, _⟩ => ⟨S1x256, .f32⟩
  | .hbm, ⟨43, _⟩ => ⟨S32768x4096, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4x128, .f32⟩
  | .local _ .vmem, ⟨7, _⟩ => ⟨S1x256, .f32⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S4096x128, .f32⟩
  | .local _ .vmem, ⟨13, _⟩ => ⟨S4096x128, .f32⟩
  | .local _ .vmem, ⟨14, _⟩ => ⟨S512x256, .bf16⟩
  | .local _ .vmem, ⟨15, _⟩ => ⟨S512x256, .bf16⟩
  | .local _ .vmem, ⟨16, _⟩ => ⟨S4096x256, .bf16⟩
  | _, _ => ⟨S32768x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![8, 16, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_83 : BitVec 32 := 0#32
  let c4_i32 : BitVec 32 := 4#32
  let v548 : BitVec 32 := Scalar.addi c0_i32_83 c4_i32
  let c1_i32 : BitVec 32 := 1#32
  ⟨c0_i32_83, v548, c1_i32⟩
def k0_mult1 (k0_t1 : Fin k0_t1_loop.trips) : BitVec 32 :=
  let c0_i32_83 : BitVec 32 := 0#32
  let c1_i32 : BitVec 32 := 1#32
  let arg14 : BitVec 32 := Scf.iv c0_i32_83 c1_i32 k0_t1
  let c1024_i32 : BitVec 32 := 1024#32
  let v549 : BitVec 32 := Scalar.muli arg14 c1024_i32
  v549
def k0_off1 (k0_t1 : Fin k0_t1_loop.trips) : Fin 2 → Nat :=
  let c0_i32_83 : BitVec 32 := 0#32
  let c1_i32 : BitVec 32 := 1#32
  let arg14 : BitVec 32 := Scf.iv c0_i32_83 c1_i32 k0_t1
  let c1024_i32 : BitVec 32 := 1024#32
  let v549 : BitVec 32 := Scalar.muli arg14 c1024_i32
  let v550 : BitVec 32 := v549
  let v551 : Index := Scalar.indexCast v550
  let c0_85 : Index := 0#32
  ![v551.toNat, 0]
def k0_off2 (k0_t1 : Fin k0_t1_loop.trips) : Fin 2 → Nat :=
  let c0_i32_83 : BitVec 32 := 0#32
  let c1_i32 : BitVec 32 := 1#32
  let arg14 : BitVec 32 := Scf.iv c0_i32_83 c1_i32 k0_t1
  let c1024_i32 : BitVec 32 := 1024#32
  let v549 : BitVec 32 := Scalar.muli arg14 c1024_i32
  let v550 : BitVec 32 := v549
  let v554 : Index := Scalar.indexCast v550
  let c0_86 : Index := 0#32
  ![v554.toNat, 0]
def k0_mult2 (i : grid0.Coords) : BitVec 32 :=
  let arg2 : BitVec 32 := BitVec.ofNat 32 (i 2).val
  let c512_i32 : BitVec 32 := 512#32
  let v3 : BitVec 32 := Scalar.muli arg2 c512_i32
  v3
def k0_off3 (i : grid0.Coords) : Fin 2 → Nat :=
  let arg2 : BitVec 32 := BitVec.ofNat 32 (i 2).val
  let c512_i32 : BitVec 32 := 512#32
  let v3 : BitVec 32 := Scalar.muli arg2 c512_i32
  let v4 : BitVec 32 := v3
  let v7 : Index := Scalar.indexCast v4
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "s" => some (((Real.sqrt 128)⁻¹ * (Real.log 2)⁻¹ : ℝ) : EReal)
  | _ => none
-- ==== ReferenceIdeal.lean ====
abbrev S32768x12288 : Shape := ⟨2, ![32768, 12288]⟩
abbrev S4x128 : Shape := ⟨2, ![4, 128]⟩
abbrev S256 : Shape := ⟨1, ![256]⟩
abbrev S8x512x16x256 : Shape := ⟨4, ![8, 512, 16, 256]⟩
abbrev S8x4096x12288 : Shape := ⟨3, ![8, 4096, 12288]⟩
abbrev S8x4096x4096 : Shape := ⟨3, ![8, 4096, 4096]⟩
abbrev S8x4096x16x2x128 : Shape := ⟨5, ![8, 4096, 16, 2, 128]⟩
abbrev S8x4096x16x256 : Shape := ⟨4, ![8, 4096, 16, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x1x64 : Shape := ⟨5, ![1, 4096, 1, 1, 64]⟩
abbrev S8x4096x16x2x64 : Shape := ⟨5, ![8, 4096, 16, 2, 64]⟩
abbrev S1x128 : Shape := ⟨2, ![1, 128]⟩
abbrev S128 : Shape := ⟨1, ![128]⟩
abbrev S8x512x16x2x128 : Shape := ⟨5, ![8, 512, 16, 2, 128]⟩
abbrev S8x4608x16x2x128 : Shape := ⟨5, ![8, 4608, 16, 2, 128]⟩
abbrev S8x4608x16x256 : Shape := ⟨4, ![8, 4608, 16, 256]⟩
abbrev S8x16x2x4096x4608 : Shape := ⟨5, ![8, 16, 2, 4096, 4608]⟩
abbrev S8x16x2x4096 : Shape := ⟨4, ![8, 16, 2, 4096]⟩
abbrev S8x16x2x4096x1 : Shape := ⟨5, ![8, 16, 2, 4096, 1]⟩
abbrev S8x16x1x4096x4608 : Shape := ⟨5, ![8, 16, 1, 4096, 4608]⟩
abbrev S8x16x4096x4608 : Shape := ⟨4, ![8, 16, 4096, 4608]⟩
abbrev S8x16x256x4096 : Shape := ⟨4, ![8, 16, 256, 4096]⟩
abbrev S8x4096x16 : Shape := ⟨3, ![8, 4096, 16]⟩
abbrev S8x4096x16x1 : Shape := ⟨4, ![8, 4096, 16, 1]⟩
abbrev S1x1x1x256 : Shape := ⟨4, ![1, 1, 1, 256]⟩
abbrev S32768x4096 : Shape := ⟨2, ![32768, 4096]⟩

abbrev nBuf : Space → Nat
  | .hbm => 145
  | .vmem => 0
  | .smem => 0
  | _ => 0

abbrev hbmTy0_0 (i : Nat) : BufTy := match i % 128 with
  | 0 => ⟨S32768x12288, .bf16⟩
  | 1 => ⟨S4x128, .f32⟩
  | 2 => ⟨S256, .f32⟩
  | 3 => ⟨S8x512x16x256, .f32⟩
  | 4 => ⟨S8x512x16x256, .f32⟩
  | 5 => ⟨S32768x12288, .f32⟩
  | 6 => ⟨S8x4096x12288, .f32⟩
  | 7 => ⟨S8x4096x4096, .f32⟩
  | 8 => ⟨S8x4096x4096, .f32⟩
  | 9 => ⟨S8x4096x4096, .f32⟩
  | 10 => ⟨S8x4096x16x2x128, .f32⟩
  | 11 => ⟨S8x4096x16x2x128, .f32⟩
  | 12 => ⟨S8x4096x16x256, .f32⟩
  | 13 => ⟨S64, .i32⟩
  | 14 => ⟨S64x64, .i32⟩
  | 15 => ⟨S4096, .i32⟩
  | 16 => ⟨S4096, .f32⟩
  | 17 => ⟨S64, .i32⟩
  | 18 => ⟨S1x64, .i32⟩
  | 19 => ⟨S64x64, .i32⟩
  | 20 => ⟨S4096, .i32⟩
  | 21 => ⟨S4096, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x1, .f32⟩
  | 36 => ⟨S1x32, .f32⟩
  | 37 => ⟨S4096x32, .f32⟩
  | 38 => ⟨S4096x32, .f32⟩
  | 39 => ⟨S4096x32, .f32⟩
  | 40 => ⟨S4096x64, .f32⟩
  | 41 => ⟨S4096x64, .f32⟩
  | 42 => ⟨S4096x64, .f32⟩
  | 43 => ⟨S1x4096x1x1x64, .f32⟩
  | 44 => ⟨S1x4096x1x1x64, .f32⟩
  | 45 => ⟨S8x4096x16x2x64, .f32⟩
  | 46 => ⟨S8x4096x16x2x64, .f32⟩
  | 47 => ⟨S8x4096x16x2x64, .f32⟩
  | 48 => ⟨S8x4096x16x2x64, .f32⟩
  | 49 => ⟨S8x4096x16x2x64, .f32⟩
  | 50 => ⟨S8x4096x16x2x64, .f32⟩
  | 51 => ⟨S8x4096x16x2x64, .f32⟩
  | 52 => ⟨S8x4096x16x2x64, .f32⟩
  | 53 => ⟨S8x4096x16x2x64, .f32⟩
  | 54 => ⟨S8x4096x16x2x64, .f32⟩
  | 55 => ⟨S8x4096x16x2x64, .f32⟩
  | 56 => ⟨S8x4096x16x2x64, .f32⟩
  | 57 => ⟨S8x4096x16x2x128, .f32⟩
  | 58 => ⟨S1x4096x1x1x64, .f32⟩
  | 59 => ⟨S1x4096x1x1x64, .f32⟩
  | 60 => ⟨S8x4096x16x2x64, .f32⟩
  | 61 => ⟨S8x4096x16x2x64, .f32⟩
  | 62 => ⟨S8x4096x16x2x64, .f32⟩
  | 63 => ⟨S8x4096x16x2x64, .f32⟩
  | 64 => ⟨S8x4096x16x2x64, .f32⟩
  | 65 => ⟨S8x4096x16x2x64, .f32⟩
  | 66 => ⟨S8x4096x16x2x64, .f32⟩
  | 67 => ⟨S8x4096x16x2x64, .f32⟩
  | 68 => ⟨S8x4096x16x2x64, .f32⟩
  | 69 => ⟨S8x4096x16x2x64, .f32⟩
  | 70 => ⟨S8x4096x16x2x64, .f32⟩
  | 71 => ⟨S8x4096x16x2x64, .f32⟩
  | 72 => ⟨S8x4096x16x2x128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S128, .f32⟩
  | 82 => ⟨S_, .f32⟩
  | 83 => ⟨S_, .f32⟩
  | 84 => ⟨S_, .f32⟩
  | 85 => ⟨S128, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S8x512x16x2x128, .f32⟩
  | 93 => ⟨S8x4608x16x2x128, .f32⟩
  | 94 => ⟨S8x4608x16x256, .f32⟩
  | 95 => ⟨S8x16x2x4096x4608, .f32⟩
  | 96 => ⟨S_, .f32⟩
  | 97 => ⟨S_, .f32⟩
  | 98 => ⟨S_, .f32⟩
  | 99 => ⟨S8x16x2x4096x4608, .f32⟩
  | 100 => ⟨S8x16x2x4096x4608, .f32⟩
  | 101 => ⟨S_, .f32⟩
  | 102 => ⟨S8x16x2x4096, .f32⟩
  | 103 => ⟨S_, .f32⟩
  | 104 => ⟨S8x16x2x4096, .f32⟩
  | 105 => ⟨S8x16x2x4096, .f32⟩
  | 106 => ⟨S8x16x2x4096x1, .f32⟩
  | 107 => ⟨S8x16x2x4096x4608, .f32⟩
  | 108 => ⟨S8x16x2x4096x4608, .f32⟩
  | 109 => ⟨S8x16x2x4096x4608, .f32⟩
  | 110 => ⟨S_, .f32⟩
  | 111 => ⟨S8x16x2x4096, .f32⟩
  | 112 => ⟨S8x16x2x4096x1, .f32⟩
  | 113 => ⟨S8x16x2x4096x4608, .f32⟩
  | 114 => ⟨S8x16x2x4096x4608, .f32⟩
  | 115 => ⟨S8x16x1x4096x4608, .f32⟩
  | 116 => ⟨S8x16x4096x4608, .f32⟩
  | 117 => ⟨S8x16x1x4096x4608, .f32⟩
  | 118 => ⟨S8x16x4096x4608, .f32⟩
  | 119 => ⟨S8x16x4096x4608, .f32⟩
  | 120 => ⟨S8x16x4096x4608, .f32⟩
  | 121 => ⟨S8x16x4096x4608, .f32⟩
  | 122 => ⟨S8x16x256x4096, .f32⟩
  | 123 => ⟨S8x4096x16x256, .f32⟩
  | 124 => ⟨S8x4096x16x256, .f32⟩
  | 125 => ⟨S_, .f32⟩
  | 126 => ⟨S8x4096x16, .f32⟩
  | 127 => ⟨S8x4096x16x1, .f32⟩
  | _ => ⟨S32768x12288, .bf16⟩

abbrev hbmTy0_1 (i : Nat) : BufTy := match i % 128 with
  | 0 => ⟨S_, .f32⟩
  | 1 => ⟨S8x4096x16x1, .f32⟩
  | 2 => ⟨S8x4096x16x1, .f32⟩
  | 3 => ⟨S_, .f32⟩
  | 4 => ⟨S8x4096x16x1, .f32⟩
  | 5 => ⟨S8x4096x16x1, .f32⟩
  | 6 => ⟨S8x4096x16x1, .f32⟩
  | 7 => ⟨S8x4096x16x256, .f32⟩
  | 8 => ⟨S8x4096x16x256, .f32⟩
  | 9 => ⟨S1x1x1x256, .f32⟩
  | 10 => ⟨S8x4096x16x256, .f32⟩
  | 11 => ⟨S8x4096x16x256, .f32⟩
  | 12 => ⟨S_, .f32⟩
  | 13 => ⟨S8x4096x16x256, .f32⟩
  | 14 => ⟨S8x4096x16x256, .f32⟩
  | 15 => ⟨S32768x4096, .f32⟩
  | 16 => ⟨S32768x4096, .bf16⟩
  | _ => ⟨S32768x12288, .bf16⟩

abbrev hbmTy (i : Nat) : BufTy := match i / 128 with
  | 0 => hbmTy0_0 i
  | 1 => hbmTy0_1 i
  | _ => ⟨S32768x12288, .bf16⟩

abbrev bufTy : (tb : Table) → Fin (tcTables nBuf tb) → BufTy
  | .hbm, ⟨i, _⟩ => hbmTy i
  | _, _ => ⟨S32768x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst_1 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_2 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_3 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_4 : Ref sig .tc := ⟨.hbm, 96, rfl⟩
abbrev main_cst_5 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_6 : Ref sig .tc := ⟨.hbm, 101, rfl⟩
abbrev main_v89 : Ref sig .tc := ⟨.hbm, 102, rfl⟩
abbrev main_cst_7 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_8 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_cst_9 : Ref sig .tc := ⟨.hbm, 125, rfl⟩
abbrev main_v110 : Ref sig .tc := ⟨.hbm, 126, rfl⟩
abbrev main_v111 : Ref sig .tc := ⟨.hbm, 127, rfl⟩
abbrev main_cst_10 : Ref sig .tc := ⟨.hbm, 128, rfl⟩
abbrev main_v112 : Ref sig .tc := ⟨.hbm, 129, rfl⟩
abbrev main_v113 : Ref sig .tc := ⟨.hbm, 130, rfl⟩
abbrev main_cst_11 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_cst_12 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩

abbrev nD : Nat := 1
abbrev τ : Topo := Topo.v7x

variable {F : FTy → Type} [FloatOps F]
-- ==== Kernel2.lean ====
abbrev S32768x4096 : Shape := ⟨2, ![32768, 4096]⟩
abbrev S4096x22016 : Shape := ⟨2, ![4096, 22016]⟩
abbrev S3x22016 : Shape := ⟨2, ![3, 22016]⟩
abbrev S22016 : Shape := ⟨1, ![22016]⟩
abbrev S4096x2x11008 : Shape := ⟨3, ![4096, 2, 11008]⟩
abbrev S4096x1x11008 : Shape := ⟨3, ![4096, 1, 11008]⟩
abbrev S4096x11008 : Shape := ⟨2, ![4096, 11008]⟩
abbrev S_ : Shape := ⟨0, ![]⟩
abbrev S4096x11264 : Shape := ⟨2, ![4096, 11264]⟩
abbrev S3x2x11008 : Shape := ⟨3, ![3, 2, 11008]⟩
abbrev S2x3x11008 : Shape := ⟨3, ![2, 3, 11008]⟩
abbrev S2x3x11264 : Shape := ⟨3, ![2, 3, 11264]⟩
abbrev S2x1x11008 : Shape := ⟨3, ![2, 1, 11008]⟩
abbrev S2x1x11264 : Shape := ⟨3, ![2, 1, 11264]⟩
abbrev S32768x11264 : Shape := ⟨2, ![32768, 11264]⟩
abbrev S1024x4096 : Shape := ⟨2, ![1024, 4096]⟩
abbrev S8x4096 : Shape := ⟨2, ![8, 4096]⟩
abbrev S4096x512 : Shape := ⟨2, ![4096, 512]⟩
abbrev S2x3x512 : Shape := ⟨3, ![2, 3, 512]⟩
abbrev S2x1x512 : Shape := ⟨3, ![2, 1, 512]⟩
abbrev S1024x512 : Shape := ⟨2, ![1024, 512]⟩
abbrev S1040x4096 : Shape := ⟨2, ![1040, 4096]⟩
abbrev S1024x1 : Shape := ⟨2, ![1024, 1]⟩
abbrev S1040x512 : Shape := ⟨2, ![1040, 512]⟩
abbrev S1x3x512 : Shape := ⟨3, ![1, 3, 512]⟩
abbrev S3x512 : Shape := ⟨2, ![3, 512]⟩
abbrev S1x512 : Shape := ⟨2, ![1, 512]⟩
abbrev S1x1x512 : Shape := ⟨3, ![1, 1, 512]⟩

abbrev nBuf : Space → Nat
  | .hbm => 27
  | .vmem => 17
  | .smem => 0
  | _ => 0

abbrev bufTy : (tb : Table) → Fin (tcTables nBuf tb) → BufTy
  | .hbm, ⟨0, _⟩ => ⟨S32768x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S4096x2x11008, .f32⟩
  | .hbm, ⟨5, _⟩ => ⟨S4096x1x11008, .f32⟩
  | .hbm, ⟨6, _⟩ => ⟨S4096x11008, .f32⟩
  | .hbm, ⟨7, _⟩ => ⟨S_, .i32⟩
  | .hbm, ⟨8, _⟩ => ⟨S_, .f32⟩
  | .hbm, ⟨9, _⟩ => ⟨S4096x11264, .f32⟩
  | .hbm, ⟨10, _⟩ => ⟨S4096x11264, .bf16⟩
  | .hbm, ⟨11, _⟩ => ⟨S4096x1x11008, .f32⟩
  | .hbm, ⟨12, _⟩ => ⟨S4096x11008, .f32⟩
  | .hbm, ⟨13, _⟩ => ⟨S_, .i32⟩
  | .hbm, ⟨14, _⟩ => ⟨S_, .f32⟩
  | .hbm, ⟨15, _⟩ => ⟨S4096x11264, .f32⟩
  | .hbm, ⟨16, _⟩ => ⟨S4096x11264, .bf16⟩
  | .hbm, ⟨17, _⟩ => ⟨S3x2x11008, .f32⟩
  | .hbm, ⟨18, _⟩ => ⟨S2x3x11008, .f32⟩
  | .hbm, ⟨19, _⟩ => ⟨S_, .i32⟩
  | .hbm, ⟨20, _⟩ => ⟨S_, .f32⟩
  | .hbm, ⟨21, _⟩ => ⟨S2x3x11264, .f32⟩
  | .hbm, ⟨22, _⟩ => ⟨S2x1x11008, .f32⟩
  | .hbm, ⟨23, _⟩ => ⟨S_, .i32⟩
  | .hbm, ⟨24, _⟩ => ⟨S_, .f32⟩
  | .hbm, ⟨25, _⟩ => ⟨S2x1x11264, .f32⟩
  | .hbm, ⟨26, _⟩ => ⟨S32768x11264, .bf16⟩
  | .local _ .vmem, ⟨0, _⟩ => ⟨S1024x4096, .bf16⟩
  | .local _ .vmem, ⟨1, _⟩ => ⟨S1024x4096, .bf16⟩
  | .local _ .vmem, ⟨2, _⟩ => ⟨S8x4096, .bf16⟩
  | .local _ .vmem, ⟨3, _⟩ => ⟨S8x4096, .bf16⟩
  | .local _ .vmem, ⟨4, _⟩ => ⟨S8x4096, .bf16⟩
  | .local _ .vmem, ⟨5, _⟩ => ⟨S8x4096, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S2x3x512, .f32⟩
  | .local _ .vmem, ⟨11, _⟩ => ⟨S2x3x512, .f32⟩
  | .local _ .vmem, ⟨12, _⟩ => ⟨S2x1x512, .f32⟩
  | .local _ .vmem, ⟨13, _⟩ => ⟨S2x1x512, .f32⟩
  | .local _ .vmem, ⟨14, _⟩ => ⟨S1024x512, .bf16⟩
  | .local _ .vmem, ⟨15, _⟩ => ⟨S1024x512, .bf16⟩
  | .local _ .vmem, ⟨16, _⟩ => ⟨S1040x4096, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S32768x4096 : Shape := ⟨2, ![32768, 4096]⟩
abbrev S4096x22016 : Shape := ⟨2, ![4096, 22016]⟩
abbrev S3x22016 : Shape := ⟨2, ![3, 22016]⟩
abbrev S22016 : Shape := ⟨1, ![22016]⟩
abbrev S8x4096x4096 : Shape := ⟨3, ![8, 4096, 4096]⟩
abbrev S8x4096x22016 : Shape := ⟨3, ![8, 4096, 22016]⟩
abbrev S_ : Shape := ⟨0, ![]⟩
abbrev S8x4098x22016 : Shape := ⟨3, ![8, 4098, 22016]⟩
abbrev S1x22016 : Shape := ⟨2, ![1, 22016]⟩
abbrev S1x1x22016 : Shape := ⟨3, ![1, 1, 22016]⟩
abbrev S8x4096x11008 : Shape := ⟨3, ![8, 4096, 11008]⟩
abbrev S32768x11008 : Shape := ⟨2, ![32768, 11008]⟩
abbrev S32768x11264 : Shape := ⟨2, ![32768, 11264]⟩

abbrev nBuf : Space → Nat
  | .hbm => 50
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S32768x4096, .f32⟩
  | .hbm, ⟨5, _⟩ => ⟨S8x4096x4096, .f32⟩
  | .hbm, ⟨6, _⟩ => ⟨S8x4096x22016, .f32⟩
  | .hbm, ⟨7, _⟩ => ⟨S_, .i32⟩
  | .hbm, ⟨8, _⟩ => ⟨S_, .f32⟩
  | .hbm, ⟨9, _⟩ => ⟨S8x4098x22016, .f32⟩
  | .hbm, ⟨10, _⟩ => ⟨S8x4096x22016, .f32⟩
  | .hbm, ⟨11, _⟩ => ⟨S1x22016, .f32⟩
  | .hbm, ⟨12, _⟩ => ⟨S22016, .f32⟩
  | .hbm, ⟨13, _⟩ => ⟨S1x1x22016, .f32⟩
  | .hbm, ⟨14, _⟩ => ⟨S8x4096x22016, .f32⟩
  | .hbm, ⟨15, _⟩ => ⟨S8x4096x22016, .f32⟩
  | .hbm, ⟨16, _⟩ => ⟨S8x4096x22016, .f32⟩
  | .hbm, ⟨17, _⟩ => ⟨S1x22016, .f32⟩
  | .hbm, ⟨18, _⟩ => ⟨S22016, .f32⟩
  | .hbm, ⟨19, _⟩ => ⟨S1x1x22016, .f32⟩
  | .hbm, ⟨20, _⟩ => ⟨S8x4096x22016, .f32⟩
  | .hbm, ⟨21, _⟩ => ⟨S8x4096x22016, .f32⟩
  | .hbm, ⟨22, _⟩ => ⟨S8x4096x22016, .f32⟩
  | .hbm, ⟨23, _⟩ => ⟨S8x4096x22016, .f32⟩
  | .hbm, ⟨24, _⟩ => ⟨S1x22016, .f32⟩
  | .hbm, ⟨25, _⟩ => ⟨S22016, .f32⟩
  | .hbm, ⟨26, _⟩ => ⟨S1x1x22016, .f32⟩
  | .hbm, ⟨27, _⟩ => ⟨S8x4096x22016, .f32⟩
  | .hbm, ⟨28, _⟩ => ⟨S8x4096x22016, .f32⟩
  | .hbm, ⟨29, _⟩ => ⟨S8x4096x22016, .f32⟩
  | .hbm, ⟨30, _⟩ => ⟨S1x1x22016, .f32⟩
  | .hbm, ⟨31, _⟩ => ⟨S8x4096x22016, .f32⟩
  | .hbm, ⟨32, _⟩ => ⟨S8x4096x22016, .f32⟩
  | .hbm, ⟨33, _⟩ => ⟨S8x4096x11008, .f32⟩
  | .hbm, ⟨34, _⟩ => ⟨S8x4096x11008, .f32⟩
  | .hbm, ⟨35, _⟩ => ⟨S8x4096x11008, .f32⟩
  | .hbm, ⟨36, _⟩ => ⟨S8x4096x11008, .f32⟩
  | .hbm, ⟨37, _⟩ => ⟨S_, .f32⟩
  | .hbm, ⟨38, _⟩ => ⟨S8x4096x11008, .f32⟩
  | .hbm, ⟨39, _⟩ => ⟨S8x4096x11008, .f32⟩
  | .hbm, ⟨40, _⟩ => ⟨S_, .f32⟩
  | .hbm, ⟨41, _⟩ => ⟨S8x4096x11008, .f32⟩
  | .hbm, ⟨42, _⟩ => ⟨S8x4096x11008, .f32⟩
  | .hbm, ⟨43, _⟩ => ⟨S8x4096x11008, .f32⟩
  | .hbm, ⟨44, _⟩ => ⟨S8x4096x11008, .f32⟩
  | .hbm, ⟨45, _⟩ => ⟨S32768x11008, .f32⟩
  | .hbm, ⟨46, _⟩ => ⟨S_, .i32⟩
  | .hbm, ⟨47, _⟩ => ⟨S_, .f32⟩
  | .hbm, ⟨48, _⟩ => ⟨S32768x11264, .f32⟩
  | .hbm, ⟨49, _⟩ => ⟨S32768x11264, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_0 : Ref sig .tc := ⟨.hbm, 46, rfl⟩
abbrev main_call2_v0 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel3.lean ====
abbrev S32768x11264 : Shape := ⟨2, ![32768, 11264]⟩
abbrev S11008x4096 : Shape := ⟨2, ![11008, 4096]⟩
abbrev S_ : Shape := ⟨0, ![]⟩
abbrev S11264x4096 : Shape := ⟨2, ![11264, 4096]⟩
abbrev S32768x4096 : Shape := ⟨2, ![32768, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32768x11264, .bf16⟩
  | .hbm, ⟨1, _⟩ => ⟨S11008x4096, .f32⟩
  | .hbm, ⟨2, _⟩ => ⟨S_, .i32⟩
  | .hbm, ⟨3, _⟩ => ⟨S_, .f32⟩
  | .hbm, ⟨4, _⟩ => ⟨S11264x4096, .f32⟩
  | .hbm, ⟨5, _⟩ => ⟨S11264x4096, .bf16⟩
  | .hbm, ⟨6, _⟩ => ⟨S32768x4096, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S32768x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S32768x11264 : Shape := ⟨2, ![32768, 11264]⟩
abbrev S11008x4096 : Shape := ⟨2, ![11008, 4096]⟩
abbrev S32768x11008 : Shape := ⟨2, ![32768, 11008]⟩
abbrev S32768x4096 : Shape := ⟨2, ![32768, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32768x11264, .bf16⟩
  | .hbm, ⟨1, _⟩ => ⟨S11008x4096, .f32⟩
  | .hbm, ⟨2, _⟩ => ⟨S32768x11008, .bf16⟩
  | .hbm, ⟨3, _⟩ => ⟨S32768x11008, .f32⟩
  | .hbm, ⟨4, _⟩ => ⟨S32768x4096, .f32⟩
  | .hbm, ⟨5, _⟩ => ⟨S32768x4096, .bf16⟩
  | _, _ => ⟨S32768x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x4096 : Shape := ⟨2, ![8192, 4096]⟩
abbrev S4096x12288 : Shape := ⟨2, ![4096, 12288]⟩
abbrev S8192x12288 : Shape := ⟨2, ![8192, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S4096x12288, .bf16⟩
  | .hbm, ⟨3, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S4096x12288 : Shape := ⟨2, ![4096, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S8192x4096, .f32⟩
  | .hbm, ⟨3, _⟩ => ⟨S8192x12288, .f32⟩
  | .hbm, ⟨4, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S32768x4096 : Shape := ⟨2, ![32768, 4096]⟩
abbrev S4096 : Shape := ⟨1, ![4096]⟩
abbrev S4x16x1x24576 : Shape := ⟨4, ![4, 16, 1, 24576]⟩
abbrev S1x4096 : Shape := ⟨2, ![1, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x4096, .f32⟩
  | .hbm, ⟨1, _⟩ => ⟨S32768x4096, .bf16⟩
  | .hbm, ⟨2, _⟩ => ⟨S4096, .f32⟩
  | .hbm, ⟨3, _⟩ => ⟨S4x16x1x24576, .f32⟩
  | .hbm, ⟨4, _⟩ => ⟨S1x4096, .f32⟩
  | .hbm, ⟨5, _⟩ => ⟨S32768x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S256x4096, .f32⟩
  | .local _ .vmem, ⟨8, _⟩ => ⟨S256x4096, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c3_i32 : BitVec 32 := 3#32
  let c0_i32_5 : BitVec 32 := 0#32
  let c5_i32 : BitVec 32 := 5#32
  let c0_i32_6 : BitVec 32 := 0#32
  ![c3_i32.toNat, v18.toNat, c0_i32_5.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x4096 : Shape := ⟨2, ![32768, 4096]⟩
abbrev S4096 : Shape := ⟨1, ![4096]⟩
abbrev S4x16x1x24576 : Shape := ⟨4, ![4, 16, 1, 24576]⟩
abbrev S1x8x1x24576 : Shape := ⟨4, ![1, 8, 1, 24576]⟩
abbrev S8x24576 : Shape := ⟨2, ![8, 24576]⟩
abbrev S8x4096 : Shape := ⟨2, ![8, 4096]⟩
abbrev S8x4096x4096 : Shape := ⟨3, ![8, 4096, 4096]⟩
abbrev S_ : Shape := ⟨0, ![]⟩
abbrev S8x4096x1 : Shape := ⟨3, ![8, 4096, 1]⟩
abbrev S1x1x4096 : Shape := ⟨3, ![1, 1, 4096]⟩
abbrev S8x1x4096 : Shape := ⟨3, ![8, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .bf16⟩
  | .hbm, ⟨2, _⟩ => ⟨S4096, .f32⟩
  | .hbm, ⟨3, _⟩ => ⟨S4x16x1x24576, .f32⟩
  | .hbm, ⟨4, _⟩ => ⟨S1x8x1x24576, .f32⟩
  | .hbm, ⟨5, _⟩ => ⟨S8x24576, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S32768x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S1x1x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x1x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel6.lean ====
abbrev S8192x4096 : Shape := ⟨2, ![8192, 4096]⟩
abbrev S4096 : Shape := ⟨1, ![4096]⟩
abbrev S4x16x1x24576 : Shape := ⟨4, ![4, 16, 1, 24576]⟩
abbrev S1x4096 : Shape := ⟨2, ![1, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4x16x1x24576, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c3_i32 : BitVec 32 := 3#32
  let c0_i32_5 : BitVec 32 := 0#32
  let c5_i32 : BitVec 32 := 5#32
  let c0_i32_6 : BitVec 32 := 0#32
  ![c3_i32.toNat, v18.toNat, c0_i32_5.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x4096 : Shape := ⟨2, ![8192, 4096]⟩
abbrev S4096 : Shape := ⟨1, ![4096]⟩
abbrev S4x16x1x24576 : Shape := ⟨4, ![4, 16, 1, 24576]⟩
abbrev S1x1x1x24576 : Shape := ⟨4, ![1, 1, 1, 24576]⟩
abbrev S1x24576 : Shape := ⟨2, ![1, 24576]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4x16x1x24576, .f32⟩
  | .hbm, ⟨4, _⟩ => ⟨S1x1x1x24576, .f32⟩
  | .hbm, ⟨5, _⟩ => ⟨S1x24576, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel7.lean ====
abbrev S8192x4096 : Shape := ⟨2, ![8192, 4096]⟩
abbrev S4096x14368 : Shape := ⟨2, ![4096, 14368]⟩
abbrev S4096x14336 : Shape := ⟨2, ![4096, 14336]⟩
abbrev S8192x14336 : Shape := ⟨2, ![8192, 14336]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x14368, .f32⟩
  | .hbm, ⟨2, _⟩ => ⟨S4096x14336, .f32⟩
  | .hbm, ⟨3, _⟩ => ⟨S4096x14336, .bf16⟩
  | .hbm, ⟨4, _⟩ => ⟨S8192x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x4096 : Shape := ⟨2, ![8192, 4096]⟩
abbrev S4096x14368 : Shape := ⟨2, ![4096, 14368]⟩
abbrev S8192x14368 : Shape := ⟨2, ![8192, 14368]⟩
abbrev S8192x14336 : Shape := ⟨2, ![8192, 14336]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14368, .f32⟩
  | .hbm, ⟨2, _⟩ => ⟨S8192x4096, .f32⟩
  | .hbm, ⟨3, _⟩ => ⟨S8192x14368, .f32⟩
  | .hbm, ⟨4, _⟩ => ⟨S8192x14336, .f32⟩
  | .hbm, ⟨5, _⟩ => ⟨S8192x14336, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x4096 : Shape := ⟨2, ![8192, 4096]⟩
abbrev S4096x14368 : Shape := ⟨2, ![4096, 14368]⟩
abbrev S4096x32 : Shape := ⟨2, ![4096, 32]⟩
abbrev S_ : Shape := ⟨0, ![]⟩
abbrev S4096x128 : Shape := ⟨2, ![4096, 128]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x14368, .f32⟩
  | .hbm, ⟨2, _⟩ => ⟨S4096x32, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S8192x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .bf16⟩
  | .local _ .vmem, ⟨4, _⟩ => ⟨S1024x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S4096x14368 : Shape := ⟨2, ![4096, 14368]⟩
abbrev S8192x14368 : Shape := ⟨2, ![8192, 14368]⟩
abbrev S8192x32 : Shape := ⟨2, ![8192, 32]⟩
abbrev S_ : Shape := ⟨0, ![]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14368, .f32⟩
  | .hbm, ⟨2, _⟩ => ⟨S8192x4096, .f32⟩
  | .hbm, ⟨3, _⟩ => ⟨S8192x14368, .f32⟩
  | .hbm, ⟨4, _⟩ => ⟨S8192x32, .f32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S8192x128, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S4096x4096 : Shape := ⟨2, ![4096, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S4096x4096, .bf16⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .bf16⟩
  | .hbm, ⟨4, _⟩ => ⟨S8192x4096, .f32⟩
  | .hbm, ⟨5, _⟩ => ⟨S8192x4096, .f32⟩
  | .hbm, ⟨6, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S4096x4096, .bf16⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x14336 : Shape := ⟨2, ![8192, 14336]⟩
abbrev S2048 : Shape := ⟨1, ![2048]⟩
abbrev S2x8 : Shape := ⟨2, ![2, 8]⟩
abbrev S8x2 : Shape := ⟨2, ![8, 2]⟩
abbrev S8x2x1x1 : Shape := ⟨4, ![8, 2, 1, 1]⟩
abbrev S8x2x8x128 : Shape := ⟨4, ![8, 2, 8, 128]⟩
abbrev S1x2048 : Shape := ⟨2, ![1, 2048]⟩
abbrev S8192x2048 : Shape := ⟨2, ![8192, 2048]⟩
abbrev S32x2x8x256x256 : Shape := ⟨5, ![32, 2, 8, 256, 256]⟩
abbrev S256x256 : Shape := ⟨2, ![256, 256]⟩
abbrev S1x256 : Shape := ⟨2, ![1, 256]⟩
abbrev S1x2x8x128 : Shape := ⟨4, ![1, 2, 8, 128]⟩
abbrev S1x2x1x256x256 : Shape := ⟨5, ![1, 2, 1, 256, 256]⟩
abbrev S2x256x256 : Shape := ⟨3, ![2, 256, 256]⟩
abbrev S64x64 : Shape := ⟨2, ![64, 64]⟩
abbrev S64x1 : Shape := ⟨2, ![64, 1]⟩
abbrev S1x256x256 : Shape := ⟨3, ![1, 256, 256]⟩
abbrev S1x1x8x128 : Shape := ⟨4, ![1, 1, 8, 128]⟩
abbrev S8x128 : Shape := ⟨2, ![8, 128]⟩
abbrev S1x1 : Shape := ⟨2, ![1, 1]⟩
abbrev S64x256 : Shape := ⟨2, ![64, 256]⟩
abbrev S256x64 : Shape := ⟨2, ![256, 64]⟩
abbrev S64 : Shape := ⟨1, ![64]⟩
abbrev S1x1x1x256x256 : Shape := ⟨5, ![1, 1, 1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S8192x14336, .bf16⟩
  | .hbm, ⟨1, _⟩ => ⟨S2048, .f32⟩
  | .hbm, ⟨2, _⟩ => ⟨S2x8, .f32⟩
  | .hbm, ⟨3, _⟩ => ⟨S8x2, .f32⟩
  | .hbm, ⟨4, _⟩ => ⟨S8x2x1x1, .f32⟩
  | .hbm, ⟨5, _⟩ => ⟨S8x2x8x128, .f32⟩
  | .hbm, ⟨6, _⟩ => ⟨S1x2048, .f32⟩
  | .hbm, ⟨7, _⟩ => ⟨S8192x2048, .bf16⟩
  | .hbm, ⟨8, _⟩ => ⟨S32x2x8x256x256, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S1x2x8x128, .f32⟩
  | .local _ .vmem, ⟨11, _⟩ => ⟨S1x2x8x128, .f32⟩
  | .local _ .vmem, ⟨12, _⟩ => ⟨S256x256, .bf16⟩
  | .local _ .vmem, ⟨13, _⟩ => ⟨S256x256, .bf16⟩
  | .local _ .vmem, ⟨14, _⟩ => ⟨S1x2x1x256x256, .f32⟩
  | .local _ .vmem, ⟨15, _⟩ => ⟨S1x2x1x256x256, .f32⟩
  | .local _ .vmem, ⟨16, _⟩ => ⟨S2x256x256, .f32⟩
  | .local _ .vmem, ⟨17, _⟩ => ⟨S256x256, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

def k0_mult1 : BitVec 32 :=
  let c0_i32 : BitVec 32 := 0#32
  let c64_i32 : BitVec 32 := 64#32
  let v64 : BitVec 32 := Scalar.muli c0_i32 c64_i32
  v64
def k0_off1 (c0_i32 : BitVec 32) : Fin 2 → Nat :=
  let c64_i32 : BitVec 32 := 64#32
  let v64 : BitVec 32 := Scalar.muli c0_i32 c64_i32
  let v65 : BitVec 32 := v64
  let v66 : Index := Scalar.indexCast v65
  let c0_22 : Index := 0#32
  ![v66.toNat, 0]
def k0_mult2 : BitVec 32 :=
  let c3_i32 : BitVec 32 := 3#32
  let c0_i32 : BitVec 32 := 0#32
  let v105 : BitVec 32 := Scalar.subi c3_i32 c0_i32
  let c64_i32_37 : BitVec 32 := 64#32
  let v106 : BitVec 32 := Scalar.muli v105 c64_i32_37
  v106
def k0_off2 (c0_i32 : BitVec 32) : Fin 2 → Nat :=
  let c3_i32 : BitVec 32 := 3#32
  let v105 : BitVec 32 := Scalar.subi c3_i32 c0_i32
  let c64_i32_37 : BitVec 32 := 64#32
  let v106 : BitVec 32 := Scalar.muli v105 c64_i32_37
  let v107 : BitVec 32 := v106
  let v108 : Index := Scalar.indexCast v107
  let c0_38 : Index := 0#32
  ![v108.toNat, 0]
def k0_mult3 : BitVec 32 :=
  let c1_i32 : BitVec 32 := 1#32
  let c64_i32_53 : BitVec 32 := 64#32
  let v147 : BitVec 32 := Scalar.muli c1_i32 c64_i32_53
  v147
def k0_mult4 : BitVec 32 :=
  let c3_i32_69 : BitVec 32 := 3#32
  let c1_i32 : BitVec 32 := 1#32
  let v188 : BitVec 32 := Scalar.subi c3_i32_69 c1_i32
  let c64_i32_70 : BitVec 32 := 64#32
  let v189 : BitVec 32 := Scalar.muli v188 c64_i32_70
  v189
def k0_mult5 : BitVec 32 :=
  let c2_i32_86 : BitVec 32 := 2#32
  let c64_i32_87 : BitVec 32 := 64#32
  let v230 : BitVec 32 := Scalar.muli c2_i32_86 c64_i32_87
  v230
def k0_mult6 : BitVec 32 :=
  let c3_i32_113 : BitVec 32 := 3#32
  let c2_i32_86 : BitVec 32 := 2#32
  let v299 : BitVec 32 := Scalar.subi c3_i32_113 c2_i32_86
  let c64_i32_114 : BitVec 32 := 64#32
  let v300 : BitVec 32 := Scalar.muli v299 c64_i32_114
  v300
def k0_mult7 : BitVec 32 :=
  let c3_i32_140 : BitVec 32 := 3#32
  let c64_i32_141 : BitVec 32 := 64#32
  let v369 : BitVec 32 := Scalar.muli c3_i32_140 c64_i32_141
  v369
def k0_mult8 : BitVec 32 :=
  let c3_i32_167 : BitVec 32 := 3#32
  let c3_i32_140 : BitVec 32 := 3#32
  let v438 : BitVec 32 := Scalar.subi c3_i32_167 c3_i32_140
  let c64_i32_168 : BitVec 32 := 64#32
  let v439 : BitVec 32 := Scalar.muli v438 c64_i32_168
  v439
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S8192x14336 : Shape := ⟨2, ![8192, 14336]⟩
abbrev S2048 : Shape := ⟨1, ![2048]⟩
abbrev S2x8 : Shape := ⟨2, ![2, 8]⟩
abbrev S32x256x14336 : Shape := ⟨3, ![32, 256, 14336]⟩
abbrev S32x256x2048 : Shape := ⟨3, ![32, 256, 2048]⟩
abbrev S32x256x8x256 : Shape := ⟨4, ![32, 256, 8, 256]⟩
abbrev S_ : Shape := ⟨0, ![]⟩
abbrev S32x1x256x8x256 : Shape := ⟨5, ![32, 1, 256, 8, 256]⟩
abbrev S32x2x256x8x256 : Shape := ⟨5, ![32, 2, 256, 8, 256]⟩
abbrev S32x2x4x64x8x256 : Shape := ⟨6, ![32, 2, 4, 64, 8, 256]⟩
abbrev S1x2x1x1x8x1 : Shape := ⟨6, ![1, 2, 1, 1, 8, 1]⟩
abbrev S1x2x4x64x8x1 : Shape := ⟨6, ![1, 2, 4, 64, 8, 1]⟩
abbrev S1x2x4x1x8x1 : Shape := ⟨6, ![1, 2, 4, 1, 8, 1]⟩
abbrev S32x2x4x8x256x256 : Shape := ⟨6, ![32, 2, 4, 8, 256, 256]⟩
abbrev S32x2x8x256x256 : Shape := ⟨5, ![32, 2, 8, 256, 256]⟩
abbrev S1x2x8x1 : Shape := ⟨4, ![1, 2, 8, 1]⟩
abbrev S1x2x8x1x1 : Shape := ⟨5, ![1, 2, 8, 1, 1]⟩
abbrev S32x2x1x8x256x256 : Shape := ⟨6, ![32, 2, 1, 8, 256, 256]⟩

abbrev nBuf : Space → Nat
  | .hbm => 74
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S2048, .f32⟩
  | .hbm, ⟨2, _⟩ => ⟨S2x8, .f32⟩
  | .hbm, ⟨3, _⟩ => ⟨S8192x14336, .f32⟩
  | .hbm, ⟨4, _⟩ => ⟨S32x256x14336, .f32⟩
  | .hbm, ⟨5, _⟩ => ⟨S32x256x2048, .f32⟩
  | .hbm, ⟨6, _⟩ => ⟨S32x256x8x256, .f32⟩
  | .hbm, ⟨7, _⟩ => ⟨S_, .f32⟩
  | .hbm, ⟨8, _⟩ => ⟨S32x256x8x256, .f32⟩
  | .hbm, ⟨9, _⟩ => ⟨S32x256x8x256, .f32⟩
  | .hbm, ⟨10, _⟩ => ⟨S32x256x2048, .f32⟩
  | .hbm, ⟨11, _⟩ => ⟨S32x256x8x256, .f32⟩
  | .hbm, ⟨12, _⟩ => ⟨S2x8, .f32⟩
  | .hbm, ⟨13, _⟩ => ⟨S2x8, .f32⟩
  | .hbm, ⟨14, _⟩ => ⟨S32x256x8x256, .f32⟩
  | .hbm, ⟨15, _⟩ => ⟨S32x1x256x8x256, .f32⟩
  | .hbm, ⟨16, _⟩ => ⟨S32x1x256x8x256, .f32⟩
  | .hbm, ⟨17, _⟩ => ⟨S32x2x256x8x256, .f32⟩
  | .hbm, ⟨18, _⟩ => ⟨S32x2x4x64x8x256, .f32⟩
  | .hbm, ⟨19, _⟩ => ⟨S32x256x8x256, .f32⟩
  | .hbm, ⟨20, _⟩ => ⟨S32x1x256x8x256, .f32⟩
  | .hbm, ⟨21, _⟩ => ⟨S32x1x256x8x256, .f32⟩
  | .hbm, ⟨22, _⟩ => ⟨S32x2x256x8x256, .f32⟩
  | .hbm, ⟨23, _⟩ => ⟨S32x2x4x64x8x256, .f32⟩
  | .hbm, ⟨24, _⟩ => ⟨S1x2x1x1x8x1, .f32⟩
  | .hbm, ⟨25, _⟩ => ⟨S1x2x4x64x8x1, .f32⟩
  | .hbm, ⟨26, _⟩ => ⟨S_, .f32⟩
  | .hbm, ⟨27, _⟩ => ⟨S_, .f32⟩
  | .hbm, ⟨28, _⟩ => ⟨S1x2x4x64x8x1, .f32⟩
  | .hbm, ⟨29, _⟩ => ⟨S1x2x4x1x8x1, .f32⟩
  | .hbm, ⟨30, _⟩ => ⟨S1x2x4x64x8x1, .f32⟩
  | .hbm, ⟨31, _⟩ => ⟨S1x2x4x64x8x1, .f32⟩
  | .hbm, ⟨32, _⟩ => ⟨S1x2x4x64x8x1, .f32⟩
  | .hbm, ⟨33, _⟩ => ⟨S32x2x4x64x8x256, .f32⟩
  | .hbm, ⟨34, _⟩ => ⟨S32x2x4x64x8x256, .f32⟩
  | .hbm, ⟨35, _⟩ => ⟨S32x2x4x8x256x256, .f32⟩
  | .hbm, ⟨36, _⟩ => ⟨S_, .f32⟩
  | .hbm, ⟨37, _⟩ => ⟨S32x2x8x256x256, .f32⟩
  | .hbm, ⟨38, _⟩ => ⟨S1x2x1x1x8x1, .f32⟩
  | .hbm, ⟨39, _⟩ => ⟨S1x2x8x1, .f32⟩
  | .hbm, ⟨40, _⟩ => ⟨S1x2x8x1, .f32⟩
  | .hbm, ⟨41, _⟩ => ⟨S1x2x8x1x1, .f32⟩
  | .hbm, ⟨42, _⟩ => ⟨S32x2x8x256x256, .f32⟩
  | .hbm, ⟨43, _⟩ => ⟨S32x2x8x256x256, .f32⟩
  | .hbm, ⟨44, _⟩ => ⟨S32x2x1x8x256x256, .f32⟩
  | .hbm, ⟨45, _⟩ => ⟨S32x2x8x256x256, .f32⟩
  | .hbm, ⟨46, _⟩ => ⟨S32x2x8x256x256, .f32⟩
  | .hbm, ⟨47, _⟩ => ⟨S1x2x1x1x8x1, .f32⟩
  | .hbm, ⟨48, _⟩ => ⟨S1x2x8x1, .f32⟩
  | .hbm, ⟨49, _⟩ => ⟨S1x2x8x1, .f32⟩
  | .hbm, ⟨50, _⟩ => ⟨S1x2x8x1x1, .f32⟩
  | .hbm, ⟨51, _⟩ => ⟨S32x2x8x256x256, .f32⟩
  | .hbm, ⟨52, _⟩ => ⟨S32x2x8x256x256, .f32⟩
  | .hbm, ⟨53, _⟩ => ⟨S32x2x1x8x256x256, .f32⟩
  | .hbm, ⟨54, _⟩ => ⟨S32x2x8x256x256, .f32⟩
  | .hbm, ⟨55, _⟩ => ⟨S32x2x8x256x256, .f32⟩
  | .hbm, ⟨56, _⟩ => ⟨S1x2x1x1x8x1, .f32⟩
  | .hbm, ⟨57, _⟩ => ⟨S1x2x8x1, .f32⟩
  | .hbm, ⟨58, _⟩ => ⟨S1x2x8x1, .f32⟩
  | .hbm, ⟨59, _⟩ => ⟨S1x2x8x1x1, .f32⟩
  | .hbm, ⟨60, _⟩ => ⟨S32x2x8x256x256, .f32⟩
  | .hbm, ⟨61, _⟩ => ⟨S32x2x8x256x256, .f32⟩
  | .hbm, ⟨62, _⟩ => ⟨S32x2x1x8x256x256, .f32⟩
  | .hbm, ⟨63, _⟩ => ⟨S32x2x8x256x256, .f32⟩
  | .hbm, ⟨64, _⟩ => ⟨S32x2x8x256x256, .f32⟩
  | .hbm, ⟨65, _⟩ => ⟨S1x2x1x1x8x1, .f32⟩
  | .hbm, ⟨66, _⟩ => ⟨S1x2x8x1, .f32⟩
  | .hbm, ⟨67, _⟩ => ⟨S1x2x8x1, .f32⟩
  | .hbm, ⟨68, _⟩ => ⟨S1x2x8x1x1, .f32⟩
  | .hbm, ⟨69, _⟩ => ⟨S32x2x8x256x256, .f32⟩
  | .hbm, ⟨70, _⟩ => ⟨S32x2x8x256x256, .f32⟩
  | .hbm, ⟨71, _⟩ => ⟨S32x2x1x8x256x256, .f32⟩
  | .hbm, ⟨72, _⟩ => ⟨S32x2x8x256x256, .f32⟩
  | .hbm, ⟨73, _⟩ => ⟨S32x2x8x256x256, .f32⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call2_call0_cst : Ref sig .tc := ⟨.hbm, 26, rfl⟩
abbrev main_call2_call0_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩

abbrev nD : Nat := 1
abbrev τ : Topo := Topo.v7x

variable {F : FTy → Type} [FloatOps F]
-- ==== Kernel12.lean ====
abbrev S8192x14336 : Shape := ⟨2, ![8192, 14336]⟩
abbrev S8192x128 : Shape := ⟨2, ![8192, 128]⟩
abbrev S2048 : Shape := ⟨1, ![2048]⟩
abbrev S2x16x1024 : Shape := ⟨3, ![2, 16, 1024]⟩
abbrev S2x1024 : Shape := ⟨2, ![2, 1024]⟩
abbrev S2x16x4x256 : Shape := ⟨4, ![2, 16, 4, 256]⟩
abbrev S4x2x16x256 : Shape := ⟨4, ![4, 2, 16, 256]⟩
abbrev S_ : Shape := ⟨0, ![]⟩
abbrev S4x2x128x256 : Shape := ⟨4, ![4, 2, 128, 256]⟩
abbrev S4x1x16x256 : Shape := ⟨4, ![4, 1, 16, 256]⟩
abbrev S4x16x256 : Shape := ⟨3, ![4, 16, 256]⟩
abbrev S1 : Shape := ⟨1, ![1]⟩
abbrev S2 : Shape := ⟨1, ![2]⟩
abbrev S2x4x1x256 : Shape := ⟨4, ![2, 4, 1, 256]⟩
abbrev S4x2x1x256 : Shape := ⟨4, ![4, 2, 1, 256]⟩
abbrev S1x2048 : Shape := ⟨2, ![1, 2048]⟩
abbrev S8192x2048 : Shape := ⟨2, ![8192, 2048]⟩
abbrev S32x2x4x256x512 : Shape := ⟨5, ![32, 2, 4, 256, 512]⟩
abbrev S256x256 : Shape := ⟨2, ![256, 256]⟩
abbrev S256x512 : Shape := ⟨2, ![256, 512]⟩
abbrev S1x512 : Shape := ⟨2, ![1, 512]⟩
abbrev S256x128 : Shape := ⟨2, ![256, 128]⟩
abbrev S1x2x128x256 : Shape := ⟨4, ![1, 2, 128, 256]⟩
abbrev S1x2x1x256 : Shape := ⟨4, ![1, 2, 1, 256]⟩
abbrev S1x2x1x256x512 : Shape := ⟨5, ![1, 2, 1, 256, 512]⟩
abbrev S2x256x512 : Shape := ⟨3, ![2, 256, 512]⟩
abbrev S2x256x256 : Shape := ⟨3, ![2, 256, 256]⟩
abbrev S64x64 : Shape := ⟨2, ![64, 64]⟩
abbrev S64x1 : Shape := ⟨2, ![64, 1]⟩
abbrev S1x256x512 : Shape := ⟨3, ![1, 256, 512]⟩
abbrev S64x128 : Shape := ⟨2, ![64, 128]⟩
abbrev S1x1x128x256 : Shape := ⟨4, ![1, 1, 128, 256]⟩
abbrev S128x256 : Shape := ⟨2, ![128, 256]⟩
abbrev S64x256 : Shape := ⟨2, ![64, 256]⟩
abbrev S1x1x1x256 : Shape := ⟨4, ![1, 1, 1, 256]⟩
abbrev S1x256 : Shape := ⟨2, ![1, 256]⟩
abbrev S1x64x256 : Shape := ⟨3, ![1, 64, 256]⟩
abbrev S64x512 : Shape := ⟨2, ![64, 512]⟩
abbrev S256x1 : Shape := ⟨2, ![256, 1]⟩
abbrev S256x64 : Shape := ⟨2, ![256, 64]⟩
abbrev S64 : Shape := ⟨1, ![64]⟩
abbrev S1x1x1x256x512 : Shape := ⟨5, ![1, 1, 1, 256, 512]⟩

abbrev nBuf : Space → Nat
  | .hbm => 31
  | .vmem => 23
  | .smem => 0
  | _ => 0

abbrev bufTy : (tb : Table) → Fin (tcTables nBuf tb) → BufTy
  | .hbm, ⟨0, _⟩ => ⟨S8192x14336, .bf16⟩
  | .hbm, ⟨1, _⟩ => ⟨S8192x128, .bf16⟩
  | .hbm, ⟨2, _⟩ => ⟨S2048, .f32⟩
  | .hbm, ⟨3, _⟩ => ⟨S2x16x1024, .f32⟩
  | .hbm, ⟨4, _⟩ => ⟨S2x1024, .f32⟩
  | .hbm, ⟨5, _⟩ => ⟨S2x16x4x256, .f32⟩
  | .hbm, ⟨6, _⟩ => ⟨S4x2x16x256, .f32⟩
  | .hbm, ⟨7, _⟩ => ⟨S_, .f32⟩
  | .hbm, ⟨8, _⟩ => ⟨S4x2x128x256, .f32⟩
  | .hbm, ⟨9, _⟩ => ⟨S4x1x16x256, .f32⟩
  | .hbm, ⟨10, _⟩ => ⟨S4x16x256, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S4x2x128x256, .f32⟩
  | .hbm, ⟨17, _⟩ => ⟨S4x1x16x256, .f32⟩
  | .hbm, ⟨18, _⟩ => ⟨S4x16x256, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S4x2x128x256, .f32⟩
  | .hbm, ⟨25, _⟩ => ⟨S4x2x128x256, .bf16⟩
  | .hbm, ⟨26, _⟩ => ⟨S2x4x1x256, .f32⟩
  | .hbm, ⟨27, _⟩ => ⟨S4x2x1x256, .f32⟩
  | .hbm, ⟨28, _⟩ => ⟨S1x2048, .f32⟩
  | .hbm, ⟨29, _⟩ => ⟨S8192x2048, .bf16⟩
  | .hbm, ⟨30, _⟩ => ⟨S32x2x4x256x512, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x512, .f32⟩
  | .local _ .vmem, ⟨9, _⟩ => ⟨S1x512, .f32⟩
  | .local _ .vmem, ⟨10, _⟩ => ⟨S256x128, .bf16⟩
  | .local _ .vmem, ⟨11, _⟩ => ⟨S256x128, .bf16⟩
  | .local _ .vmem, ⟨12, _⟩ => ⟨S1x2x128x256, .bf16⟩
  | .local _ .vmem, ⟨13, _⟩ => ⟨S1x2x128x256, .bf16⟩
  | .local _ .vmem, ⟨14, _⟩ => ⟨S1x2x1x256, .f32⟩
  | .local _ .vmem, ⟨15, _⟩ => ⟨S1x2x1x256, .f32⟩
  | .local _ .vmem, ⟨16, _⟩ => ⟨S256x512, .bf16⟩
  | .local _ .vmem, ⟨17, _⟩ => ⟨S256x512, .bf16⟩
  | .local _ .vmem, ⟨18, _⟩ => ⟨S1x2x1x256x512, .f32⟩
  | .local _ .vmem, ⟨19, _⟩ => ⟨S1x2x1x256x512, .f32⟩
  | .local _ .vmem, ⟨20, _⟩ => ⟨S2x256x512, .f32⟩
  | .local _ .vmem, ⟨21, _⟩ => ⟨S256x512, .f32⟩
  | .local _ .vmem, ⟨22, _⟩ => ⟨S2x256x256, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def k0_mult1 : BitVec 32 :=
  let c0_i32 : BitVec 32 := 0#32
  let c64_i32 : BitVec 32 := 64#32
  let v13 : BitVec 32 := Scalar.muli c0_i32 c64_i32
  v13
def k0_off1 (c0_i32 : BitVec 32) : Fin 2 → Nat :=
  let c64_i32 : BitVec 32 := 64#32
  let v13 : BitVec 32 := Scalar.muli c0_i32 c64_i32
  let v14 : BitVec 32 := v13
  let v15 : Index := Scalar.indexCast v14
  let c0_5 : Index := 0#32
  ![v15.toNat, 0]
def k0_off2 (c0_i32 : BitVec 32) : Fin 3 → Nat :=
  let c0_31 : Index := 0#32
  let c64_i32 : BitVec 32 := 64#32
  let v13 : BitVec 32 := Scalar.muli c0_i32 c64_i32
  let v14 : BitVec 32 := v13
  let v84 : Index := Scalar.indexCast v14
  let c0_32 : Index := 0#32
  ![0, v84.toNat, 0]
def k0_off3 (c0_i32 : BitVec 32) : Fin 3 → Nat :=
  let c1_60 : Index := 1#32
  let c64_i32 : BitVec 32 := 64#32
  let v13 : BitVec 32 := Scalar.muli c0_i32 c64_i32
  let v14 : BitVec 32 := v13
  let v157 : Index := Scalar.indexCast v14
  let c0_61 : Index := 0#32
  ![1, v157.toNat, 0]
def k0_mult2 : BitVec 32 :=
  let c1_i32_62 : BitVec 32 := 1#32
  let c64_i32_63 : BitVec 32 := 64#32
  let v161 : BitVec 32 := Scalar.muli c1_i32_62 c64_i32_63
  v161
def k0_mult3 : BitVec 32 :=
  let c2_i32_132 : BitVec 32 := 2#32
  let c64_i32_133 : BitVec 32 := 64#32
  let v309 : BitVec 32 := Scalar.muli c2_i32_132 c64_i32_133
  v309
def k0_mult4 : BitVec 32 :=
  let c3_i32 : BitVec 32 := 3#32
  let c64_i32_202 : BitVec 32 := 64#32
  let v457 : BitVec 32 := Scalar.muli c3_i32 c64_i32_202
  v457
def k0_mult5 : BitVec 32 :=
  let c0_i32_272 : BitVec 32 := 0#32
  let c64_i32_273 : BitVec 32 := 64#32
  let v605 : BitVec 32 := Scalar.muli c0_i32_272 c64_i32_273
  v605
def k0_off4 (c0_i32_272 : BitVec 32) : Fin 2 → Nat :=
  let c64_i32_273 : BitVec 32 := 64#32
  let v605 : BitVec 32 := Scalar.muli c0_i32_272 c64_i32_273
  let v606 : BitVec 32 := v605
  let v607 : Index := Scalar.indexCast v606
  let c0_274 : Index := 0#32
  ![v607.toNat, 0]
def k0_off5 (c0_i32_272 : BitVec 32) : Fin 2 → Nat :=
  let c64_i32_273 : BitVec 32 := 64#32
  let v605 : BitVec 32 := Scalar.muli c0_i32_272 c64_i32_273
  let v606 : BitVec 32 := v605
  let v615 : Index := Scalar.indexCast v606
  let c0_277 : Index := 0#32
  ![v615.toNat, 0]
def k0_mult6 : BitVec 32 :=
  let c3_i32_293 : BitVec 32 := 3#32
  let c0_i32_272 : BitVec 32 := 0#32
  let v661 : BitVec 32 := Scalar.subi c3_i32_293 c0_i32_272
  let c64_i32_294 : BitVec 32 := 64#32
  let v662 : BitVec 32 := Scalar.muli v661 c64_i32_294
  v662
def k0_off6 (c0_i32_272 : BitVec 32) : Fin 2 → Nat :=
  let c3_i32_293 : BitVec 32 := 3#32
  let v661 : BitVec 32 := Scalar.subi c3_i32_293 c0_i32_272
  let c64_i32_294 : BitVec 32 := 64#32
  let v662 : BitVec 32 := Scalar.muli v661 c64_i32_294
  let v663 : BitVec 32 := v662
  let v664 : Index := Scalar.indexCast v663
  let c0_295 : Index := 0#32
  ![v664.toNat, 0]
def k0_off7 (c0_i32_272 : BitVec 32) : Fin 2 → Nat :=
  let c3_i32_293 : BitVec 32 := 3#32
  let v661 : BitVec 32 := Scalar.subi c3_i32_293 c0_i32_272
  let c64_i32_294 : BitVec 32 := 64#32
  let v662 : BitVec 32 := Scalar.muli v661 c64_i32_294
  let v663 : BitVec 32 := v662
  let v672 : Index := Scalar.indexCast v663
  let c0_298 : Index := 0#32
  ![v672.toNat, 0]
def k0_off8 (c0_i32_272 : BitVec 32) : Fin 3 → Nat :=
  let c1_302 : Index := 1#32
  let c3_i32_293 : BitVec 32 := 3#32
  let v661 : BitVec 32 := Scalar.subi c3_i32_293 c0_i32_272
  let c64_i32_294 : BitVec 32 := 64#32
  let v662 : BitVec 32 := Scalar.muli v661 c64_i32_294
  let v663 : BitVec 32 := v662
  let v676 : Index := Scalar.indexCast v663
  let c0_303 : Index := 0#32
  ![1, v676.toNat, 0]
def k0_mult7 : BitVec 32 :=
  let c1_i32_314 : BitVec 32 := 1#32
  let c64_i32_315 : BitVec 32 := 64#32
  let v718 : BitVec 32 := Scalar.muli c1_i32_314 c64_i32_315
  v718
def k0_mult8 : BitVec 32 :=
  let c3_i32_335 : BitVec 32 := 3#32
  let c1_i32_314 : BitVec 32 := 1#32
  let v774 : BitVec 32 := Scalar.subi c3_i32_335 c1_i32_314
  let c64_i32_336 : BitVec 32 := 64#32
  let v775 : BitVec 32 := Scalar.muli v774 c64_i32_336
  v775
def k0_mult9 : BitVec 32 :=
  let c2_i32_357 : BitVec 32 := 2#32
  let c64_i32_358 : BitVec 32 := 64#32
  let v831 : BitVec 32 := Scalar.muli c2_i32_357 c64_i32_358
  v831
def k0_mult10 : BitVec 32 :=
  let c3_i32_388 : BitVec 32 := 3#32
  let c2_i32_357 : BitVec 32 := 2#32
  let v915 : BitVec 32 := Scalar.subi c3_i32_388 c2_i32_357
  let c64_i32_389 : BitVec 32 := 64#32
  let v916 : BitVec 32 := Scalar.muli v915 c64_i32_389
  v916
def k0_mult11 : BitVec 32 :=
  let c3_i32_419 : BitVec 32 := 3#32
  let c64_i32_420 : BitVec 32 := 64#32
  let v1000 : BitVec 32 := Scalar.muli c3_i32_419 c64_i32_420
  v1000
def k0_mult12 : BitVec 32 :=
  let c3_i32_450 : BitVec 32 := 3#32
  let c3_i32_419 : BitVec 32 := 3#32
  let v1084 : BitVec 32 := Scalar.subi c3_i32_450 c3_i32_419
  let c64_i32_451 : BitVec 32 := 64#32
  let v1085 : BitVec 32 := Scalar.muli v1084 c64_i32_451
  v1085
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference12Ideal.lean ====
abbrev S8192x14336 : Shape := ⟨2, ![8192, 14336]⟩
abbrev S8192x128 : Shape := ⟨2, ![8192, 128]⟩
abbrev S2048 : Shape := ⟨1, ![2048]⟩
abbrev S2x16x1024 : Shape := ⟨3, ![2, 16, 1024]⟩
abbrev S2x1024 : Shape := ⟨2, ![2, 1024]⟩
abbrev S32x256x14336 : Shape := ⟨3, ![32, 256, 14336]⟩
abbrev S32x256x128 : Shape := ⟨3, ![32, 256, 128]⟩
abbrev S32x256x1024 : Shape := ⟨3, ![32, 256, 1024]⟩
abbrev S32x256x4x256 : Shape := ⟨4, ![32, 256, 4, 256]⟩
abbrev S32x256x2048 : Shape := ⟨3, ![32, 256, 2048]⟩
abbrev S32x256x4x512 : Shape := ⟨4, ![32, 256, 4, 512]⟩
abbrev S32x1x256x4x256 : Shape := ⟨5, ![32, 1, 256, 4, 256]⟩
abbrev S32x2x256x4x256 : Shape := ⟨5, ![32, 2, 256, 4, 256]⟩
abbrev S32x2x4x64x4x256 : Shape := ⟨6, ![32, 2, 4, 64, 4, 256]⟩
abbrev S32x1x256x4x512 : Shape := ⟨5, ![32, 1, 256, 4, 512]⟩
abbrev S32x2x256x4x512 : Shape := ⟨5, ![32, 2, 256, 4, 512]⟩
abbrev S32x2x4x64x4x512 : Shape := ⟨6, ![32, 2, 4, 64, 4, 512]⟩
abbrev S32x256x16 : Shape := ⟨3, ![32, 256, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S32x2x4x1x4x256 : Shape := ⟨6, ![32, 2, 4, 1, 4, 256]⟩
abbrev S32x2x4x4x256x512 : Shape := ⟨6, ![32, 2, 4, 4, 256, 512]⟩
abbrev S32x2x4x256x512 : Shape := ⟨5, ![32, 2, 4, 256, 512]⟩
abbrev S32x2x1x1x4x256 : Shape := ⟨6, ![32, 2, 1, 1, 4, 256]⟩
abbrev S32x2x4x256 : Shape := ⟨4, ![32, 2, 4, 256]⟩
abbrev S32x2x4x256x1 : Shape := ⟨5, ![32, 2, 4, 256, 1]⟩
abbrev S32x2x1x4x256x512 : Shape := ⟨6, ![32, 2, 1, 4, 256, 512]⟩

abbrev nBuf : Space → Nat
  | .hbm => 133
  | .vmem => 0
  | .smem => 0
  | _ => 0

abbrev hbmTy0_0 (i : Nat) : BufTy := match i % 128 with
  | 0 => ⟨S8192x14336, .bf16⟩
  | 1 => ⟨S8192x128, .bf16⟩
  | 2 => ⟨S2048, .f32⟩
  | 3 => ⟨S2x16x1024, .f32⟩
  | 4 => ⟨S2x1024, .f32⟩
  | 5 => ⟨S8192x14336, .f32⟩
  | 6 => ⟨S32x256x14336, .f32⟩
  | 7 => ⟨S8192x128, .f32⟩
  | 8 => ⟨S32x256x128, .f32⟩
  | 9 => ⟨S32x256x1024, .f32⟩
  | 10 => ⟨S32x256x4x256, .f32⟩
  | 11 => ⟨S32x256x2048, .f32⟩
  | 12 => ⟨S32x256x4x512, .f32⟩
  | 13 => ⟨S32x256x4x256, .f32⟩
  | 14 => ⟨S32x1x256x4x256, .f32⟩
  | 15 => ⟨S32x1x256x4x256, .f32⟩
  | 16 => ⟨S32x2x256x4x256, .f32⟩
  | 17 => ⟨S32x2x4x64x4x256, .f32⟩
  | 18 => ⟨S32x256x4x512, .f32⟩
  | 19 => ⟨S32x1x256x4x512, .f32⟩
  | 20 => ⟨S32x1x256x4x512, .f32⟩
  | 21 => ⟨S32x2x256x4x512, .f32⟩
  | 22 => ⟨S32x2x4x64x4x512, .f32⟩
  | 23 => ⟨S32x256x16, .f32⟩
  | 24 => ⟨S1x16x1024, .f32⟩
  | 25 => ⟨S16x1024, .f32⟩
  | 26 => ⟨S32x256x1024, .f32⟩
  | 27 => ⟨S1x1024, .f32⟩
  | 28 => ⟨S1024, .f32⟩
  | 29 => ⟨S1x1x1024, .f32⟩
  | 30 => ⟨S32x256x1024, .f32⟩
  | 31 => ⟨S32x256x1024, .f32⟩
  | 32 => ⟨S32x256x1024, .f32⟩
  | 33 => ⟨S_, .f32⟩
  | 34 => ⟨S32x256x1024, .f32⟩
  | 35 => ⟨S32x256x1024, .f32⟩
  | 36 => ⟨S32x256x1024, .f32⟩
  | 37 => ⟨S32x256x1024, .f32⟩
  | 38 => ⟨S32x256x1024, .i1⟩
  | 39 => ⟨S32x256x1024, .f32⟩
  | 40 => ⟨S32x256x1024, .f32⟩
  | 41 => ⟨S32x256x1024, .f32⟩
  | 42 => ⟨S32x256x1024, .f32⟩
  | 43 => ⟨S32x256x1024, .f32⟩
  | 44 => ⟨S32x256x1024, .f32⟩
  | 45 => ⟨S32x256x1024, .f32⟩
  | 46 => ⟨S32x256x1024, .f32⟩
  | 47 => ⟨S32x256x1024, .f32⟩
  | 48 => ⟨S_, .f32⟩
  | 49 => ⟨S32x256x1024, .f32⟩
  | 50 => ⟨S32x256x1024, .f32⟩
  | 51 => ⟨S32x256x4x256, .f32⟩
  | 52 => ⟨S32x256x16, .f32⟩
  | 53 => ⟨S1x16x1024, .f32⟩
  | 54 => ⟨S16x1024, .f32⟩
  | 55 => ⟨S32x256x1024, .f32⟩
  | 56 => ⟨S1x1024, .f32⟩
  | 57 => ⟨S1024, .f32⟩
  | 58 => ⟨S1x1x1024, .f32⟩
  | 59 => ⟨S32x256x1024, .f32⟩
  | 60 => ⟨S32x256x1024, .f32⟩
  | 61 => ⟨S32x256x1024, .f32⟩
  | 62 => ⟨S_, .f32⟩
  | 63 => ⟨S32x256x1024, .f32⟩
  | 64 => ⟨S32x256x1024, .f32⟩
  | 65 => ⟨S32x256x1024, .f32⟩
  | 66 => ⟨S32x256x1024, .f32⟩
  | 67 => ⟨S32x256x1024, .i1⟩
  | 68 => ⟨S32x256x1024, .f32⟩
  | 69 => ⟨S32x256x1024, .f32⟩
  | 70 => ⟨S32x256x1024, .f32⟩
  | 71 => ⟨S32x256x1024, .f32⟩
  | 72 => ⟨S32x256x1024, .f32⟩
  | 73 => ⟨S32x256x1024, .f32⟩
  | 74 => ⟨S32x256x1024, .f32⟩
  | 75 => ⟨S32x256x1024, .f32⟩
  | 76 => ⟨S32x256x1024, .f32⟩
  | 77 => ⟨S_, .f32⟩
  | 78 => ⟨S32x256x1024, .f32⟩
  | 79 => ⟨S32x256x1024, .f32⟩
  | 80 => ⟨S32x256x4x256, .f32⟩
  | 81 => ⟨S32x256x4x256, .f32⟩
  | 82 => ⟨S32x1x256x4x256, .f32⟩
  | 83 => ⟨S32x1x256x4x256, .f32⟩
  | 84 => ⟨S32x2x256x4x256, .f32⟩
  | 85 => ⟨S32x2x4x64x4x256, .f32⟩
  | 86 => ⟨S_, .f32⟩
  | 87 => ⟨S_, .f32⟩
  | 88 => ⟨S32x2x4x64x4x256, .f32⟩
  | 89 => ⟨S32x2x4x1x4x256, .f32⟩
  | 90 => ⟨S32x2x4x64x4x256, .f32⟩
  | 91 => ⟨S32x2x4x64x4x256, .f32⟩
  | 92 => ⟨S32x2x4x64x4x256, .f32⟩
  | 93 => ⟨S32x2x4x64x4x256, .f32⟩
  | 94 => ⟨S32x2x4x4x256x512, .f32⟩
  | 95 => ⟨S_, .f32⟩
  | 96 => ⟨S32x2x4x256x512, .f32⟩
  | 97 => ⟨S32x2x1x1x4x256, .f32⟩
  | 98 => ⟨S32x2x4x256, .f32⟩
  | 99 => ⟨S32x2x4x256, .f32⟩
  | 100 => ⟨S32x2x4x256x1, .f32⟩
  | 101 => ⟨S32x2x4x256x512, .f32⟩
  | 102 => ⟨S32x2x4x256x512, .f32⟩
  | 103 => ⟨S32x2x1x4x256x512, .f32⟩
  | 104 => ⟨S32x2x4x256x512, .f32⟩
  | 105 => ⟨S32x2x4x256x512, .f32⟩
  | 106 => ⟨S32x2x1x1x4x256, .f32⟩
  | 107 => ⟨S32x2x4x256, .f32⟩
  | 108 => ⟨S32x2x4x256, .f32⟩
  | 109 => ⟨S32x2x4x256x1, .f32⟩
  | 110 => ⟨S32x2x4x256x512, .f32⟩
  | 111 => ⟨S32x2x4x256x512, .f32⟩
  | 112 => ⟨S32x2x1x4x256x512, .f32⟩
  | 113 => ⟨S32x2x4x256x512, .f32⟩
  | 114 => ⟨S32x2x4x256x512, .f32⟩
  | 115 => ⟨S32x2x1x1x4x256, .f32⟩
  | 116 => ⟨S32x2x4x256, .f32⟩
  | 117 => ⟨S32x2x4x256, .f32⟩
  | 118 => ⟨S32x2x4x256x1, .f32⟩
  | 119 => ⟨S32x2x4x256x512, .f32⟩
  | 120 => ⟨S32x2x4x256x512, .f32⟩
  | 121 => ⟨S32x2x1x4x256x512, .f32⟩
  | 122 => ⟨S32x2x4x256x512, .f32⟩
  | 123 => ⟨S32x2x4x256x512, .f32⟩
  | 124 => ⟨S32x2x1x1x4x256, .f32⟩
  | 125 => ⟨S32x2x4x256, .f32⟩
  | 126 => ⟨S32x2x4x256, .f32⟩
  | 127 => ⟨S32x2x4x256x1, .f32⟩
  | _ => ⟨S8192x14336, .bf16⟩

abbrev hbmTy0_1 (i : Nat) : BufTy := match i % 128 with
  | 0 => ⟨S32x2x4x256x512, .f32⟩
  | 1 => ⟨S32x2x4x256x512, .f32⟩
  | 2 => ⟨S32x2x1x4x256x512, .f32⟩
  | 3 => ⟨S32x2x4x256x512, .f32⟩
  | 4 => ⟨S32x2x4x256x512, .f32⟩
  | _ => ⟨S8192x14336, .bf16⟩

abbrev hbmTy (i : Nat) : BufTy := match i / 128 with
  | 0 => hbmTy0_0 i
  | 1 => hbmTy0_1 i
  | _ => ⟨S8192x14336, .bf16⟩

abbrev bufTy : (tb : Table) → Fin (tcTables nBuf tb) → BufTy
  | .hbm, ⟨i, _⟩ => hbmTy i
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call2_v0 : Ref sig .tc := ⟨.hbm, 32, rfl⟩
abbrev main_call2_call0_cst : Ref sig .tc := ⟨.hbm, 33, rfl⟩
abbrev main_call2_call0_v0 : Ref sig .tc := ⟨.hbm, 34, rfl⟩
abbrev main_call2_call0_v1 : Ref sig .tc := ⟨.hbm, 35, rfl⟩
abbrev main_call2_call0_v2 : Ref sig .tc := ⟨.hbm, 36, rfl⟩
abbrev main_call2_call0_v3 : Ref sig .tc := ⟨.hbm, 37, rfl⟩
abbrev main_call2_call0_v4 : Ref sig .tc := ⟨.hbm, 38, rfl⟩
abbrev main_call2_call0_v5 : Ref sig .tc := ⟨.hbm, 39, rfl⟩
abbrev main_call2_call0_v6 : Ref sig .tc := ⟨.hbm, 40, rfl⟩
abbrev main_call2_call0_v7 : Ref sig .tc := ⟨.hbm, 41, rfl⟩
abbrev main_call2_call0_v8 : Ref sig .tc := ⟨.hbm, 42, rfl⟩
abbrev main_call2_call0_v9 : Ref sig .tc := ⟨.hbm, 43, rfl⟩
abbrev main_call2_call0_v10 : Ref sig .tc := ⟨.hbm, 44, rfl⟩
abbrev main_call2_call0_v11 : Ref sig .tc := ⟨.hbm, 45, rfl⟩
abbrev main_call2_v1 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call3_v0 : Ref sig .tc := ⟨.hbm, 61, rfl⟩
abbrev main_call3_call0_cst : Ref sig .tc := ⟨.hbm, 62, rfl⟩
abbrev main_call3_call0_v0 : Ref sig .tc := ⟨.hbm, 63, rfl⟩
abbrev main_call3_call0_v1 : Ref sig .tc := ⟨.hbm, 64, rfl⟩
abbrev main_call3_call0_v2 : Ref sig .tc := ⟨.hbm, 65, rfl⟩
abbrev main_call3_call0_v3 : Ref sig .tc := ⟨.hbm, 66, rfl⟩
abbrev main_call3_call0_v4 : Ref sig .tc := ⟨.hbm, 67, rfl⟩
abbrev main_call3_call0_v5 : Ref sig .tc := ⟨.hbm, 68, rfl⟩
abbrev main_call3_call0_v6 : Ref sig .tc := ⟨.hbm, 69, rfl⟩
abbrev main_call3_call0_v7 : Ref sig .tc := ⟨.hbm, 70, rfl⟩
abbrev main_call3_call0_v8 : Ref sig .tc := ⟨.hbm, 71, rfl⟩
abbrev main_call3_call0_v9 : Ref sig .tc := ⟨.hbm, 72, rfl⟩
abbrev main_call3_call0_v10 : Ref sig .tc := ⟨.hbm, 73, rfl⟩
abbrev main_call3_call0_v11 : Ref sig .tc := ⟨.hbm, 74, rfl⟩
abbrev main_call3_v1 : Ref sig .tc := ⟨.hbm, 75, rfl⟩
abbrev main_v40 : Ref sig .tc := ⟨.hbm, 76, rfl⟩
abbrev main_cst_0 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call5_call0_cst : Ref sig .tc := ⟨.hbm, 86, rfl⟩
abbrev main_call5_call0_v0 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_1 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Kernel13.lean ====
abbrev S8192x4096 : Shape := ⟨2, ![8192, 4096]⟩
abbrev S4096 : Shape := ⟨1, ![4096]⟩
abbrev S4x16x1x24576 : Shape := ⟨4, ![4, 16, 1, 24576]⟩
abbrev S1x4096 : Shape := ⟨2, ![1, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x16x1x24576, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c1_i32_7 : BitVec 32 := 1#32
  let c0_i32_8 : BitVec 32 := 0#32
  ![c0_i32_5.toNat, v18.toNat, c0_i32_6.toNat, c1_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x4096 : Shape := ⟨2, ![8192, 4096]⟩
abbrev S4096 : Shape := ⟨1, ![4096]⟩
abbrev S4x16x1x24576 : Shape := ⟨4, ![4, 16, 1, 24576]⟩
abbrev S1x1x1x24576 : Shape := ⟨4, ![1, 1, 1, 24576]⟩
abbrev S1x24576 : Shape := ⟨2, ![1, 24576]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x16x1x24576, .f32⟩
  | .hbm, ⟨3, _⟩ => ⟨S1x1x1x24576, .f32⟩
  | .hbm, ⟨4, _⟩ => ⟨S1x24576, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel14.lean ====
abbrev S8192x4096 : Shape := ⟨2, ![8192, 4096]⟩
abbrev S4096 : Shape := ⟨1, ![4096]⟩
abbrev S4x16x1x24576 : Shape := ⟨4, ![4, 16, 1, 24576]⟩
abbrev S1x4096 : Shape := ⟨2, ![1, 4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S4x16x1x24576, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S1x4096, .f32⟩
  | .local _ .vmem, ⟨8, _⟩ => ⟨S1x1x1x4096, .f32⟩
  | .local _ .vmem, ⟨9, _⟩ => ⟨S1x1x1x4096, .f32⟩
  | .local _ .vmem, ⟨10, _⟩ => ⟨S1x1x1x4096, .f32⟩
  | .local _ .vmem, ⟨11, _⟩ => ⟨S1x1x1x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .bf16⟩
  | .local _ .vmem, ⟨15, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c2_i32 : BitVec 32 := 2#32
  let c0_i32_7 : BitVec 32 := 0#32
  ![c0_i32_5.toNat, v18.toNat, c0_i32_6.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c3_i32 : BitVec 32 := 3#32
  let c0_i32_7 : BitVec 32 := 0#32
  ![c0_i32_5.toNat, v18.toNat, c0_i32_6.toNat, c3_i32.toNat]

def cc0_transform_6 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c4_i32 : BitVec 32 := 4#32
  let c0_i32_7 : BitVec 32 := 0#32
  ![c0_i32_5.toNat, v18.toNat, c0_i32_6.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8192x4096 : Shape := ⟨2, ![8192, 4096]⟩
abbrev S4096 : Shape := ⟨1, ![4096]⟩
abbrev S4x16x1x24576 : Shape := ⟨4, ![4, 16, 1, 24576]⟩
abbrev S1x1x1x24576 : Shape := ⟨4, ![1, 1, 1, 24576]⟩
abbrev S1x24576 : Shape := ⟨2, ![1, 24576]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S4x16x1x24576, .f32⟩
  | .hbm, ⟨5, _⟩ => ⟨S1x1x1x24576, .f32⟩
  | .hbm, ⟨6, _⟩ => ⟨S1x24576, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x4096, .f32⟩
  | .hbm, ⟨45, _⟩ => ⟨S8192x4096, .f32⟩
  | .hbm, ⟨46, _⟩ => ⟨S1x4096, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S1x4096, .f32⟩
  | .hbm, ⟨51, _⟩ => ⟨S1x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.Pointwise

@[expose] public section

set_option maxRecDepth 16384

noncomputable section

namespace Cert.Attn

open Cert.KernelIdeal Cert.KernelIdeal.Gen Idealize.ShloMosaic Idealize.SL.Sem

variable {F : FTy → Type} [FloatOps F] [Named F]

/-- The scores of a block of 1024 keys against the 512 queries of a tile, for one of the two maps. -/
def scoreK (q : FVec F S512x128 .bf16) (k : FVec F S1024x128 .bf16) : FVec F S512x1024 .f32 :=
  matmul dot_S512x128_S1024x128_S512x1024_1_1_0_0_n_n none q k (constant S512x1024 .f32 0x00000000#32)

/-- The eight groups of 128 lanes of a 512 × 1024 array, folded pairwise with `op`. -/
def foldK (op : FVec F S512x128 .f32 → FVec F S512x128 .f32 → FVec F S512x128 .f32) (s : FVec F S512x1024 .f32) : FVec F S512x128 .f32 :=
  op (op (op (extractStridedSlice S512x128 ![0, 0] s slices_S512x1024_o0_0_S512x128)
             (extractStridedSlice S512x128 ![0, 128] s slices_S512x1024_o0_128_S512x128))
         (op (extractStridedSlice S512x128 ![0, 256] s slices_S512x1024_o0_256_S512x128)
             (extractStridedSlice S512x128 ![0, 384] s slices_S512x1024_o0_384_S512x128)))
     (op (op (extractStridedSlice S512x128 ![0, 512] s slices_S512x1024_o0_512_S512x128)
             (extractStridedSlice S512x128 ![0, 640] s slices_S512x1024_o0_640_S512x128))
         (op (extractStridedSlice S512x128 ![0, 768] s slices_S512x1024_o0_768_S512x128)
             (extractStridedSlice S512x128 ![0, 896] s slices_S512x1024_o0_896_S512x128)))

/-- The same fold over the four groups of lanes of a 512 × 512 array. -/
def foldC (op : FVec F S512x128 .f32 → FVec F S512x128 .f32 → FVec F S512x128 .f32) (s : FVec F S512x512 .f32) : FVec F S512x128 .f32 :=
  op (op (extractStridedSlice S512x128 ![0, 0] s slices_S512x512_o0_0_S512x128)
         (extractStridedSlice S512x128 ![0, 128] s slices_S512x512_o0_128_S512x128))
     (op (extractStridedSlice S512x128 ![0, 256] s slices_S512x512_o0_256_S512x128)
         (extractStridedSlice S512x128 ![0, 384] s slices_S512x512_o0_384_S512x128))

/-- The largest lane of each row, as a column. -/
def rowMax (x : FVec F S512x128 .f32) : FVec F S512x1 .f32 :=
  shapeCast S512x1 (multiReduction .maximumf [1] S512 x 0xFF800000#32 reduces_S512x128_S512 (.inl rfl) rfl) shapeCasts_S512_S512x1

/-- The sum of each row's lanes, as a column. -/
def rowSum (x : FVec F S512x128 .f32) : FVec F S512x1 .f32 :=
  shapeCast S512x1 (multiReduction .add [1] S512 x 0x00000000#32 reduces_S512x128_S512 (.inl rfl) rfl) shapeCasts_S512_S512x1

/-- The new running maximum. -/
def maxK (s : FVec F S512x1024 .f32) (m : FVec F S512x1 .f32) : FVec F S512x1 .f32 := maximumf m (rowMax (foldK maximumf s))
/-- The block's weights, relative to the new maximum. -/
def wgtK (s : FVec F S512x1024 .f32) (m' : FVec F S512x1 .f32) : FVec F S512x1024 .f32 :=
  exp2 (subf s (broadcastTo S512x1024 m' broadcasts_S512x1_S512x1024))
/-- The factor that rescales what was summed before. -/
def alp (m m' : FVec F S512x1 .f32) : FVec F S512x1 .f32 := exp2 (subf m m')
/-- The new running sum of weights. -/
def sumK (p : FVec F S512x1024 .f32) (α l : FVec F S512x1 .f32) : FVec F S512x1 .f32 := addf (mulf α l) (rowSum (foldK addf p))
/-- The new running weighted sum of values. -/
def accK (p : FVec F S512x1024 .f32) (α : FVec F S512x1 .f32) (a : FVec F S512x256 .f32) (v : FVec F S1024x256 .bf16) : FVec F S512x256 .f32 :=
  addf (mulf (broadcastTo S512x256 α broadcasts_S512x1_S512x256) a)
    (matmul dot_S512x1024_S1024x256_S512x256_1_0_0_1_n_n none (truncf .bf16 p bitsLt_bf16_f32) v (constant S512x256 .f32 0x00000000#32))

/-- The scores of the 512 cached keys against the 512 queries of a tile. -/
def scoreC (q : FVec F S512x128 .bf16) (k : FVec F S512x128 .bf16) : FVec F S512x512 .f32 :=
  matmul dot_S512x128_S512x128_S512x512_1_1_0_0_n_n none q k (constant S512x512 .f32 0x00000000#32)
/-- The running maximum, sum and weighted sum over the cached keys: as above with 512 keys. -/
def maxC (s : FVec F S512x512 .f32) (m : FVec F S512x1 .f32) : FVec F S512x1 .f32 := maximumf m (rowMax (foldC maximumf s))
/-- The cached block's weights. -/
def wgtC (s : FVec F S512x512 .f32) (m' : FVec F S512x1 .f32) : FVec F S512x512 .f32 :=
  exp2 (subf s (broadcastTo S512x512 m' broadcasts_S512x1_S512x512))
/-- The running sum after the cached block. -/
def sumC (p : FVec F S512x512 .f32) (α l : FVec F S512x1 .f32) : FVec F S512x1 .f32 := addf (mulf α l) (rowSum (foldC addf p))
/-- The running weighted sum after the cached block. -/
def accC (p : FVec F S512x512 .f32) (α : FVec F S512x1 .f32) (a : FVec F S512x256 .f32) (v : FVec F S512x256 .bf16) : FVec F S512x256 .f32 :=
  addf (mulf (broadcastTo S512x256 α broadcasts_S512x1_S512x256) a)
    (matmul dot_S512x512_S512x256_S512x256_1_0_0_1_n_n none (truncf .bf16 p bitsLt_bf16_f32) v (constant S512x256 .f32 0x00000000#32))

/-- What one map's sweep carries: running maximum, sum of weights, weighted sum of values. -/
structure St (F : FTy → Type) where
  m : FVec F S512x1 .f32
  l : FVec F S512x1 .f32
  a : FVec F S512x256 .f32

/-- Before the first block. -/
def st0 : St F := ⟨k0_pay6, k0_pay7, k0_pay8⟩
/-- One block of 1024 keys. -/
def stepK (s : FVec F S512x1024 .f32) (v : FVec F S1024x256 .bf16) (z : St F) : St F :=
  ⟨maxK s z.m, sumK (wgtK s (maxK s z.m)) (alp z.m (maxK s z.m)) z.l, accK (wgtK s (maxK s z.m)) (alp z.m (maxK s z.m)) z.a v⟩
/-- The block of 512 cached keys. -/
def stepC (s : FVec F S512x512 .f32) (v : FVec F S512x256 .bf16) (z : St F) : St F :=
  ⟨maxC s z.m, sumC (wgtC s (maxC s z.m)) (alp z.m (maxC s z.m)) z.l, accC (wgtC s (maxC s z.m)) (alp z.m (maxC s z.m)) z.a v⟩

/-- The first map's half of a block of keys. -/
def slA (k : FVec F S1024x256 .bf16) : FVec F S1024x128 .bf16 := extractStridedSlice S1024x128 ![0, 0] k slices_S1024x256_o0_0_S1024x128
/-- The second map's half of a block of keys. -/
def slB (k : FVec F S1024x256 .bf16) : FVec F S1024x128 .bf16 := extractStridedSlice S1024x128 ![0, 128] k slices_S1024x256_o0_128_S1024x128
/-- The first map's half of the cached keys. -/
def scA (k : FVec F S512x256 .bf16) : FVec F S512x128 .bf16 := extractStridedSlice S512x128 ![0, 0] k slices_S512x256_o0_0_S512x128
/-- The second map's half of the cached keys. -/
def scB (k : FVec F S512x256 .bf16) : FVec F S512x128 .bf16 := extractStridedSlice S512x128 ![0, 128] k slices_S512x256_o0_128_S512x128

/-- One map's sweep over the four blocks of its own keys and the cached block. -/
def sweep (s0 s1 s2 s3 : FVec F S512x1024 .f32) (sc : FVec F S512x512 .f32) (v0 v1 v2 v3 : FVec F S1024x256 .bf16) (vc : FVec F S512x256 .bf16) : St F :=
  stepC sc vc (stepK s3 v3 (stepK s2 v2 (stepK s1 v1 (stepK s0 v0 st0))))

/-- The tile a grid point writes, from the roped and scaled queries, the roped keys, the values, the cache, the lambdas and the gain. -/
def tile (qa qb : FVec F S512x128 .bf16) (k0 k1 k2 k3 v0 v1 v2 v3 : FVec F S1024x256 .bf16) (ck cv : FVec F S1x512x256 .bf16)
    (lam : FVec F S4x128 .f32) (g : FVec F S1x256 .f32) : FVec F S512x256 .bf16 :=
  k0_pay1 (sweep (scoreK qa (slA k0)) (scoreK qa (slA k1)) (scoreK qa (slA k2)) (scoreK qa (slA k3)) (scoreC qa (scA (k0_pay79 ck))) v0 v1 v2 v3 (k0_pay80 cv)).l
    (sweep (scoreK qa (slA k0)) (scoreK qa (slA k1)) (scoreK qa (slA k2)) (scoreK qa (slA k3)) (scoreC qa (scA (k0_pay79 ck))) v0 v1 v2 v3 (k0_pay80 cv)).a
    (sweep (scoreK qb (slB k0)) (scoreK qb (slB k1)) (scoreK qb (slB k2)) (scoreK qb (slB k3)) (scoreC qb (scB (k0_pay79 ck))) v0 v1 v2 v3 (k0_pay80 cv)).l
    (sweep (scoreK qb (slB k0)) (scoreK qb (slB k1)) (scoreK qb (slB k2)) (scoreK qb (slB k3)) (scoreC qb (scB (k0_pay79 ck))) v0 v1 v2 v3 (k0_pay80 cv)).a
    lam (k0_pay97 lam) (k0_pay98 lam) g

/-! ### The printed payloads are these steps -/

section Payloads

variable (q : FVec F S512x128 .bf16) (m l : FVec F S512x1 .f32) (a : FVec F S512x256 .f32) (k v : FVec F S1024x256 .bf16)
  (kc vc : FVec F S512x256 .bf16) (ck : FVec F S1x512x256 .bf16)

theorem b0A_m : k0_pay13 q m k = maxK (scoreK q (slA k)) m := rfl
theorem b0A_l : k0_pay16 q m l k = sumK (wgtK (scoreK q (slA k)) (maxK (scoreK q (slA k)) m)) (alp m (maxK (scoreK q (slA k)) m)) l := rfl
theorem b0A_a : k0_pay17 q m a k v = accK (wgtK (scoreK q (slA k)) (maxK (scoreK q (slA k)) m)) (alp m (maxK (scoreK q (slA k)) m)) a v := rfl
theorem b0B_m : k0_pay20 m (k0_pay18 q k) (k0_pay19 q k) = maxK (scoreK q (slB k)) m := rfl
theorem b0B_l : k0_pay23 m l (k0_pay18 q k) (k0_pay19 q k) = sumK (wgtK (scoreK q (slB k)) (maxK (scoreK q (slB k)) m)) (alp m (maxK (scoreK q (slB k)) m)) l := rfl
theorem b0B_a : k0_pay24 m a v (k0_pay18 q k) (k0_pay19 q k) = accK (wgtK (scoreK q (slB k)) (maxK (scoreK q (slB k)) m)) (alp m (maxK (scoreK q (slB k)) m)) a v := rfl
theorem b1A_m : k0_pay28 m (k0_pay25 q k) (k0_pay26 q k) (k0_pay27 q k) = maxK (scoreK q (slA k)) m := rfl
theorem b1A_l : k0_pay31 m l (k0_pay25 q k) (k0_pay26 q k) (k0_pay27 q k) = sumK (wgtK (scoreK q (slA k)) (maxK (scoreK q (slA k)) m)) (alp m (maxK (scoreK q (slA k)) m)) l := rfl
theorem b1A_a : k0_pay32 m a v (k0_pay25 q k) (k0_pay26 q k) (k0_pay27 q k) = accK (wgtK (scoreK q (slA k)) (maxK (scoreK q (slA k)) m)) (alp m (maxK (scoreK q (slA k)) m)) a v := rfl
theorem b1B_m : k0_pay41 m (k0_pay34 q k) (k0_pay35 q k) (k0_pay36 q k) (k0_pay37 q k) (k0_pay38 q k) (k0_pay39 q k) (k0_pay40 q k) = maxK (scoreK q (slB k)) m := rfl
theorem b1B_l : k0_pay44 m l (k0_pay33 q k) (k0_pay34 q k) (k0_pay35 q k) (k0_pay36 q k) (k0_pay37 q k) (k0_pay38 q k) (k0_pay39 q k) (k0_pay40 q k) = sumK (wgtK (scoreK q (slB k)) (maxK (scoreK q (slB k)) m)) (alp m (maxK (scoreK q (slB k)) m)) l := rfl
theorem b1B_a : k0_pay45 m a v (k0_pay33 q k) (k0_pay34 q k) (k0_pay35 q k) (k0_pay36 q k) (k0_pay37 q k) (k0_pay38 q k) (k0_pay39 q k) (k0_pay40 q k) = accK (wgtK (scoreK q (slB k)) (maxK (scoreK q (slB k)) m)) (alp m (maxK (scoreK q (slB k)) m)) a v := rfl
theorem b2A_m : k0_pay53 m (k0_pay47 q k) (k0_pay48 q k) (k0_pay49 q k) (k0_pay50 q k) (k0_pay51 q k) (k0_pay52 q k) = maxK (scoreK q (slA k)) m := rfl
theorem b2A_l : k0_pay56 m l (k0_pay46 q k) (k0_pay47 q k) (k0_pay48 q k) (k0_pay49 q k) (k0_pay50 q k) (k0_pay51 q k) (k0_pay52 q k) = sumK (wgtK (scoreK q (slA k)) (maxK (scoreK q (slA k)) m)) (alp m (maxK (scoreK q (slA k)) m)) l := rfl
theorem b2A_a : k0_pay57 m a v (k0_pay46 q k) (k0_pay47 q k) (k0_pay48 q k) (k0_pay49 q k) (k0_pay50 q k) (k0_pay51 q k) (k0_pay52 q k) = accK (wgtK (scoreK q (slA k)) (maxK (scoreK q (slA k)) m)) (alp m (maxK (scoreK q (slA k)) m)) a v := rfl
theorem b2B_m : k0_pay60 m (k0_pay59 q k) = maxK (scoreK q (slB k)) m := rfl
theorem b2B_l : k0_pay63 m l (k0_pay58 q k) (k0_pay59 q k) = sumK (wgtK (scoreK q (slB k)) (maxK (scoreK q (slB k)) m)) (alp m (maxK (scoreK q (slB k)) m)) l := rfl
theorem b2B_a : k0_pay64 m a v (k0_pay58 q k) (k0_pay59 q k) = accK (wgtK (scoreK q (slB k)) (maxK (scoreK q (slB k)) m)) (alp m (maxK (scoreK q (slB k)) m)) a v := rfl
theorem b3A_m : k0_pay67 m (k0_pay66 q k) = maxK (scoreK q (slA k)) m := rfl
theorem b3A_l : k0_pay70 m l (k0_pay65 q k) (k0_pay66 q k) = sumK (wgtK (scoreK q (slA k)) (maxK (scoreK q (slA k)) m)) (alp m (maxK (scoreK q (slA k)) m)) l := rfl
theorem b3A_a : k0_pay71 m a v (k0_pay65 q k) (k0_pay66 q k) = accK (wgtK (scoreK q (slA k)) (maxK (scoreK q (slA k)) m)) (alp m (maxK (scoreK q (slA k)) m)) a v := rfl
theorem b3B_m : k0_pay73 q m k = maxK (scoreK q (slB k)) m := rfl
theorem b3B_l : k0_pay77 (k0_pay75 q m k) (k0_pay76 q m l k) = sumK (wgtK (scoreK q (slB k)) (maxK (scoreK q (slB k)) m)) (alp m (maxK (scoreK q (slB k)) m)) l := rfl
theorem b3B_a : k0_pay78 a v (k0_pay74 q m k) (k0_pay75 q m k) = accK (wgtK (scoreK q (slB k)) (maxK (scoreK q (slB k)) m)) (alp m (maxK (scoreK q (slB k)) m)) a v := rfl
theorem b4A_l : k0_pay89 (k0_pay85 q m l ck) (k0_pay86 q m ck) (k0_pay87 q m ck) (k0_pay88 q m ck) = sumC (wgtC (scoreC q (scA (k0_pay79 ck))) (maxC (scoreC q (scA (k0_pay79 ck))) m)) (alp m (maxC (scoreC q (scA (k0_pay79 ck))) m)) l := rfl
theorem b4A_a : k0_pay90 a vc (k0_pay83 q m ck) (k0_pay84 q m ck) = accC (wgtC (scoreC q (scA (k0_pay79 ck))) (maxC (scoreC q (scA (k0_pay79 ck))) m)) (alp m (maxC (scoreC q (scA (k0_pay79 ck))) m)) a vc := rfl
theorem b4B_l : k0_pay95 q m l kc = sumC (wgtC (scoreC q (scB kc)) (maxC (scoreC q (scB kc)) m)) (alp m (maxC (scoreC q (scB kc)) m)) l := rfl
theorem b4B_a : k0_pay96 q m a kc vc = accC (wgtC (scoreC q (scB kc)) (maxC (scoreC q (scB kc)) m)) (alp m (maxC (scoreC q (scB kc)) m)) a vc := rfl

end Payloads

end Cert.Attn
-- ==== Proof.Tile.lean ====
module

public import proofs.«01_k».proof.Proof.Step
public import proofs.«01_k».proof.Proof.Gen.KernelIdeal.Frame
public import Idealize.ShloMosaic.Lib.Pipeline.ValueKit

@[expose] public section

set_option maxRecDepth 16384

noncomputable section

namespace Cert.Attn

open Cert.KernelIdeal Cert.KernelIdeal.Gen Idealize.ShloMosaic Idealize.SL.Sem Idealize.ShloMosaic.TcCoe

variable {F : FTy → Type} [FloatOps F] [Named F]
variable (m : (ℓ : Loc nD τ sig) → Buf (Elt F) ℓ)

/-- The tile of grid point `t` over roped keys `S`. -/
def tileAt (c : Dev nD) (t : Fin cfg0.N) (S : Vec F S4096x256 .bf16) : Vec F S512x256 .bf16 :=
  tile
    (k0_pay4 (iblk m c 0 t) (View.ld (iblk m c 7 t) (Rect.unit (k0_off3 (grid0.coords t)) S512x128.size (k0_off3_inb _))) (View.ld (iblk m c 8 t) (Rect.unit (k0_off3 (grid0.coords t)) S512x128.size (k0_off3_inb _))))
    (k0_pay5 (iblk m c 0 t) (View.ld (iblk m c 7 t) (Rect.unit (k0_off3 (grid0.coords t)) S512x128.size (k0_off3_inb _))) (View.ld (iblk m c 8 t) (Rect.unit (k0_off3 (grid0.coords t)) S512x128.size (k0_off3_inb _))))
    (View.ld S (Rect.unit ![0, 0] S1024x256.size inb_S4096x256_S1024x256_0_0))
    (View.ld S (Rect.unit ![1024, 0] S1024x256.size inb_S4096x256_S1024x256_1024_0))
    (View.ld S (Rect.unit ![2048, 0] S1024x256.size inb_S4096x256_S1024x256_2048_0))
    (View.ld S (Rect.unit ![3072, 0] S1024x256.size inb_S4096x256_S1024x256_3072_0))
    (View.ld (iblk m c 2 t) (Rect.unit ![0, 0] S1024x256.size inb_S4096x256_S1024x256_0_0))
    (View.ld (iblk m c 2 t) (Rect.unit ![1024, 0] S1024x256.size inb_S4096x256_S1024x256_1024_0))
    (View.ld (iblk m c 2 t) (Rect.unit ![2048, 0] S1024x256.size inb_S4096x256_S1024x256_2048_0))
    (View.ld (iblk m c 2 t) (Rect.unit ![3072, 0] S1024x256.size inb_S4096x256_S1024x256_3072_0))
    (iblk m c 5 t) (iblk m c 6 t) (iblk m c 3 t) (iblk m c 4 t)

theorem tile_B (c : Dev nD) (t : Fin cfg0.N) (h0 : ¬ t.val % 8 = 0) :
    (outsAt0 m c t.val t.isLt).1 = tileAt m c t (outsAt0 m c (t.val - 1) (Nat.lt_of_le_of_lt (Nat.sub_le _ _) t.isLt)).2 := by
  rw [outsAt0_B m c t h0]
  frame_out
  have hS : View.read (Elt F) (View.whole cc0_scratch0) ((Memref.isWhole_whole cc0_scratch0).unread (outsAt0 m c (t.val - 1) (Nat.lt_of_le_of_lt (Nat.sub_le _ _) t.isLt)).2) = (outsAt0 m c (t.val - 1) (Nat.lt_of_le_of_lt (Nat.sub_le _ _) t.isLt)).2 :=
    (Memref.isWhole_whole cc0_scratch0).read_unread _
  simp only [b0A_m, b0A_l, b0A_a, b0B_m, b0B_l, b0B_a, b1A_m, b1A_l, b1A_a, b1B_m, b1B_l, b1B_a, b2A_m, b2A_l, b2A_a, b2B_m, b2B_l, b2B_a,
    b3A_m, b3A_l, b3A_a, b3B_m, b3B_l, b3B_a, b4A_l, b4A_a, b4B_l, b4B_a]
  simp only [tileAt, tile, sweep, stepK, stepC, st0]
  rw [hS]
  rfl

theorem scr_B (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  first
    | rfl
    | exact (Memref.isWhole_whole cc0_scratch0).read_unread _

/-- The list of stores the first point of a run makes into the roped keys. -/
abbrev pieces (c : Dev nD) (t : Fin cfg0.N) (h0 : t.val % 8 = 0) (k : ℕ) : List (View.Piece (Elt F) S4096x256 .bf16) :=
  pb_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0)
    ((hs0_1 t).unread (iblk m c 1 t)) ((hs0_7 t).unread (iblk m c 7 t)) ((hs0_8 t).unread (iblk m c 8 t)) k

theorem scr_A (c : Dev nD) (t : Fin cfg0.N) (h0 : t.val % 8 = 0) :
    (outsAt0 m c t.val t.isLt).2 = View.canon (pieces m c t h0 4) := by
  rw [outsAt0_A m c t h0]
  dsimp only
  unfold sout0_A_0
  rw [View.read_writes_junk_eq_canon]
  rfl

theorem tile_A (c : Dev nD) (t : Fin cfg0.N) (h0 : t.val % 8 = 0) :
    (outsAt0 m c t.val t.isLt).1 = tileAt m c t (outsAt0 m c t.val t.isLt).2 := by
  rw [scr_A m c t h0, outsAt0_A m c t h0]
  frame_out
  simp only [b0A_m, b0A_l, b0A_a, b0B_m, b0B_l, b0B_a, b1A_m, b1A_l, b1A_a, b1B_m, b1B_l, b1B_a, b2A_m, b2A_l, b2A_a, b2B_m, b2B_l, b2B_a,
    b3A_m, b3A_l, b3A_a, b3B_m, b3B_l, b3B_a, b4A_l, b4A_a, b4B_l, b4B_a]
  simp only [tileAt, tile, sweep, stepK, stepC, st0, View.readCov_eq_canon']
  rfl
end Cert.Attn
-- ==== Proof.Online.lean ====
module

public import proofs.«01_k».proof.Proof.Step

@[expose] public section

set_option maxRecDepth 16384

noncomputable section

namespace Cert.Attn

open Cert.KernelIdeal Cert.KernelIdeal.Gen Idealize.ShloMosaic Idealize.SL.Sem

/-! ### One row of the running softmax, on real scores -/

/-- What a row of the sweep carries after keys whose weights `2 ^ s` sum to `L` and whose weighted values sum to `A`. -/
def Inv (m l a : EReal) (L A : ℝ) : Prop :=
  (m = ⊥ ∧ l = 0 ∧ a = 0 ∧ L = 0 ∧ A = 0) ∨ ∃ M : ℝ, m = (M : EReal) ∧ l = ((Real.rpow 2 (-M) * L : ℝ) : EReal) ∧ a = ((Real.rpow 2 (-M) * A : ℝ) : EReal)

/-- The value is a real number. -/
def IsR (x : EReal) : Prop := ∃ r : ℝ, x = (r : EReal)

theorem isR_iff (x : EReal) : IsR x ↔ x ≠ ⊥ ∧ x ≠ ⊤ := by
  constructor
  · rintro ⟨r, rfl⟩
    exact ⟨EReal.coe_ne_bot r, EReal.coe_ne_top r⟩
  · rintro ⟨h, h'⟩
    exact ⟨x.toReal, (EReal.coe_toReal h' h).symm⟩

theorem IsR.max {x y : EReal} (hx : IsR x) (hy : IsR y) : IsR (max x y) := by
  rcases max_choice x y with h | h <;> rw [h] <;> assumption

theorem isR_fold {n : ℕ} (h0 : 0 < n) (f : Fin n → EReal) (hf : ∀ x, IsR (f x)) (m : EReal) (hm : m = ⊥ ∨ IsR m) :
    IsR (max m (Finset.fold max (⊥ : EReal) f Finset.univ)) := by
  have hF : IsR (Finset.fold max (⊥ : EReal) f Finset.univ) := by
    rw [isR_iff]
    constructor
    · have h := (Finset.le_fold_max (f := f) (b := (⊥ : EReal)) (s := Finset.univ) (f ⟨0, h0⟩)).mpr (Or.inr ⟨_, Finset.mem_univ _, le_refl _⟩)
      exact fun hb => ((isR_iff _).mp (hf ⟨0, h0⟩)).1 (le_bot_iff.mp (hb ▸ h))
    · exact ne_of_lt ((Finset.fold_max_lt (f := f) (b := (⊥ : EReal)) (s := Finset.univ) (⊤ : EReal)).mpr
        ⟨bot_lt_top, fun x _ => lt_top_iff_ne_top.mpr ((isR_iff _).mp (hf x)).2⟩)
  rcases hm with h | h
  · rw [h, max_eq_right bot_le]; exact hF
  · exact h.max hF

theorem Inv.left {m l a : EReal} {L A : ℝ} (h : Inv m l a L A) : m = ⊥ ∨ IsR m := by
  rcases h with h | ⟨M, h, _⟩
  · exact Or.inl h.1
  · exact Or.inr ⟨M, h⟩

theorem exp2_real (x : ℝ) : FloatOps.exp2 (F := Ideal) (φ := .f32) (x : EReal) = ((Real.rpow 2 x : ℝ) : EReal) := rfl

theorem coe_sum {n : ℕ} (f : Fin n → ℝ) : ((∑ j, f j : ℝ) : EReal) = ∑ j, (f j : EReal) := by
  induction n with
  | zero => simp
  | succ n ih => rw [Fin.sum_univ_castSucc, Fin.sum_univ_castSucc, EReal.coe_add, ih]

theorem rpow2_sub (x M : ℝ) : Real.rpow 2 (x - M) = Real.rpow 2 (-M) * Real.rpow 2 x := by
  show (2 : ℝ) ^ (x - M) = (2 : ℝ) ^ (-M) * (2 : ℝ) ^ x
  rw [← Real.rpow_add (by norm_num)]; congr 1; ring

/-- One block of the running softmax: `n` keys of scores `s` and values `v`. -/
theorem Inv.step {n : ℕ} {m l a : EReal} {L A : ℝ} (h : Inv m l a L A) (s v : Fin n → ℝ) (m' : EReal) (hm' : IsR m') :
    Inv m' (FloatOps.exp2 (F := Ideal) (φ := .f32) (m - m') * l + ∑ j, FloatOps.exp2 (F := Ideal) (φ := .f32) ((s j : EReal) - m'))
      (FloatOps.exp2 (F := Ideal) (φ := .f32) (m - m') * a + ∑ j, FloatOps.exp2 (F := Ideal) (φ := .f32) ((s j : EReal) - m') * (v j : EReal))
      (L + ∑ j, Real.rpow 2 (s j)) (A + ∑ j, Real.rpow 2 (s j) * v j) := by
  obtain ⟨M', rfl⟩ := hm'
  right
  refine ⟨M', rfl, ?_⟩
  have e : ∀ j, FloatOps.exp2 (F := Ideal) (φ := .f32) ((s j : EReal) - (M' : EReal)) = ((Real.rpow 2 (-M') * Real.rpow 2 (s j) : ℝ) : EReal) := fun j => by
    rw [← EReal.coe_sub, exp2_real, rpow2_sub]
  have eL : ∑ j, FloatOps.exp2 (F := Ideal) (φ := .f32) ((s j : EReal) - (M' : EReal)) = ((Real.rpow 2 (-M') * ∑ j, Real.rpow 2 (s j) : ℝ) : EReal) := by
    rw [Finset.mul_sum, coe_sum]; exact Finset.sum_congr rfl fun j _ => e j
  have eA : ∑ j, FloatOps.exp2 (F := Ideal) (φ := .f32) ((s j : EReal) - (M' : EReal)) * (v j : EReal) = ((Real.rpow 2 (-M') * ∑ j, Real.rpow 2 (s j) * v j : ℝ) : EReal) := by
    rw [Finset.mul_sum, coe_sum]; exact Finset.sum_congr rfl fun j _ => by rw [e j, ← EReal.coe_mul, mul_assoc]
  rw [eL, eA]
  rcases h with ⟨_, hl, ha, hL, hA⟩ | ⟨M, hm, hl, ha⟩
  · rw [hl, ha, hL, hA, mul_zero, zero_add, zero_add, zero_add, zero_add]; exact ⟨rfl, rfl⟩
  · have k : Real.rpow 2 (M - M') * Real.rpow 2 (-M) = Real.rpow 2 (-M') := by
      show (2 : ℝ) ^ (M - M') * (2 : ℝ) ^ (-M) = (2 : ℝ) ^ (-M')
      rw [← Real.rpow_add (by norm_num)]; congr 1; ring
    rw [hm, hl, ha, ← EReal.coe_sub, exp2_real, ← EReal.coe_mul, ← EReal.coe_mul, ← mul_assoc, ← mul_assoc, k, ← EReal.coe_add, ← EReal.coe_add, ← mul_add, ← mul_add]
    exact ⟨rfl, rfl⟩

/-- The quotient of what the row carries. -/
theorem Inv.quot {m l a : EReal} {L A : ℝ} (h : Inv m l a L A) (hL : 0 < L) : Ideal.div a l = ((A / L : ℝ) : EReal) := by
  rcases h with ⟨_, _, _, h, _⟩ | ⟨M, _, hl, ha⟩
  · exact absurd h hL.ne'
  · have p : 0 < Real.rpow 2 (-M) := Real.rpow_pos_of_pos (by norm_num) _
    rw [hl, ha, Ideal.div_coe (mul_pos p hL).ne', ← EReal.coe_mul]
    congr 1
    field_simp

/-! ### The sums over groups of lanes are sums over keys -/

theorem sum_lanes {M : Type*} [AddCommMonoid M] (f : Fin 1024 → M) :
    ∑ x : Fin 128, (f ⟨x.val, by omega⟩ + f ⟨128 + x.val, by omega⟩ + (f ⟨256 + x.val, by omega⟩ + f ⟨384 + x.val, by omega⟩) +
      (f ⟨512 + x.val, by omega⟩ + f ⟨640 + x.val, by omega⟩ + (f ⟨768 + x.val, by omega⟩ + f ⟨896 + x.val, by omega⟩))) = ∑ j, f j := by
  rw [← Equiv.sum_comp (finProdFinEquiv (m := 8) (n := 128)) f, Fintype.sum_prod_type]
  simp only [Fin.sum_univ_eight, Finset.sum_add_distrib]
  have e : ∀ (k : ℕ) (hk : k < 8) (p : ∀ x : Fin 128, 128 * k + x.val < 1024), ∑ x : Fin 128, f (finProdFinEquiv (m := 8) (n := 128) (⟨k, hk⟩, x)) = ∑ x : Fin 128, f ⟨128 * k + x.val, p x⟩ :=
    fun k hk p => Finset.sum_congr rfl fun x _ => congrArg f (Fin.ext (by show x.val + 128 * k = 128 * k + x.val; omega))
  have e0 := e 0 (by norm_num) (fun x => by omega)
  have e1 := e 1 (by norm_num) (fun x => by omega)
  have e2 := e 2 (by norm_num) (fun x => by omega)
  have e3 := e 3 (by norm_num) (fun x => by omega)
  have e4 := e 4 (by norm_num) (fun x => by omega)
  have e5 := e 5 (by norm_num) (fun x => by omega)
  have e6 := e 6 (by norm_num) (fun x => by omega)
  have e7 := e 7 (by norm_num) (fun x => by omega)
  simp only [Nat.mul_zero, Nat.zero_add] at e0
  refine Eq.trans ?_ (congrArg₂ (· + ·) (congrArg₂ (· + ·) (congrArg₂ (· + ·) (congrArg₂ (· + ·) (congrArg₂ (· + ·) (congrArg₂ (· + ·) (congrArg₂ (· + ·) e0 e1) e2) e3) e4) e5) e6) e7).symm
  simp only [add_assoc]

theorem sum_lanes4 {M : Type*} [AddCommMonoid M] (f : Fin 512 → M) :
    ∑ x : Fin 128, (f ⟨x.val, by omega⟩ + f ⟨128 + x.val, by omega⟩ + (f ⟨256 + x.val, by omega⟩ + f ⟨384 + x.val, by omega⟩)) = ∑ j, f j := by
  rw [← Equiv.sum_comp (finProdFinEquiv (m := 4) (n := 128)) f, Fintype.sum_prod_type]
  simp only [Fin.sum_univ_four, Finset.sum_add_distrib]
  have e : ∀ (k : ℕ) (hk : k < 4) (p : ∀ x : Fin 128, 128 * k + x.val < 512), ∑ x : Fin 128, f (finProdFinEquiv (m := 4) (n := 128) (⟨k, hk⟩, x)) = ∑ x : Fin 128, f ⟨128 * k + x.val, p x⟩ :=
    fun k hk p => Finset.sum_congr rfl fun x _ => congrArg f (Fin.ext (by show x.val + 128 * k = 128 * k + x.val; omega))
  have e0 := e 0 (by norm_num) (fun x => by omega)
  have e1 := e 1 (by norm_num) (fun x => by omega)
  have e2 := e 2 (by norm_num) (fun x => by omega)
  have e3 := e 3 (by norm_num) (fun x => by omega)
  simp only [Nat.mul_zero, Nat.zero_add] at e0
  refine Eq.trans ?_ (congrArg₂ (· + ·) (congrArg₂ (· + ·) (congrArg₂ (· + ·) e0 e1) e2) e3).symm
  simp only [add_assoc]

/-- The 4608 keys are four blocks of 1024 and the 512 cached ones. -/
theorem sum_keys (f : Fin 4608 → ℝ) :
    ∑ j, f j = 0 + (∑ x : Fin 1024, f ⟨x.val, by omega⟩) + (∑ x : Fin 1024, f ⟨1024 + x.val, by omega⟩) + (∑ x : Fin 1024, f ⟨2048 + x.val, by omega⟩)
      + (∑ x : Fin 1024, f ⟨3072 + x.val, by omega⟩) + ∑ x : Fin 512, f ⟨4096 + x.val, by omega⟩ := by
  have h1 := Fin.sum_univ_add (M := ℝ) (a := 4096) (b := 512) f
  have h2 := Fin.sum_univ_add (M := ℝ) (a := 3072) (b := 1024) fun i => f (Fin.castAdd 512 i)
  have h3 := Fin.sum_univ_add (M := ℝ) (a := 2048) (b := 1024) fun i => f (Fin.castAdd 512 (Fin.castAdd 1024 i))
  have h4 := Fin.sum_univ_add (M := ℝ) (a := 1024) (b := 1024) fun i => f (Fin.castAdd 512 (Fin.castAdd 1024 (Fin.castAdd 1024 i)))
  rw [zero_add]
  exact h1.trans (congrArg (· + _) (h2.trans (congrArg (· + _) (h3.trans (congrArg (· + _) h4)))))

theorem negInf : Ideal.ofBits FTy.f32 4286578688#32 = ⊥ := by
  simp [Ideal.ofBits, Ideal.ieee]

/-- The mixing weight of the second map. -/
def lamE (lam : FVec Ideal S4x128 .f32) : EReal :=
  Ideal.exp (∑ d : Fin 128, (lam (ix2 0 d) : EReal) * (lam (ix2 1 d) : EReal)) - Ideal.exp (∑ d : Fin 128, (lam (ix2 2 d) : EReal) * (lam (ix2 3 d) : EReal)) + Ideal.ofBits .f32 1052116297#32

/-- The closing normalisation of a row `D` of 256 columns: root mean square, gain, constant. -/
def fin (D : Fin 256 → EReal) (g : EReal) (x : Fin 256) : EReal :=
  D x * Ideal.rsqrt (Ideal.div (∑ y, D y * D y) (Ideal.ofBits .f32 1132462080#32) + Ideal.ofBits .f32 897988541#32) * g * Ideal.ofBits .f32 1059388764#32

end Cert.Attn
-- ==== Proof.Ref.lean ====
module

public import proofs.«01_k».proof.Proof.Online
public import proofs.«01_k».proof.Proof.Gen.ReferenceIdeal.Read

@[expose] public section

set_option maxRecDepth 16384
noncomputable section

namespace Cert.Attn

open Cert.ReferenceIdeal Cert.ReferenceIdeal.Read Idealize.ShloMosaic Idealize.SL.Sem

/-! ### The reference's rotary tables -/

theorem isR_mul {x y : EReal} (hx : IsR x) (hy : IsR y) : IsR (x * y) := by
  obtain ⟨a, rfl⟩ := hx; obtain ⟨b, rfl⟩ := hy
  exact ⟨a * b, (EReal.coe_mul a b).symm⟩

theorem freq_real (n : ℕ) : IsR (Ideal.pow (Ideal.ofBits FTy.f32 1176256512#32) (Ideal.div (-FloatOps.sitofp (F := Ideal) FTy.f32 (BitVec.ofNat 32 n)) (Ideal.ofBits FTy.f32 1107296256#32))) := by
  have e1 : Ideal.ofBits FTy.f32 1176256512#32 = ((10000 : ℝ) : EReal) := by
    simp [Ideal.ofBits, Ideal.ieee, -EReal.coe_mul]; norm_num
  have e2 : Ideal.ofBits FTy.f32 1107296256#32 = ((32 : ℝ) : EReal) := by
    simp [Ideal.ofBits, Ideal.ieee, -EReal.coe_mul]; norm_num
  have e3 : (FloatOps.sitofp (F := Ideal) FTy.f32 (BitVec.ofNat 32 n) : EReal) = (((BitVec.ofNat 32 n).toInt : ℝ) : EReal) := rfl
  rw [e1, e2, e3, Ideal.div_coe (by norm_num), ← EReal.coe_neg, ← EReal.coe_mul, Ideal.pow_coe_coe]
  exact ⟨_, rfl⟩

theorem ang_real (p : Fin 4096) (e : Fin 64) : IsR (val_main_v33 (F := Ideal) (ix2 p e)) := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14, val_main_v13,
    val_main_v12, val_main_v11, val_main_v10, val_main_v9, val_main_v8, val_main_cst, val_main_cst_0]
  split
  · exact isR_mul ⟨_, rfl⟩ (freq_real _)
  · exact isR_mul ⟨_, rfl⟩ (freq_real _)

/-- The rotary angle of a token and a frequency. -/
def ang (p : Fin 4096) (e : Fin 64) : ℝ := EReal.toReal (val_main_v33 (F := Ideal) (ix2 p e))

theorem ang_at (p : Fin 4096) (e : Fin 64) : (val_main_v33 (F := Ideal) (ix2 p e) : EReal) = (ang p e : EReal) := by
  obtain ⟨r, h⟩ := ang_real p e
  unfold ang; rw [h]; rfl

theorem cos_at (p : Fin 4096) (e : Fin 64) : (val_main_v34 (F := Ideal) (ix2 p e) : EReal) = ((Real.cos (ang p e) : ℝ) : EReal) := by
  rw [val_main_v34_apply]
  show Ideal.cos (val_main_v33 (F := Ideal) (ix2 p e)) = _
  rw [ang_at]; rfl

theorem sin_at (p : Fin 4096) (e : Fin 64) : (val_main_v35 (F := Ideal) (ix2 p e) : EReal) = ((Real.sin (ang p e) : ℝ) : EReal) := by
  rw [val_main_v35_apply]
  show Ideal.sin (val_main_v33 (F := Ideal) (ix2 p e)) = _
  rw [ang_at]; rfl

/-! ### The attention on real numbers -/

/-- A rotated lane of a head: the two halves of the lanes turn into each other. -/
def rope (x : Fin 128 → ℝ) (p : Fin 4096) (d : Fin 128) : ℝ :=
  if h : d.val < 64 then x d * Real.cos (ang p ⟨d.val, h⟩) - x ⟨64 + d.val, by omega⟩ * Real.sin (ang p ⟨d.val, h⟩)
  else x ⟨d.val - 64, by omega⟩ * Real.sin (ang p ⟨d.val - 64, by omega⟩) + x d * Real.cos (ang p ⟨d.val - 64, by omega⟩)

/-- The row of the projection that holds token `p` of batch `b`. -/
def rowOf (b : Fin 8) (p : Fin 4096) : Fin 32768 := ⟨b.val * 4096 + p.val, by omega⟩
/-- The column of the projection that holds lane `x` of head `h` of the queries, keys or values. -/
def colOf (o : Fin 3) (h : Fin 16) (x : Fin 256) : Fin 12288 := ⟨o.val * 4096 + (h.val * 256 + x.val), by omega⟩
/-- The lane of a head that is lane `d` of map `mp`. -/
def lane (mp : Fin 2) (d : Fin 128) : Fin 256 := ⟨mp.val * 128 + d.val, by omega⟩

section Spec
variable (z : Fin 32768 → Fin 12288 → ℝ) (ck cv : Fin 8 → Fin 512 → Fin 16 → Fin 256 → ℝ)

/-- The rotated queries. -/
def qR (b : Fin 8) (i : Fin 4096) (h : Fin 16) (mp : Fin 2) (d : Fin 128) : ℝ := rope (fun d => z (rowOf b i) (colOf 0 h (lane mp d))) i d
/-- The rotated keys of the tokens. -/
def kS (b : Fin 8) (j : Fin 4096) (h : Fin 16) (mp : Fin 2) (d : Fin 128) : ℝ := rope (fun d => z (rowOf b j) (colOf 1 h (lane mp d))) j d
/-- The keys: the tokens' rotated ones, then the cached ones. -/
def kR (b : Fin 8) (j : Fin 4608) (h : Fin 16) (mp : Fin 2) (d : Fin 128) : ℝ :=
  if hj : j.val < 4096 then kS z b ⟨j.val, hj⟩ h mp d else ck b ⟨j.val - 4096, by omega⟩ h (lane mp d)
/-- The values: the tokens', then the cached ones. -/
def vR (b : Fin 8) (j : Fin 4608) (h : Fin 16) (x : Fin 256) : ℝ :=
  if hj : j.val < 4096 then z (rowOf b ⟨j.val, hj⟩) (colOf 2 h x) else cv b ⟨j.val - 4096, by omega⟩ h x
/-- The scores. -/
def sR (b : Fin 8) (h : Fin 16) (mp : Fin 2) (i : Fin 4096) (j : Fin 4608) : ℝ := (∑ d, qR z b i h mp d * kR z ck b j h mp d) * (Real.sqrt 128)⁻¹

end Spec

/-- The softmax-weighted mean of `w` under scores `τ`. -/
def meanE (τ w : Fin 4608 → ℝ) : ℝ := (∑ j, Real.exp (τ j) * w j) / ∑ j, Real.exp (τ j)

/-! ### The reference at an index -/

section AtIndex
variable (x0 : (⟨S32768x12288, .bf16⟩ : BufTy).Contents (Elt Ideal)) (x1 : (⟨S4x128, .f32⟩ : BufTy).Contents (Elt Ideal)) (x2 : (⟨S256, .f32⟩ : BufTy).Contents (Elt Ideal))
  (x3 x4 : (⟨S8x512x16x256, .f32⟩ : BufTy).Contents (Elt Ideal))
variable (z : Fin 32768 → Fin 12288 → ℝ) (ck cv : Fin 8 → Fin 512 → Fin 16 → Fin 256 → ℝ)

theorem refQ (hz : ∀ r c, (x0 (ix2 r c) : EReal) = (z r c : EReal)) (b : Fin 8) (p : Fin 4096) (h : Fin 16) (mp : Fin 2) (d : Fin 128) :
    (val_main_v50 (F := Ideal) x0 (ix5 b p h mp d) : EReal) = (qR z b p h mp d : EReal) := by
  pointwise [val_main_v50, val_main_v49, val_main_v48, val_main_v47, val_main_v46, val_main_v45, val_main_v44, val_main_v43, val_main_v42, val_main_v41,
    val_main_v40, val_main_v39, val_main_v38, val_main_v37, val_main_v36, val_main_v5, val_main_v2, val_main_v1, val_main_v0]
  simp only [cos_at, sin_at, hz]
  unfold qR rope
  split
  · rw [EReal.coe_sub, EReal.coe_mul, EReal.coe_mul]
    refine congrArg₂ (· - ·) (congrArg₂ (· * ·) (congrArg _ (congrArg₂ z rfl (Fin.ext ?_))) rfl) (congrArg₂ (· * ·) (congrArg _ (congrArg₂ z rfl (Fin.ext ?_))) rfl) <;> simp only [colOf, lane] <;> omega
  · rw [EReal.coe_add, EReal.coe_mul, EReal.coe_mul]
    refine congrArg₂ (· + ·) (congrArg₂ (· * ·) (congrArg _ (congrArg₂ z rfl (Fin.ext ?_))) rfl) (congrArg₂ (· * ·) (congrArg _ (congrArg₂ z rfl (Fin.ext ?_))) rfl) <;> simp only [colOf, lane] <;> omega

theorem refK (hz : ∀ r c, (x0 (ix2 r c) : EReal) = (z r c : EReal)) (b : Fin 8) (p : Fin 4096) (h : Fin 16) (mp : Fin 2) (d : Fin 128) :
    (val_main_v65 (F := Ideal) x0 (ix5 b p h mp d) : EReal) = (kS z b p h mp d : EReal) := by
  pointwise [val_main_v65, val_main_v64, val_main_v63, val_main_v62, val_main_v61, val_main_v60, val_main_v59, val_main_v58, val_main_v57, val_main_v56,
    val_main_v55, val_main_v54, val_main_v53, val_main_v52, val_main_v51, val_main_v6, val_main_v3, val_main_v1, val_main_v0]
  simp only [cos_at, sin_at, hz]
  unfold kS rope
  split
  · rw [EReal.coe_sub, EReal.coe_mul, EReal.coe_mul]
    refine congrArg₂ (· - ·) (congrArg₂ (· * ·) (congrArg _ (congrArg₂ z rfl (Fin.ext ?_))) rfl) (congrArg₂ (· * ·) (congrArg _ (congrArg₂ z rfl (Fin.ext ?_))) rfl) <;> simp only [colOf, lane] <;> omega
  · rw [EReal.coe_add, EReal.coe_mul, EReal.coe_mul]
    refine congrArg₂ (· + ·) (congrArg₂ (· * ·) (congrArg _ (congrArg₂ z rfl (Fin.ext ?_))) rfl) (congrArg₂ (· * ·) (congrArg _ (congrArg₂ z rfl (Fin.ext ?_))) rfl) <;> simp only [colOf, lane] <;> omega

theorem scale_eq : Ideal.pow (Ideal.ofBits FTy.f32 1124073472#32) (Ideal.ofBits FTy.f32 3204448256#32) = (((Real.sqrt 128)⁻¹ : ℝ) : EReal) := by
  have e1 : Ideal.ofBits FTy.f32 1124073472#32 = ((128 : ℝ) : EReal) := by
    simp [Ideal.ofBits, Ideal.ieee, -EReal.coe_mul]; norm_num
  have e2 : Ideal.ofBits FTy.f32 3204448256#32 = ((-(1 / 2) : ℝ) : EReal) := by
    simp [Ideal.ofBits, Ideal.ieee, -EReal.coe_mul]; norm_num
  rw [e1, e2, Ideal.pow_coe_coe, Real.sqrt_eq_rpow]
  congr 1
  show (128 : ℝ) ^ (-(1 / 2) : ℝ) = _
  rw [Real.rpow_neg (by norm_num)]

theorem refS (hz : ∀ r c, (x0 (ix2 r c) : EReal) = (z r c : EReal)) (hk : ∀ b j h x, (x3 (ix4 b j h x) : EReal) = (ck b j h x : EReal))
    (b : Fin 8) (i : Fin 4096) (h : Fin 16) (mp : Fin 2) (j : Fin 4608) :
    (val_main_v88 (F := Ideal) x0 x3 (ix5 b h mp i j) : EReal) = (sR z ck b h mp i j : EReal) := by
  pointwise [val_main_v88, val_main_v85, val_main_v83, val_main_v82, val_main_v87, val_main_v86, val_main_cst_4, val_main_cst_5]
  rw [scale_eq]
  unfold sR
  rw [EReal.coe_mul, coe_sum]
  refine congrArg₂ (· * ·) (Finset.sum_congr rfl fun d _ => ?_) rfl
  rw [EReal.coe_mul, refQ x0 z hz]
  refine congrArg₂ (· * ·) rfl ?_
  unfold kR
  split
  · exact refK x0 z hz b _ h mp d
  · exact hk _ _ _ _

end AtIndex
end Cert.Attn
-- ==== Proof.Tables.lean ====
module

public import proofs.«01_k».proof.Proof.Tile
public import proofs.«01_k».proof.Proof.Ref
public import Idealize.ShloMosaic.Lib.Claim

@[expose] public section

set_option maxRecDepth 16384

noncomputable section

namespace Cert.Attn

open Cert.KernelIdeal Cert.KernelIdeal.Gen Idealize.ShloMosaic Idealize.SL.Sem Idealize.ShloMosaic.TcCoe

variable (m : (ℓ : Loc nD τ sig) → Buf (Elt Ideal) ℓ)

/-- The table of cosines the launch reads is the reference's, once for each half of the lanes. -/
theorem V_cos (c : Dev nD) : (V m c main_v28 : Vec Ideal S4096x128 .f32) = concatenate S4096x128 1 [⟨S4096x64, (Cert.ReferenceIdeal.Read.val_main_v34 (F := Ideal) : Vec Ideal S4096x64 .f32)⟩, ⟨S4096x64, (Cert.ReferenceIdeal.Read.val_main_v34 (F := Ideal) : Vec Ideal S4096x64 .f32)⟩] concatenates_S4096x64_S4096x64_S4096x128_d1 := by
  entry_read
  rfl

/-- The table of sines likewise, negated for the first half. -/
theorem V_sin (c : Dev nD) : (V m c main_v30 : Vec Ideal S4096x128 .f32) = concatenate S4096x128 1 [⟨S4096x64, (Host.negf (F := Ideal) (φ := .f32) (Cert.ReferenceIdeal.Read.val_main_v35 (F := Ideal)) : Vec Ideal S4096x64 .f32)⟩, ⟨S4096x64, (Cert.ReferenceIdeal.Read.val_main_v35 (F := Ideal) : Vec Ideal S4096x64 .f32)⟩] concatenates_S4096x64_S4096x64_S4096x128_d1 := by
  entry_read
  rfl

theorem cosT_at (c : Dev nD) (p : Fin 4096) (d : Fin 128) : ((V m c main_v28 : Vec Ideal S4096x128 .f32) (ix2 p d) : EReal)
    = if h : d.val < 64 then ((Real.cos (ang p ⟨d.val, h⟩) : ℝ) : EReal) else ((Real.cos (ang p ⟨d.val - 64, by omega⟩) : ℝ) : EReal) := by
  rw [V_cos]
  pointwise
  split
  · exact cos_at _ _
  · exact cos_at _ _

theorem sinT_at (c : Dev nD) (p : Fin 4096) (d : Fin 128) : ((V m c main_v30 : Vec Ideal S4096x128 .f32) (ix2 p d) : EReal)
    = if h : d.val < 64 then ((-Real.sin (ang p ⟨d.val, h⟩) : ℝ) : EReal) else ((Real.sin (ang p ⟨d.val - 64, by omega⟩) : ℝ) : EReal) := by
  rw [V_sin]
  pointwise
  split
  · rw [EReal.coe_neg]; exact congrArg (fun y : EReal => -y) (sin_at _ _)
  · exact sin_at _ _

/-- The cached keys and values the launch reads: the heads are side by side. -/
theorem ck_at (c : Dev nD) (b : Fin 8) (j : Fin 512) (h : Fin 16) (x : Fin 256) (y : Fin 4096) (hy : y.val = h.val * 256 + x.val) :
    (V m c main_v32 : Vec Ideal S8x512x4096 .bf16) (ix3 b j y) = (m ((c.tc : Thread nD τ).loc main_arg3) : Vec Ideal S8x512x16x256 .f32) (ix4 b j h x) := by
  entry_read
  pointwise
  blk_ext []

theorem cv_at (c : Dev nD) (b : Fin 8) (j : Fin 512) (h : Fin 16) (x : Fin 256) (y : Fin 4096) (hy : y.val = h.val * 256 + x.val) :
    (V m c main_v34 : Vec Ideal S8x512x4096 .bf16) (ix3 b j y) = (m ((c.tc : Thread nD τ).loc main_arg4) : Vec Ideal S8x512x16x256 .f32) (ix4 b j h x) := by
  entry_read
  pointwise
  blk_ext []

theorem g_at (c : Dev nD) (x : Fin 256) :
    (V m c main_v35 : Vec Ideal S1x256 .f32) (ix2 0 x) = (m ((c.tc : Thread nD τ).loc main_arg2) : Vec Ideal S256 .f32) (ix1 x) := by
  entry_read
  pointwise

theorem idx : ∀ t : Fin cfg0.N, win0_0.index t = ![t.val / 128 * 8 + t.val % 8, t.val / 8 % 16] ∧ win0_1.index t = ![t.val / 128, 16 + t.val / 8 % 16] ∧ win0_2.index t = ![t.val / 128, 32 + t.val / 8 % 16]
    ∧ win0_3.index t = ![0, 0] ∧ win0_4.index t = ![0, 0] ∧ win0_5.index t = ![t.val / 128, 0, t.val / 8 % 16] ∧ win0_6.index t = ![t.val / 128, 0, t.val / 8 % 16]
    ∧ win0_7.index t = ![0, 0] ∧ win0_8.index t = ![0, 0] ∧ win0_9.index t = ![t.val / 128 * 8 + t.val % 8, t.val / 8 % 16] ∧ k0_off3 (grid0.coords t) = ![t.val % 8 * 512, 0] :=
  (by decide +kernel : ∀ t : Fin grid0.N, _)

end Cert.Attn
-- ==== Proof.Keys.lean ====
module

public import proofs.«01_k».proof.Proof.Tables

@[expose] public section

set_option maxRecDepth 16384

noncomputable section

namespace Cert.Attn

open Cert.KernelIdeal Cert.KernelIdeal.Gen Idealize.ShloMosaic Idealize.SL.Sem Idealize.ShloMosaic.TcCoe

/-! ### The rotation of a block, at an index -/

/-- The lane a rotation by half the lanes brings in. -/
def flip64 (d : Fin 128) : Fin 128 := ⟨(d.val + 128 - 64) % 128, Nat.mod_lt _ (by norm_num)⟩

theorem lane0_at (r : Fin 1024) (x : Vec Ideal S1024x256 .bf16) (cs sn : Vec Ideal S1024x128 .f32) (d : Fin 128) :
    (k0_pay2 x cs sn (ix2 r (lane 0 d)) : EReal) = (x (ix2 r (lane 0 d)) : EReal) * (cs (ix2 r d) : EReal) + (x (ix2 r (lane 0 (flip64 d))) : EReal) * (sn (ix2 r d) : EReal) := by
  have hd : (0 : Fin 2).val * 128 + d.val < 128 := by show 0 * 128 + d.val < 128; omega
  pointwise [k0_pay2, lane, flip64]

theorem lane1_at (r : Fin 1024) (x : Vec Ideal S1024x256 .bf16) (cs sn : Vec Ideal S1024x128 .f32) (d : Fin 128) :
    (k0_pay2 x cs sn (ix2 r (lane 1 d)) : EReal) = (x (ix2 r (lane 1 d)) : EReal) * (cs (ix2 r d) : EReal) + (x (ix2 r (lane 1 (flip64 d))) : EReal) * (sn (ix2 r d) : EReal) := by
  have hd : ¬ (1 : Fin 2).val * 128 + d.val < 128 := by show ¬ 1 * 128 + d.val < 128; omega
  pointwise [k0_pay2, lane, flip64]

theorem pay2_at (r : Fin 1024) (x : Vec Ideal S1024x256 .bf16) (cs sn : Vec Ideal S1024x128 .f32) (mp : Fin 2) (d : Fin 128) :
    (k0_pay2 x cs sn (ix2 r (lane mp d)) : EReal) = (x (ix2 r (lane mp d)) : EReal) * (cs (ix2 r d) : EReal) + (x (ix2 r (lane mp (flip64 d))) : EReal) * (sn (ix2 r d) : EReal) := by
  rcases (by omega : mp = 0 ∨ mp = 1) with rfl | rfl
  · exact lane0_at r x cs sn d
  · exact lane1_at r x cs sn d

/-- The scale the queries carry. -/
theorem scale2_eq : (Named.named (F := Ideal) (φ := .f32) Cert.KernelIdeal.κ "s" 1040356334#32 : EReal) = (((Real.sqrt 128)⁻¹ * (Real.log 2)⁻¹ : ℝ) : EReal) :=
  IdealRules.named_const.ideal_named_scalar _ _ _ _ rfl

theorem pay4_at (r : Fin 512) (x : Vec Ideal S512x256 .bf16) (cs sn : Vec Ideal S512x128 .f32) (d : Fin 128) :
    (k0_pay4 x cs sn (ix2 r d) : EReal) = ((x (ix2 r (lane 0 d)) : EReal) * (cs (ix2 r d) : EReal) + (x (ix2 r (lane 0 (flip64 d))) : EReal) * (sn (ix2 r d) : EReal)) * (((Real.sqrt 128)⁻¹ * (Real.log 2)⁻¹ : ℝ) : EReal) := by
  rw [← scale2_eq]
  pointwise [k0_pay4, k0_pay3, lane, flip64]

theorem pay5_at (r : Fin 512) (x : Vec Ideal S512x256 .bf16) (cs sn : Vec Ideal S512x128 .f32) (d : Fin 128) :
    (k0_pay5 x cs sn (ix2 r d) : EReal) = ((x (ix2 r (lane 1 d)) : EReal) * (cs (ix2 r d) : EReal) + (x (ix2 r (lane 1 (flip64 d))) : EReal) * (sn (ix2 r d) : EReal)) * (((Real.sqrt 128)⁻¹ * (Real.log 2)⁻¹ : ℝ) : EReal) := by
  rw [← scale2_eq]
  pointwise [k0_pay5, k0_pay3, lane, flip64]

/-- A rotated lane as the launch computes it: the lane times the cosine plus the opposite lane times the signed sine. -/
theorem rope_eq (x : Fin 128 → ℝ) (p : Fin 4096) (d : Fin 128) :
    (x d : EReal) * (if h : d.val < 64 then ((Real.cos (ang p ⟨d.val, h⟩) : ℝ) : EReal) else ((Real.cos (ang p ⟨d.val - 64, by omega⟩) : ℝ) : EReal))
      + (x (flip64 d) : EReal) * (if h : d.val < 64 then ((-Real.sin (ang p ⟨d.val, h⟩) : ℝ) : EReal) else ((Real.sin (ang p ⟨d.val - 64, by omega⟩) : ℝ) : EReal))
      = (rope x p d : EReal) := by
  unfold rope
  split
  · rename_i h
    have e : flip64 d = ⟨64 + d.val, by omega⟩ := Fin.ext (by show (d.val + 128 - 64) % 128 = 64 + d.val; omega)
    rw [e, ← EReal.coe_mul, ← EReal.coe_mul, ← EReal.coe_add]
    congr 1; ring
  · rename_i h
    have e : flip64 d = ⟨d.val - 64, by omega⟩ := Fin.ext (by show (d.val + 128 - 64) % 128 = d.val - 64; omega)
    rw [e, ← EReal.coe_mul, ← EReal.coe_mul, ← EReal.coe_add]
    congr 1; ring

/-! ### The blocks a grid point reads -/

/-- The batch of a grid point. -/
def bOf (t : Fin cfg0.N) : Fin 8 := ⟨t.val / 128, by have h := t.isLt; have e : cfg0.N = 1024 := N_0; omega⟩
/-- The head of a grid point. -/
def hOf (t : Fin cfg0.N) : Fin 16 := ⟨t.val / 8 % 16, Nat.mod_lt _ (by norm_num)⟩
/-- The token of a grid point's query row. -/
def tokOf (t : Fin cfg0.N) (r : Fin 512) : Fin 4096 := ⟨t.val % 8 * 512 + r.val, by omega⟩

section Blocks
variable (m : (ℓ : Loc nD τ sig) → Buf (Elt Ideal) ℓ) (z : Fin 32768 → Fin 12288 → ℝ)

/-- The projection in the entry memory is the real array `z`. -/
def IsZ (c : Dev nD) : Prop := ∀ r x, ((m ((c.tc : Thread nD τ).loc main_arg0) : Vec Ideal S32768x12288 .bf16) (ix2 r x) : EReal) = (z r x : EReal)

variable {m z}

theorem q_blk {c : Dev nD} (hz : IsZ m z c) (t : Fin cfg0.N) (r : Fin 512) (x : Fin 256) :
    ((iblk m c 0 t : Vec Ideal S512x256 .bf16) (ix2 r x) : EReal) = (z (rowOf (bOf t) (tokOf t r)) (colOf 0 (hOf t) x) : EReal) := by
  rw [← hz]
  blk_ext [iblk, V, idx t, rowOf, colOf, bOf, hOf, tokOf]

theorem k_blk {c : Dev nD} (hz : IsZ m z c) (t : Fin cfg0.N) (j : Fin 4096) (x : Fin 256) :
    ((iblk m c 1 t : Vec Ideal S4096x256 .bf16) (ix2 j x) : EReal) = (z (rowOf (bOf t) j) (colOf 1 (hOf t) x) : EReal) := by
  rw [← hz]
  blk_ext [iblk, V, idx t, rowOf, colOf, bOf, hOf]

theorem v_blk {c : Dev nD} (hz : IsZ m z c) (t : Fin cfg0.N) (j : Fin 4096) (x : Fin 256) :
    ((iblk m c 2 t : Vec Ideal S4096x256 .bf16) (ix2 j x) : EReal) = (z (rowOf (bOf t) j) (colOf 2 (hOf t) x) : EReal) := by
  rw [← hz]
  blk_ext [iblk, V, idx t, rowOf, colOf, bOf, hOf]

end Blocks

section Tabs
variable (m : (ℓ : Loc nD τ sig) → Buf (Elt Ideal) ℓ)

theorem cos_blk (c : Dev nD) (t : Fin cfg0.N) (p : Fin 4096) (d : Fin 128) :
    (iblk m c 7 t : Vec Ideal S4096x128 .f32) (ix2 p d) = (V m c main_v28 : Vec Ideal S4096x128 .f32) (ix2 p d) := by
  blk_ext [iblk, idx t]

theorem sin_blk (c : Dev nD) (t : Fin cfg0.N) (p : Fin 4096) (d : Fin 128) :
    (iblk m c 8 t : Vec Ideal S4096x128 .f32) (ix2 p d) = (V m c main_v30 : Vec Ideal S4096x128 .f32) (ix2 p d) := by
  blk_ext [iblk, idx t]

theorem lam_blk (c : Dev nD) (t : Fin cfg0.N) (p : Fin 4) (d : Fin 128) :
    (iblk m c 3 t : Vec Ideal S4x128 .f32) (ix2 p d) = (m ((c.tc : Thread nD τ).loc main_arg1) : Vec Ideal S4x128 .f32) (ix2 p d) := by
  blk_ext [iblk, V, idx t]

theorem g_blk (c : Dev nD) (t : Fin cfg0.N) (x : Fin 256) :
    (iblk m c 4 t : Vec Ideal S1x256 .f32) (ix2 0 x) = (m ((c.tc : Thread nD τ).loc main_arg2) : Vec Ideal S256 .f32) (ix1 x) := by
  rw [← g_at m c x]
  blk_ext [iblk, idx t]

theorem ck_blk (c : Dev nD) (t : Fin cfg0.N) (j : Fin 512) (x : Fin 256) :
    (iblk m c 5 t : Vec Ideal S1x512x256 .bf16) (ix3 0 j x) = (m ((c.tc : Thread nD τ).loc main_arg3) : Vec Ideal S8x512x16x256 .f32) (ix4 (bOf t) j (hOf t) x) := by
  have hx := x.isLt
  have hh := (hOf t).isLt
  rw [← ck_at m c (bOf t) j (hOf t) x ⟨(hOf t).val * 256 + x.val, by omega⟩ rfl]
  blk_ext [iblk, idx t, bOf, hOf]

theorem cv_blk (c : Dev nD) (t : Fin cfg0.N) (j : Fin 512) (x : Fin 256) :
    (iblk m c 6 t : Vec Ideal S1x512x256 .bf16) (ix3 0 j x) = (m ((c.tc : Thread nD τ).loc main_arg4) : Vec Ideal S8x512x16x256 .f32) (ix4 (bOf t) j (hOf t) x) := by
  have hx := x.isLt
  have hh := (hOf t).isLt
  rw [← cv_at m c (bOf t) j (hOf t) x ⟨(hOf t).val * 256 + x.val, by omega⟩ rfl]
  blk_ext [iblk, idx t, bOf, hOf]

end Tabs

end Cert.Attn
-- ==== Proof.Scratch.lean ====
module

public import proofs.«01_k».proof.Proof.Keys

@[expose] public section

set_option maxRecDepth 16384

noncomputable section

namespace Cert.Attn

open Cert.KernelIdeal Cert.KernelIdeal.Gen Idealize.ShloMosaic Idealize.SL.Sem Idealize.ShloMosaic.TcCoe

section Pieces
variable {F : FTy → Type} [FloatOps F] [Named F]
variable (m : (ℓ : Loc nD τ sig) → Buf (Elt F) ℓ)

/-- One trip's store: 1024 rotated key rows. -/
def piece (x1 : Vec F S4096x256 .bf16) (x7 x8 : Vec F S4096x128 .f32) (i : grid0.Coords) (h : k0_cond1 i = 1#1) (k : Fin k0_t1_loop.trips) : View.Piece (Elt F) S4096x256 .bf16 :=
  ⟨Rect.unit (s := S4096x256) (k0_off1 k) S1024x256.size (k0_off1_inb i k h),
    k0_pay2 (View.ld x1 (Rect.unit (s := S4096x256) (k0_off1 k) S1024x256.size (k0_off1_inb i k h)))
      (View.ld x7 (Rect.unit (s := S4096x128) (k0_off2 k) S1024x128.size (k0_off2_inb i k h)))
      (View.ld x8 (Rect.unit (s := S4096x128) (k0_off2 k) S1024x128.size (k0_off2_inb i k h)))⟩

unseal trip_k0_t1 in
theorem pieces_succ (c : Dev nD) (t : Fin cfg0.N) (h0 : t.val % 8 = 0) (k : Fin k0_t1_loop.trips) :
    pieces m c t h0 (k.val + 1) = piece (iblk m c 1 t) (iblk m c 7 t) (iblk m c 8 t) (grid0.coords t) ((hcond0_0 t).mpr h0) k :: pieces m c t h0 k.val := by
  unfold pieces
  rw [pb_k0_t1_succ]
  unfold tripL_k0_t1
  simp only [trip_k0_t1]
  sl_unfold_words
  simp only [View.readAt_eq_ld, Memref.IsWhole.read_unread]
  rfl

theorem off1_eq : ∀ k : Fin k0_t1_loop.trips, k0_off1 k = ![k.val * 1024, 0] := by decide +kernel

theorem off2_eq : ∀ k : Fin k0_t1_loop.trips, k0_off2 k = ![k.val * 1024, 0] := by decide +kernel

theorem off3_eq : ∀ t : Fin cfg0.N, k0_off3 (grid0.coords t) = ![t.val % 8 * 512, 0] := by decide +kernel

theorem trips_4 : k0_t1_loop.trips = 4 := by decide +kernel

theorem mem_pieces (c : Dev nD) (t : Fin cfg0.N) (h0 : t.val % 8 = 0) (p : View.Piece (Elt F) S4096x256 .bf16) :
    ∀ n, n ≤ k0_t1_loop.trips → p ∈ pieces m c t h0 n → ∃ k : Fin k0_t1_loop.trips, p = piece (iblk m c 1 t) (iblk m c 7 t) (iblk m c 8 t) (grid0.coords t) ((hcond0_0 t).mpr h0) k
  | 0, _, hp => absurd hp (by
      rw [show pieces m c t h0 0 = [] from rfl]; exact List.not_mem_nil)
  | n + 1, hn, hp => by
    rw [pieces_succ m c t h0 ⟨n, hn⟩] at hp
    rcases List.mem_cons.mp hp with rfl | hp
    · exact ⟨⟨n, hn⟩, rfl⟩
    · exact mem_pieces c t h0 p n (Nat.le_of_lt hn) hp

theorem pieces_cover (c : Dev nD) (t : Fin cfg0.N) (h0 : t.val % 8 = 0) (y : S4096x256.Idx) : ∃ p ∈ pieces m c t h0 4, y ∈ p.1.set :=
  View.cover_of_tiledL (pieces m c t h0 4) S1024x256.size (by sl_kernel_rfl) y

end Pieces

/-- The rotated key row a trip stores. -/
def rowK (k : Fin k0_t1_loop.trips) (r : Fin 1024) : Fin 4096 := ⟨k.val * 1024 + r.val, by have h := k.isLt; have e := trips_4; omega⟩

section Value
variable {m : (ℓ : Loc nD τ sig) → Buf (Elt Ideal) ℓ} {z : Fin 32768 → Fin 12288 → ℝ}

/-- A rotated block of keys: what the scratch buffer of grid point `t` holds. -/
def IsKeys (z : Fin 32768 → Fin 12288 → ℝ) (t : Fin cfg0.N) (S : Vec Ideal S4096x256 .bf16) : Prop :=
  ∀ j mp d, (S (ix2 j (lane mp d)) : EReal) = (kS z (bOf t) j (hOf t) mp d : EReal)

theorem exists_lane (x : Fin 256) : ∃ mp d, x = lane mp d :=
  ⟨⟨x.val / 128, by omega⟩, ⟨x.val % 128, by omega⟩, Fin.ext (by show x.val = x.val / 128 * 128 + x.val % 128; omega)⟩

theorem exists_row (x : S1024x256.Idx) : ∃ (r : Fin 1024) (y : Fin 256), x = ix2 r y :=
  ⟨x 0, x 1, funext fun a => match a with | ⟨0, _⟩ => rfl | ⟨1, _⟩ => rfl⟩

theorem rope_pay {c : Dev nD} (x : Vec Ideal S1024x256 .bf16) (cs sn : Vec Ideal S1024x128 .f32) (r : Fin 1024) (mp : Fin 2) (d : Fin 128) (xr : Fin 128 → ℝ) (p : Fin 4096)
    (hx : ∀ d, (x (ix2 r (lane mp d)) : EReal) = (xr d : EReal)) (hc : cs (ix2 r d) = (V m c main_v28 : Vec Ideal S4096x128 .f32) (ix2 p d))
    (hs : sn (ix2 r d) = (V m c main_v30 : Vec Ideal S4096x128 .f32) (ix2 p d)) : (k0_pay2 x cs sn (ix2 r (lane mp d)) : EReal) = (rope xr p d : EReal) := by
  refine (pay2_at r x cs sn mp d).trans ?_
  rw [hx, hx, hc, hs, cosT_at, sinT_at]
  exact rope_eq xr p d

theorem ldK (x : Vec Ideal S4096x256 .bf16) (i : grid0.Coords) (h : k0_cond1 i = 1#1) (k : Fin k0_t1_loop.trips) (r : Fin 1024) (y : Fin 256) :
    View.ld x (Rect.unit (s := S4096x256) (k0_off1 k) S1024x256.size (k0_off1_inb i k h)) (ix2 r y) = x (ix2 (rowK k r) y) :=
  View.ld_unit_apply_of x _ _ _ _ _ fun a => match a with
    | ⟨0, _⟩ => by show (rowK k r).val = k0_off1 k 0 + r.val; rw [off1_eq]; rfl
    | ⟨1, _⟩ => by show y.val = k0_off1 k 1 + y.val; rw [off1_eq]; exact (Nat.zero_add _).symm

theorem ldT (x : Vec Ideal S4096x128 .f32) (i : grid0.Coords) (h : k0_cond1 i = 1#1) (k : Fin k0_t1_loop.trips) (r : Fin 1024) (y : Fin 128) :
    View.ld x (Rect.unit (s := S4096x128) (k0_off2 k) S1024x128.size (k0_off2_inb i k h)) (ix2 r y) = x (ix2 (rowK k r) y) :=
  View.ld_unit_apply_of x _ _ _ _ _ fun a => match a with
    | ⟨0, _⟩ => by show (rowK k r).val = k0_off2 k 0 + r.val; rw [off2_eq]; rfl
    | ⟨1, _⟩ => by show y.val = k0_off2 k 1 + y.val; rw [off2_eq]; exact (Nat.zero_add _).symm

theorem piece_at {c : Dev nD} (hz : IsZ m z c) (t : Fin cfg0.N) (h : k0_cond1 (grid0.coords t) = 1#1) (k : Fin k0_t1_loop.trips) (r : Fin 1024) (mp : Fin 2) (d : Fin 128) :
    ((k0_pay2 (View.ld (iblk m c 1 t : Vec Ideal S4096x256 .bf16) (Rect.unit (s := S4096x256) (k0_off1 k) S1024x256.size (k0_off1_inb _ k h)))
      (View.ld (iblk m c 7 t : Vec Ideal S4096x128 .f32) (Rect.unit (s := S4096x128) (k0_off2 k) S1024x128.size (k0_off2_inb _ k h)))
      (View.ld (iblk m c 8 t : Vec Ideal S4096x128 .f32) (Rect.unit (s := S4096x128) (k0_off2 k) S1024x128.size (k0_off2_inb _ k h))) : Vec Ideal S1024x256 .bf16) (ix2 r (lane mp d)) : EReal) = (kS z (bOf t) (rowK k r) (hOf t) mp d : EReal) :=
  rope_pay (c := c) _ _ _ r mp d (fun d => z (rowOf (bOf t) (rowK k r)) (colOf 1 (hOf t) (lane mp d))) (rowK k r)
    (fun d => (ldK _ _ h k r _).trans (k_blk hz t _ _)) ((ldT _ _ h k r d).trans (cos_blk m c t _ _)) ((ldT _ _ h k r d).trans (sin_blk m c t _ _))

/-- The keys as one function of the buffer's index. -/
def keysG (z : Fin 32768 → Fin 12288 → ℝ) (t : Fin cfg0.N) (y : S4096x256.Idx) : EReal :=
  (kS z (bOf t) (y 0) (hOf t) ⟨(y 1).val / 128, by have := (y 1).isLt; change _ < 256 at this; omega⟩ ⟨(y 1).val % 128, by omega⟩ : EReal)

theorem keysG_at (t : Fin cfg0.N) (j : Fin 4096) (mp : Fin 2) (d : Fin 128) : keysG z t (ix2 j (lane mp d)) = (kS z (bOf t) j (hOf t) mp d : EReal) := by
  unfold keysG
  have e1 : (lane mp d).val / 128 = mp.val := by show (mp.val * 128 + d.val) / 128 = mp.val; omega
  have e2 : (lane mp d).val % 128 = d.val := by show (mp.val * 128 + d.val) % 128 = d.val; omega
  exact congrArg₂ (fun a b => (kS z (bOf t) j (hOf t) a b : EReal)) (Fin.ext e1) (Fin.ext e2)

theorem keys_A {c : Dev nD} (hz : IsZ m z c) (t : Fin cfg0.N) (h0 : t.val % 8 = 0) : IsKeys z t (outsAt0 m c t.val t.isLt).2 := by
  intro j mp d
  rw [scr_A m c t h0]
  refine (View.canon_apply_of_pieces (Val := Elt Ideal) (keysG z t) (pieces m c t h0 4) ?_ (ix2 j (lane mp d)) (pieces_cover m c t h0 _)).trans (keysG_at t j mp d)
  intro p hp x
  obtain ⟨k, rfl⟩ := mem_pieces m c t h0 p 4 (by rw [trips_4]) hp
  change S1024x256.Idx at x
  obtain ⟨r, y, rfl⟩ := exists_row x
  obtain ⟨mp, d, rfl⟩ := exists_lane y
  refine (piece_at hz t ((hcond0_0 t).mpr h0) k r mp d).trans ?_
  rw [← keysG_at t]
  refine congrArg (keysG z t) (funext fun a => Fin.ext ?_)
  refine Eq.trans ?_ (ValueKit.rect_emb_unit_val (s := S4096x256) (k0_off1 k) S1024x256.size (k0_off1_inb (grid0.coords t) k ((hcond0_0 t).mpr h0)) (ix2 r (lane mp d)) a).symm
  exact match a with
    | ⟨0, _⟩ => by show (rowK k r).val = k0_off1 k 0 + r.val; rw [off1_eq]; rfl
    | ⟨1, _⟩ => by show (lane mp d).val = k0_off1 k 1 + (lane mp d).val; rw [off1_eq]; exact (Nat.zero_add _).symm

theorem keys {c : Dev nD} (hz : IsZ m z c) : ∀ (n : ℕ) (hn : n < cfg0.N), IsKeys z ⟨n, hn⟩ (outsAt0 m c n hn).2
  | n, hn => by
    by_cases h0 : n % 8 = 0
    · exact keys_A hz ⟨n, hn⟩ h0
    · intro j mp d
      have hb : bOf ⟨n - 1, by omega⟩ = bOf ⟨n, hn⟩ := Fin.ext (by show (n - 1) / 128 = n / 128; omega)
      have hh : hOf ⟨n - 1, by omega⟩ = hOf ⟨n, hn⟩ := Fin.ext (by show (n - 1) / 8 % 16 = n / 8 % 16; omega)
      have ih := keys hz (n - 1) (by omega) j mp d
      rw [hb, hh] at ih
      rw [scr_B m c ⟨n, hn⟩ h0]
      exact ih
termination_by n => n

end Value
end Cert.Attn
-- ==== Proof.Row.lean ====
module

public import proofs.«01_k».proof.Proof.Online

@[expose] public section

set_option maxRecDepth 16384

noncomputable section

namespace Cert.Attn

open Cert.KernelIdeal Cert.KernelIdeal.Gen Idealize.ShloMosaic Idealize.SL.Sem

/-! ### The steps of the sweep, at a row -/

theorem maxK_real (s : FVec Ideal S512x1024 .f32) (m : FVec Ideal S512x1 .f32) (r : Fin 512) (hs : ∀ j : Fin 1024, IsR (s (ix2 r j)))
    (hm : (m (ix2 r 0) : EReal) = ⊥ ∨ IsR (m (ix2 r 0))) : IsR (maxK s m (ix2 r 0)) := by
  pointwise [maxK, rowMax, foldK]
  rw [negInf]
  exact isR_fold (by norm_num) _ (fun x => (((hs _).max (hs _)).max ((hs _).max (hs _))).max (((hs _).max (hs _)).max ((hs _).max (hs _)))) _ hm

theorem maxC_real (s : FVec Ideal S512x512 .f32) (m : FVec Ideal S512x1 .f32) (r : Fin 512) (hs : ∀ j : Fin 512, IsR (s (ix2 r j)))
    (hm : (m (ix2 r 0) : EReal) = ⊥ ∨ IsR (m (ix2 r 0))) : IsR (maxC s m (ix2 r 0)) := by
  pointwise [maxC, rowMax, foldC]
  rw [negInf]
  exact isR_fold (by norm_num) _ (fun x => ((hs _).max (hs _)).max ((hs _).max (hs _))) _ hm

theorem wgtK_at (s : FVec Ideal S512x1024 .f32) (m : FVec Ideal S512x1 .f32) (r : Fin 512) (j : Fin 1024) :
    wgtK s m (ix2 r j) = FloatOps.exp2 (F := Ideal) (φ := .f32) ((s (ix2 r j) : EReal) - (m (ix2 r 0) : EReal)) := by
  pointwise [wgtK]

theorem wgtC_at (s : FVec Ideal S512x512 .f32) (m : FVec Ideal S512x1 .f32) (r : Fin 512) (j : Fin 512) :
    wgtC s m (ix2 r j) = FloatOps.exp2 (F := Ideal) (φ := .f32) ((s (ix2 r j) : EReal) - (m (ix2 r 0) : EReal)) := by
  pointwise [wgtC]

theorem alp_at (m m' : FVec Ideal S512x1 .f32) (r : Fin 512) :
    alp m m' (ix2 r 0) = FloatOps.exp2 (F := Ideal) (φ := .f32) ((m (ix2 r 0) : EReal) - (m' (ix2 r 0) : EReal)) := by
  pointwise [alp]

theorem sumK_at (p : FVec Ideal S512x1024 .f32) (α l : FVec Ideal S512x1 .f32) (r : Fin 512) :
    (sumK p α l (ix2 r 0) : EReal) = (α (ix2 r 0) : EReal) * (l (ix2 r 0) : EReal) + ∑ j : Fin 1024, (p (ix2 r j) : EReal) := by
  pointwise [sumK, rowSum, foldK]
  exact congrArg (_ + ·) (sum_lanes fun j => (p (ix2 r j) : EReal))

theorem sumC_at (p : FVec Ideal S512x512 .f32) (α l : FVec Ideal S512x1 .f32) (r : Fin 512) :
    (sumC p α l (ix2 r 0) : EReal) = (α (ix2 r 0) : EReal) * (l (ix2 r 0) : EReal) + ∑ j : Fin 512, (p (ix2 r j) : EReal) := by
  pointwise [sumC, rowSum, foldC]
  exact congrArg (_ + ·) (sum_lanes4 fun j => (p (ix2 r j) : EReal))

theorem accK_at (p : FVec Ideal S512x1024 .f32) (α : FVec Ideal S512x1 .f32) (a : FVec Ideal S512x256 .f32) (v : FVec Ideal S1024x256 .bf16) (r : Fin 512) (x : Fin 256) :
    (accK p α a v (ix2 r x) : EReal) = (α (ix2 r 0) : EReal) * (a (ix2 r x) : EReal) + ∑ j : Fin 1024, (p (ix2 r j) : EReal) * (v (ix2 j x) : EReal) := by
  pointwise [accK]

theorem accC_at (p : FVec Ideal S512x512 .f32) (α : FVec Ideal S512x1 .f32) (a : FVec Ideal S512x256 .f32) (v : FVec Ideal S512x256 .bf16) (r : Fin 512) (x : Fin 256) :
    (accC p α a v (ix2 r x) : EReal) = (α (ix2 r 0) : EReal) * (a (ix2 r x) : EReal) + ∑ j : Fin 512, (p (ix2 r j) : EReal) * (v (ix2 j x) : EReal) := by
  pointwise [accC]

/-- A row of the carried triple, after keys whose weights sum to `L` and whose weighted values sum to `A`. -/
def RowInv (z : St Ideal) (r : Fin 512) (x : Fin 256) (L A : ℝ) : Prop :=
  Inv (z.m (ix2 r 0) : EReal) (z.l (ix2 r 0) : EReal) (z.a (ix2 r x) : EReal) L A

theorem row_st0 (r : Fin 512) (x : Fin 256) : RowInv st0 r x 0 0 := by
  left
  refine ⟨?_, ?_, ?_, rfl, rfl⟩
  · show (k0_pay6 (F := Ideal) (ix2 r 0) : EReal) = ⊥
    pointwise [k0_pay6]
    exact negInf
  · show (k0_pay7 (F := Ideal) (ix2 r 0) : EReal) = 0
    pointwise [k0_pay7]
  · show (k0_pay8 (F := Ideal) (ix2 r x) : EReal) = 0
    pointwise [k0_pay8]

theorem row_stepK {z : St Ideal} {r : Fin 512} {x : Fin 256} {L A : ℝ} (h : RowInv z r x L A) (s : FVec Ideal S512x1024 .f32) (v : FVec Ideal S1024x256 .bf16)
    (σ w : Fin 1024 → ℝ) (hs : ∀ j, (s (ix2 r j) : EReal) = (σ j : EReal)) (hv : ∀ j, (v (ix2 j x) : EReal) = (w j : EReal)) :
    RowInv (stepK s v z) r x (L + ∑ j, Real.rpow 2 (σ j)) (A + ∑ j, Real.rpow 2 (σ j) * w j) := by
  have hm := maxK_real s z.m r (fun j => ⟨_, hs j⟩) h.left
  have k := Inv.step h σ w _ hm
  unfold RowInv stepK
  dsimp only
  rw [sumK_at, accK_at]
  simp only [alp_at, wgtK_at, hs, hv]
  exact k

theorem row_stepC {z : St Ideal} {r : Fin 512} {x : Fin 256} {L A : ℝ} (h : RowInv z r x L A) (s : FVec Ideal S512x512 .f32) (v : FVec Ideal S512x256 .bf16)
    (σ w : Fin 512 → ℝ) (hs : ∀ j, (s (ix2 r j) : EReal) = (σ j : EReal)) (hv : ∀ j, (v (ix2 j x) : EReal) = (w j : EReal)) :
    RowInv (stepC s v z) r x (L + ∑ j, Real.rpow 2 (σ j)) (A + ∑ j, Real.rpow 2 (σ j) * w j) := by
  have hm := maxC_real s z.m r (fun j => ⟨_, hs j⟩) h.left
  have k := Inv.step h σ w _ hm
  unfold RowInv stepC
  dsimp only
  rw [sumC_at, accC_at]
  simp only [alp_at, wgtC_at, hs, hv]
  exact k

/-- One map's quotient at a row and a column: the softmax-weighted mean of the values, over all 4608 keys. -/
theorem sweep_quot (s0 s1 s2 s3 : FVec Ideal S512x1024 .f32) (sc : FVec Ideal S512x512 .f32) (v0 v1 v2 v3 : FVec Ideal S1024x256 .bf16) (vc : FVec Ideal S512x256 .bf16)
    (r : Fin 512) (x : Fin 256) (σ w : Fin 4608 → ℝ)
    (h0 : ∀ j : Fin 1024, (s0 (ix2 r j) : EReal) = (σ ⟨j.val, by omega⟩ : EReal))
    (h1 : ∀ j : Fin 1024, (s1 (ix2 r j) : EReal) = (σ ⟨1024 + j.val, by omega⟩ : EReal))
    (h2 : ∀ j : Fin 1024, (s2 (ix2 r j) : EReal) = (σ ⟨2048 + j.val, by omega⟩ : EReal))
    (h3 : ∀ j : Fin 1024, (s3 (ix2 r j) : EReal) = (σ ⟨3072 + j.val, by omega⟩ : EReal))
    (hc : ∀ j : Fin 512, (sc (ix2 r j) : EReal) = (σ ⟨4096 + j.val, by omega⟩ : EReal))
    (g0 : ∀ j : Fin 1024, (v0 (ix2 j x) : EReal) = (w ⟨j.val, by omega⟩ : EReal))
    (g1 : ∀ j : Fin 1024, (v1 (ix2 j x) : EReal) = (w ⟨1024 + j.val, by omega⟩ : EReal))
    (g2 : ∀ j : Fin 1024, (v2 (ix2 j x) : EReal) = (w ⟨2048 + j.val, by omega⟩ : EReal))
    (g3 : ∀ j : Fin 1024, (v3 (ix2 j x) : EReal) = (w ⟨3072 + j.val, by omega⟩ : EReal))
    (gc : ∀ j : Fin 512, (vc (ix2 j x) : EReal) = (w ⟨4096 + j.val, by omega⟩ : EReal)) :
    Ideal.div ((sweep s0 s1 s2 s3 sc v0 v1 v2 v3 vc).a (ix2 r x)) ((sweep s0 s1 s2 s3 sc v0 v1 v2 v3 vc).l (ix2 r 0))
      = (((∑ j, Real.rpow 2 (σ j) * w j) / ∑ j, Real.rpow 2 (σ j) : ℝ) : EReal) := by
  have k := row_stepC (row_stepK (row_stepK (row_stepK (row_stepK (row_st0 r x) s0 v0 _ _ h0 g0) s1 v1 _ _ h1 g1) s2 v2 _ _ h2 g2) s3 v3 _ _ h3 g3) sc vc _ _ hc gc
  rw [← sum_keys fun j => Real.rpow 2 (σ j), ← sum_keys fun j => Real.rpow 2 (σ j) * w j] at k
  exact Inv.quot k (Finset.sum_pos (fun j _ => Real.rpow_pos_of_pos (by norm_num) _) ⟨⟨0, by norm_num⟩, Finset.mem_univ _⟩)

/-! ### The tile at an index -/

theorem scoreA_at (q : FVec Ideal S512x128 .bf16) (k : FVec Ideal S1024x256 .bf16) (r : Fin 512) (j : Fin 1024) (qr kr : Fin 128 → ℝ)
    (hq : ∀ d, (q (ix2 r d) : EReal) = (qr d : EReal)) (hk : ∀ d : Fin 128, (k (ix2 j ⟨d.val, by omega⟩) : EReal) = (kr d : EReal)) :
    (scoreK q (slA k) (ix2 r j) : EReal) = ((∑ d, qr d * kr d : ℝ) : EReal) := by
  pointwise [scoreK, slA]
  rw [coe_sum]
  exact Finset.sum_congr rfl fun d _ => by rw [EReal.coe_mul]; exact congrArg₂ (· * ·) (hq d) (hk d)

theorem scoreB_at (q : FVec Ideal S512x128 .bf16) (k : FVec Ideal S1024x256 .bf16) (r : Fin 512) (j : Fin 1024) (qr kr : Fin 128 → ℝ)
    (hq : ∀ d, (q (ix2 r d) : EReal) = (qr d : EReal)) (hk : ∀ d : Fin 128, (k (ix2 j ⟨128 + d.val, by omega⟩) : EReal) = (kr d : EReal)) :
    (scoreK q (slB k) (ix2 r j) : EReal) = ((∑ d, qr d * kr d : ℝ) : EReal) := by
  pointwise [scoreK, slB]
  rw [coe_sum]
  exact Finset.sum_congr rfl fun d _ => by rw [EReal.coe_mul]; exact congrArg₂ (· * ·) (hq d) (hk d)

theorem scoreCA_at (q : FVec Ideal S512x128 .bf16) (k : FVec Ideal S512x256 .bf16) (r : Fin 512) (j : Fin 512) (qr kr : Fin 128 → ℝ)
    (hq : ∀ d, (q (ix2 r d) : EReal) = (qr d : EReal)) (hk : ∀ d : Fin 128, (k (ix2 j ⟨d.val, by omega⟩) : EReal) = (kr d : EReal)) :
    (scoreC q (scA k) (ix2 r j) : EReal) = ((∑ d, qr d * kr d : ℝ) : EReal) := by
  pointwise [scoreC, scA]
  rw [coe_sum]
  exact Finset.sum_congr rfl fun d _ => by rw [EReal.coe_mul]; exact congrArg₂ (· * ·) (hq d) (hk d)

theorem scoreCB_at (q : FVec Ideal S512x128 .bf16) (k : FVec Ideal S512x256 .bf16) (r : Fin 512) (j : Fin 512) (qr kr : Fin 128 → ℝ)
    (hq : ∀ d, (q (ix2 r d) : EReal) = (qr d : EReal)) (hk : ∀ d : Fin 128, (k (ix2 j ⟨128 + d.val, by omega⟩) : EReal) = (kr d : EReal)) :
    (scoreC q (scB k) (ix2 r j) : EReal) = ((∑ d, qr d * kr d : ℝ) : EReal) := by
  pointwise [scoreC, scB]
  rw [coe_sum]
  exact Finset.sum_congr rfl fun d _ => by rw [EReal.coe_mul]; exact congrArg₂ (· * ·) (hq d) (hk d)

theorem pay79_at (ck : FVec Ideal S1x512x256 .bf16) (j : Fin 512) (x : Fin 256) : (k0_pay79 (F := Ideal) ck) (ix2 j x) = ck (ix3 0 j x) := by
  pointwise [k0_pay79]
theorem pay80_at (ck : FVec Ideal S1x512x256 .bf16) (j : Fin 512) (x : Fin 256) : (k0_pay80 (F := Ideal) ck) (ix2 j x) = ck (ix3 0 j x) := by
  pointwise [k0_pay80]

theorem pay1_at (s1 s2 : FVec Ideal S512x1 .f32) (a1 a2 : FVec Ideal S512x256 .f32) (lam : FVec Ideal S4x128 .f32) (g : FVec Ideal S1x256 .f32) (r : Fin 512) (x : Fin 256) :
    (k0_pay1 (F := Ideal) s1 a1 s2 a2 lam (k0_pay97 lam) (k0_pay98 lam) g (ix2 r x) : EReal)
      = fin (fun y => Ideal.div (a1 (ix2 r y)) (s1 (ix2 r 0)) - lamE lam * Ideal.div (a2 (ix2 r y)) (s2 (ix2 r 0))) (g (ix2 0 x)) x := by
  pointwise [k0_pay1, k0_pay97, k0_pay98]
  rfl

/-- A lane of the first map, among the 256 of a head. -/
def dA (d : Fin 128) : Fin 256 := ⟨d.val, by omega⟩
/-- A lane of the second map. -/
def dB (d : Fin 128) : Fin 256 := ⟨128 + d.val, by omega⟩
/-- The keys of the four blocks and of the cache, among all 4608. -/
def j0 (j : Fin 1024) : Fin 4608 := ⟨j.val, by omega⟩
def j1 (j : Fin 1024) : Fin 4608 := ⟨1024 + j.val, by omega⟩
def j2 (j : Fin 1024) : Fin 4608 := ⟨2048 + j.val, by omega⟩
def j3 (j : Fin 1024) : Fin 4608 := ⟨3072 + j.val, by omega⟩
def j4 (j : Fin 512) : Fin 4608 := ⟨4096 + j.val, by omega⟩

/-- One map's softmax-weighted mean of the values: `σ` the scores in base 2. -/
def mean2 (σ w : Fin 4608 → ℝ) : ℝ := (∑ j, Real.rpow 2 (σ j) * w j) / ∑ j, Real.rpow 2 (σ j)

theorem tile_at (qa qb : FVec Ideal S512x128 .bf16) (k0 k1 k2 k3 v0 v1 v2 v3 : FVec Ideal S1024x256 .bf16) (ck cv : FVec Ideal S1x512x256 .bf16)
    (lam : FVec Ideal S4x128 .f32) (g : FVec Ideal S1x256 .f32) (r : Fin 512) (x : Fin 256)
    (qar qbr : Fin 128 → ℝ) (kA kB : Fin 4608 → Fin 128 → ℝ) (w : Fin 4608 → Fin 256 → ℝ)
    (hqa : ∀ d, (qa (ix2 r d) : EReal) = (qar d : EReal)) (hqb : ∀ d, (qb (ix2 r d) : EReal) = (qbr d : EReal))
    (hA0 : ∀ (j : Fin 1024) (d : Fin 128), (k0 (ix2 j (dA d)) : EReal) = (kA (j0 j) d : EReal))
    (hA1 : ∀ (j : Fin 1024) (d : Fin 128), (k1 (ix2 j (dA d)) : EReal) = (kA (j1 j) d : EReal))
    (hA2 : ∀ (j : Fin 1024) (d : Fin 128), (k2 (ix2 j (dA d)) : EReal) = (kA (j2 j) d : EReal))
    (hA3 : ∀ (j : Fin 1024) (d : Fin 128), (k3 (ix2 j (dA d)) : EReal) = (kA (j3 j) d : EReal))
    (hAc : ∀ (j : Fin 512) (d : Fin 128), (ck (ix3 0 j (dA d)) : EReal) = (kA (j4 j) d : EReal))
    (hB0 : ∀ (j : Fin 1024) (d : Fin 128), (k0 (ix2 j (dB d)) : EReal) = (kB (j0 j) d : EReal))
    (hB1 : ∀ (j : Fin 1024) (d : Fin 128), (k1 (ix2 j (dB d)) : EReal) = (kB (j1 j) d : EReal))
    (hB2 : ∀ (j : Fin 1024) (d : Fin 128), (k2 (ix2 j (dB d)) : EReal) = (kB (j2 j) d : EReal))
    (hB3 : ∀ (j : Fin 1024) (d : Fin 128), (k3 (ix2 j (dB d)) : EReal) = (kB (j3 j) d : EReal))
    (hBc : ∀ (j : Fin 512) (d : Fin 128), (ck (ix3 0 j (dB d)) : EReal) = (kB (j4 j) d : EReal))
    (g0 : ∀ (j : Fin 1024) (y : Fin 256), (v0 (ix2 j y) : EReal) = (w (j0 j) y : EReal))
    (g1 : ∀ (j : Fin 1024) (y : Fin 256), (v1 (ix2 j y) : EReal) = (w (j1 j) y : EReal))
    (g2 : ∀ (j : Fin 1024) (y : Fin 256), (v2 (ix2 j y) : EReal) = (w (j2 j) y : EReal))
    (g3 : ∀ (j : Fin 1024) (y : Fin 256), (v3 (ix2 j y) : EReal) = (w (j3 j) y : EReal))
    (gc : ∀ (j : Fin 512) (y : Fin 256), (cv (ix3 0 j y) : EReal) = (w (j4 j) y : EReal)) :
    (tile qa qb k0 k1 k2 k3 v0 v1 v2 v3 ck cv lam g (ix2 r x) : EReal)
      = fin (fun y => ((mean2 (fun j => ∑ d, qar d * kA j d) (fun j => w j y) : ℝ) : EReal)
          - lamE lam * ((mean2 (fun j => ∑ d, qbr d * kB j d) (fun j => w j y) : ℝ) : EReal)) (g (ix2 0 x)) x := by
  have hA := fun y : Fin 256 => sweep_quot (scoreK qa (slA k0)) (scoreK qa (slA k1)) (scoreK qa (slA k2)) (scoreK qa (slA k3)) (scoreC qa (scA (k0_pay79 ck))) v0 v1 v2 v3 (k0_pay80 cv) r y (fun j => ∑ d, qar d * kA j d) (fun j => w j y)
    (fun j => scoreA_at qa k0 r j qar (kA (j0 j)) hqa (hA0 j))
    (fun j => scoreA_at qa k1 r j qar (kA (j1 j)) hqa (hA1 j))
    (fun j => scoreA_at qa k2 r j qar (kA (j2 j)) hqa (hA2 j))
    (fun j => scoreA_at qa k3 r j qar (kA (j3 j)) hqa (hA3 j))
    (fun j => scoreCA_at qa (k0_pay79 ck) r j qar (kA (j4 j)) hqa fun d => (pay79_at ck j _).trans (hAc j d))
    (fun j => g0 j y) (fun j => g1 j y) (fun j => g2 j y) (fun j => g3 j y) (fun j => (pay80_at cv j y).trans (gc j y))
  have hB := fun y : Fin 256 => sweep_quot (scoreK qb (slB k0)) (scoreK qb (slB k1)) (scoreK qb (slB k2)) (scoreK qb (slB k3)) (scoreC qb (scB (k0_pay79 ck))) v0 v1 v2 v3 (k0_pay80 cv) r y (fun j => ∑ d, qbr d * kB j d) (fun j => w j y)
    (fun j => scoreB_at qb k0 r j qbr (kB (j0 j)) hqb (hB0 j))
    (fun j => scoreB_at qb k1 r j qbr (kB (j1 j)) hqb (hB1 j))
    (fun j => scoreB_at qb k2 r j qbr (kB (j2 j)) hqb (hB2 j))
    (fun j => scoreB_at qb k3 r j qbr (kB (j3 j)) hqb (hB3 j))
    (fun j => scoreCB_at qb (k0_pay79 ck) r j qbr (kB (j4 j)) hqb fun d => (pay79_at ck j _).trans (hBc j d))
    (fun j => g0 j y) (fun j => g1 j y) (fun j => g2 j y) (fun j => g3 j y) (fun j => (pay80_at cv j y).trans (gc j y))
  unfold tile
  rw [pay1_at]
  refine congrArg (fun D => fin D (g (ix2 0 x)) x) (funext fun y => ?_)
  rw [hA y, hB y]
  rfl

end Cert.Attn
-- ==== Proof.Ref2.lean ====
module

public import proofs.«01_k».proof.Proof.Ref

@[expose] public section

set_option maxRecDepth 16384
noncomputable section

namespace Cert.Attn

open Cert.ReferenceIdeal Cert.ReferenceIdeal.Read Idealize.ShloMosaic Idealize.SL.Sem

section AtIndex
variable (x0 : (⟨S32768x12288, .bf16⟩ : BufTy).Contents (Elt Ideal)) (x1 : (⟨S4x128, .f32⟩ : BufTy).Contents (Elt Ideal)) (x2 : (⟨S256, .f32⟩ : BufTy).Contents (Elt Ideal))
  (x3 x4 : (⟨S8x512x16x256, .f32⟩ : BufTy).Contents (Elt Ideal))
variable (z : Fin 32768 → Fin 12288 → ℝ) (ck cv : Fin 8 → Fin 512 → Fin 16 → Fin 256 → ℝ)

/-- The reference's row maximum is a real number. -/
theorem refMax (hz : ∀ r c, (x0 (ix2 r c) : EReal) = (z r c : EReal)) (hk : ∀ b j h x, (x3 (ix4 b j h x) : EReal) = (ck b j h x : EReal))
    (b : Fin 8) (i : Fin 4096) (h : Fin 16) (mp : Fin 2) :
    IsR (max (⊥ : EReal) (val_main_v89 (F := Ideal) x0 x3 (ix4 b h mp i))) := by
  pointwise [val_main_v89, val_main_cst_6]
  rw [negInf]
  exact isR_fold (by norm_num) _ (fun j => ⟨_, refS x0 x3 z ck hz hk b i h mp j⟩) _ (Or.inl rfl)

theorem refExp (hz : ∀ r c, (x0 (ix2 r c) : EReal) = (z r c : EReal)) (hk : ∀ b j h x, (x3 (ix4 b j h x) : EReal) = (ck b j h x : EReal))
    (b : Fin 8) (i : Fin 4096) (h : Fin 16) (mp : Fin 2) :
    ∃ M : ℝ, ∀ j : Fin 4608, (val_main_v95 (F := Ideal) x0 x3 (ix5 b h mp i j) : EReal) = ((Real.exp (-M) * Real.exp (sR z ck b h mp i j) : ℝ) : EReal) := by
  obtain ⟨M, hM⟩ := refMax x0 x3 z ck hz hk b i h mp
  refine ⟨M, fun j => ?_⟩
  have e : (val_main_v93 (F := Ideal) x0 x3 (ix5 b h mp i j) : EReal) = (M : EReal) := by
    rw [val_main_v93_apply, val_main_v92_apply, val_main_v91_apply, val_main_v90_apply]
    have ei : idx_main_v92 (idx_main_v93 (ix5 b h mp i j)) = ix4 b h mp i :=
      funext fun a => match a with | ⟨0, _⟩ => rfl | ⟨1, _⟩ => rfl | ⟨2, _⟩ => rfl | ⟨3, _⟩ => rfl
    rw [ei]
    rw [← negInf] at hM
    generalize val_main_v89 (F := Ideal) x0 x3 (ix4 b h mp i) = y at hM ⊢
    exact hM
  rw [val_main_v95_apply, val_main_v94_apply]
  rw [e, refS x0 x3 z ck hz hk b i h mp j]
  show Ideal.exp ((sR z ck b h mp i j : EReal) - (M : EReal)) = _
  rw [← EReal.coe_sub, Ideal.exp_coe, ← Real.exp_add, sub_eq_neg_add]

/-- The reference's softmax. -/
theorem refP (hz : ∀ r c, (x0 (ix2 r c) : EReal) = (z r c : EReal)) (hk : ∀ b j h x, (x3 (ix4 b j h x) : EReal) = (ck b j h x : EReal))
    (b : Fin 8) (i : Fin 4096) (h : Fin 16) (mp : Fin 2) (j : Fin 4608) :
    (val_main_v99 (F := Ideal) x0 x3 (ix5 b h mp i j) : EReal) = ((Real.exp (sR z ck b h mp i j) / ∑ k, Real.exp (sR z ck b h mp i k) : ℝ) : EReal) := by
  obtain ⟨M, hM⟩ := refExp x0 x3 z ck hz hk b i h mp
  have e : (val_main_v96 (F := Ideal) x0 x3 (ix4 b h mp i) : EReal) = ((Real.exp (-M) * ∑ k, Real.exp (sR z ck b h mp i k) : ℝ) : EReal) := by
    rw [val_main_v96_apply]
    have c0 : (val_main_cst_8 (F := Ideal) (Shape.Idx.first Facts₀.h_S_) : EReal) = 0 := by pointwise [val_main_cst_8]
    rw [c0, zero_add, Finset.mul_sum, coe_sum]
    refine Finset.sum_congr rfl fun k _ => ?_
    rw [← hM k]
    exact congrArg (val_main_v95 (F := Ideal) x0 x3) (funext fun a => match a with | ⟨0, _⟩ => rfl | ⟨1, _⟩ => rfl | ⟨2, _⟩ => rfl | ⟨3, _⟩ => rfl | ⟨4, _⟩ => rfl)
  have p : 0 < ∑ k, Real.exp (sR z ck b h mp i k) := Finset.sum_pos (fun _ _ => Real.exp_pos _) ⟨⟨0, by norm_num⟩, Finset.mem_univ _⟩
  have e' : (val_main_v98 (F := Ideal) x0 x3 (ix5 b h mp i j) : EReal) = ((Real.exp (-M) * ∑ k, Real.exp (sR z ck b h mp i k) : ℝ) : EReal) := by
    rw [val_main_v98_apply, val_main_v97_apply, ← e]
    exact congrArg (val_main_v96 (F := Ideal) x0 x3) (funext fun a => match a with | ⟨0, _⟩ => rfl | ⟨1, _⟩ => rfl | ⟨2, _⟩ => rfl | ⟨3, _⟩ => rfl)
  rw [val_main_v99_apply]
  rw [e', hM j]
  show Ideal.div _ _ = _
  rw [Ideal.div_coe (mul_pos (Real.exp_pos _) p).ne', ← EReal.coe_mul]
  have := (Real.exp_pos (-M)).ne'
  congr 1
  field_simp

theorem refLam (i) : (val_main_v81 (F := Ideal) x1 i : EReal) = lamE x1 := by
  pointwise [val_main_v81, val_main_v80, val_main_v79, val_main_v78, val_main_v77, val_main_v76, val_main_v75, val_main_v74, val_main_v73, val_main_v72,
    val_main_v71, val_main_v70, val_main_v69, val_main_v68, val_main_v67, val_main_v66, val_main_cst_1, val_main_cst_2, val_main_cst_3]
  rfl

theorem lam_real (hl : ∀ r d, IsR (x1 (ix2 r d))) : IsR (lamE x1) := by
  have s : ∀ r r' : Fin 4, IsR (∑ d : Fin 128, (x1 (ix2 r d) : EReal) * (x1 (ix2 r' d) : EReal)) := fun r r' => by
    choose f hf using fun d => isR_mul (hl r d) (hl r' d)
    exact ⟨∑ d, f d, by rw [coe_sum]; exact Finset.sum_congr rfl fun d _ => hf d⟩
  obtain ⟨a, ha⟩ := s 0 1
  obtain ⟨b, hb⟩ := s 2 3
  have c : IsR (Ideal.ofBits .f32 1052116297#32) := by
    simp [Ideal.ofBits, Ideal.ieee, -EReal.coe_mul]; exact ⟨_, rfl⟩
  obtain ⟨c, hc⟩ := c
  unfold lamE
  rw [ha, hb, hc, Ideal.exp_coe, Ideal.exp_coe, ← EReal.coe_sub, ← EReal.coe_add]
  exact ⟨_, rfl⟩

theorem refV (hz : ∀ r c, (x0 (ix2 r c) : EReal) = (z r c : EReal)) (hv : ∀ b j h x, (x4 (ix4 b j h x) : EReal) = (cv b j h x : EReal))
    (b : Fin 8) (j : Fin 4608) (h : Fin 16) (x : Fin 256) :
    (val_main_v84 (F := Ideal) x0 x4 (ix4 b j h x) : EReal) = (vR z cv b j h x : EReal) := by
  pointwise [val_main_v84, val_main_v7, val_main_v4, val_main_v1, val_main_v0]
  unfold vR
  split
  · rw [hz]
    exact congrArg _ (congrArg₂ z rfl (Fin.ext rfl))
  · exact hv _ _ _ _

theorem refA (hz : ∀ r c, (x0 (ix2 r c) : EReal) = (z r c : EReal)) (hk : ∀ b j h x, (x3 (ix4 b j h x) : EReal) = (ck b j h x : EReal))
    (b : Fin 8) (h : Fin 16) (i : Fin 4096) (j : Fin 4608) (l : ℝ) (hl : lamE x1 = (l : EReal)) :
    (val_main_v106 (F := Ideal) x0 x1 x3 (ix4 b h i j) : EReal)
      = ((Real.exp (sR z ck b h 0 i j) / (∑ k, Real.exp (sR z ck b h 0 i k)) - l * (Real.exp (sR z ck b h 1 i j) / ∑ k, Real.exp (sR z ck b h 1 i k)) : ℝ) : EReal) := by
  have hb := b.isLt
  have hh := h.isLt
  have hi := i.isLt
  have hj := j.isLt
  have a0 : (val_main_v101 (F := Ideal) x0 x3 (ix4 b h i j) : EReal) = ((Real.exp (sR z ck b h 0 i j) / ∑ k, Real.exp (sR z ck b h 0 i k) : ℝ) : EReal) := by
    rw [val_main_v101_apply, val_main_v100_apply]
    refine (congrArg (val_main_v99 (F := Ideal) x0 x3) ?_).trans (refP x0 x3 z ck hz hk b i h 0 j)
    exact funext fun a => Fin.ext (match a with
      | ⟨0, _⟩ => by show (((b.val * 16 + h.val) * 4096 + i.val) * 4608 + j.val) / 301989888 = b.val; omega
      | ⟨1, _⟩ => by show (((b.val * 16 + h.val) * 4096 + i.val) * 4608 + j.val) / 18874368 % 16 = h.val; omega
      | ⟨2, _⟩ => rfl
      | ⟨3, _⟩ => by show (((b.val * 16 + h.val) * 4096 + i.val) * 4608 + j.val) / 4608 % 4096 = i.val; omega
      | ⟨4, _⟩ => by show (((b.val * 16 + h.val) * 4096 + i.val) * 4608 + j.val) % 4608 = j.val; omega)
  have a1 : (val_main_v103 (F := Ideal) x0 x3 (ix4 b h i j) : EReal) = ((Real.exp (sR z ck b h 1 i j) / ∑ k, Real.exp (sR z ck b h 1 i k) : ℝ) : EReal) := by
    rw [val_main_v103_apply, val_main_v102_apply]
    refine (congrArg (val_main_v99 (F := Ideal) x0 x3) ?_).trans (refP x0 x3 z ck hz hk b i h 1 j)
    exact funext fun a => Fin.ext (match a with
      | ⟨0, _⟩ => by show (((b.val * 16 + h.val) * 4096 + i.val) * 4608 + j.val) / 301989888 = b.val; omega
      | ⟨1, _⟩ => by show (((b.val * 16 + h.val) * 4096 + i.val) * 4608 + j.val) / 18874368 % 16 = h.val; omega
      | ⟨2, _⟩ => rfl
      | ⟨3, _⟩ => by show (((b.val * 16 + h.val) * 4096 + i.val) * 4608 + j.val) / 4608 % 4096 = i.val; omega
      | ⟨4, _⟩ => by show (((b.val * 16 + h.val) * 4096 + i.val) * 4608 + j.val) % 4608 = j.val; omega)
  have a2 : (val_main_v104 (F := Ideal) x1 (ix4 b h i j) : EReal) = (l : EReal) := by
    rw [val_main_v104_apply, refLam, hl]
  rw [val_main_v106_apply, val_main_v105_apply]
  rw [a0, a1, a2, EReal.coe_sub, EReal.coe_mul]
  rfl

/-- The attention's output before the closing normalisation. -/
theorem refO (hz : ∀ r c, (x0 (ix2 r c) : EReal) = (z r c : EReal)) (hk : ∀ b j h x, (x3 (ix4 b j h x) : EReal) = (ck b j h x : EReal))
    (hv : ∀ b j h x, (x4 (ix4 b j h x) : EReal) = (cv b j h x : EReal)) (l : ℝ) (hl : lamE x1 = (l : EReal))
    (b : Fin 8) (i : Fin 4096) (h : Fin 16) (x : Fin 256) :
    (val_main_v108 (F := Ideal) x0 x1 x3 x4 (ix4 b i h x) : EReal)
      = ((meanE (sR z ck b h 0 i) (fun j => vR z cv b j h x) : ℝ) : EReal) - lamE x1 * ((meanE (sR z ck b h 1 i) (fun j => vR z cv b j h x) : ℝ) : EReal) := by
  rw [val_main_v108_apply, val_main_v107_apply, hl, ← EReal.coe_mul, ← EReal.coe_sub]
  have e : ∀ k : Fin 4608, (val_main_v84 (F := Ideal) x0 x4 (lidx_main_v107 (idx_main_v108 (ix4 b i h x)) k) : EReal) * (val_main_v106 (F := Ideal) x0 x1 x3 (ridx_main_v107 (idx_main_v108 (ix4 b i h x)) k) : EReal)
      = ((vR z cv b k h x * (Real.exp (sR z ck b h 0 i k) / (∑ k, Real.exp (sR z ck b h 0 i k)) - l * (Real.exp (sR z ck b h 1 i k) / ∑ k, Real.exp (sR z ck b h 1 i k))) : ℝ) : EReal) := fun k => by
    rw [EReal.coe_mul, ← refV x0 x4 z cv hz hv, ← refA x0 x1 x3 z ck hz hk b h i k l hl]
    refine congrArg₂ (· * ·) (congrArg (val_main_v84 (F := Ideal) x0 x4) ?_) (congrArg (val_main_v106 (F := Ideal) x0 x1 x3) ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl | ⟨2, _⟩ => rfl | ⟨3, _⟩ => rfl
  refine (Finset.sum_congr rfl fun k _ => e k).trans ?_
  rw [← coe_sum]
  congr 1
  unfold meanE
  rw [Finset.sum_div, Finset.sum_div, Finset.mul_sum, ← Finset.sum_sub_distrib]
  exact Finset.sum_congr rfl fun k _ => by ring

/-- The reference's result at an index. -/
theorem ref_at (hz : ∀ r c, (x0 (ix2 r c) : EReal) = (z r c : EReal)) (hk : ∀ b j h x, (x3 (ix4 b j h x) : EReal) = (ck b j h x : EReal))
    (hv : ∀ b j h x, (x4 (ix4 b j h x) : EReal) = (cv b j h x : EReal)) (hlam : ∀ r d, IsR (x1 (ix2 r d)))
    (b : Fin 8) (i : Fin 4096) (h : Fin 16) (x : Fin 256) (R : Fin 32768) (C : Fin 4096) (hR : R.val = b.val * 4096 + i.val) (hC : C.val = h.val * 256 + x.val) :
    (val_main_v125 (F := Ideal) x0 x1 x2 x3 x4 (ix2 R C) : EReal)
      = fin (fun y => ((meanE (sR z ck b h 0 i) (fun j => vR z cv b j h y) : ℝ) : EReal) - lamE x1 * ((meanE (sR z ck b h 1 i) (fun j => vR z cv b j h y) : ℝ) : EReal)) (x2 (ix1 x)) x := by
  obtain ⟨l, hl⟩ := lam_real x1 hlam
  pointwise [val_main_v125, val_main_v124, val_main_v123, val_main_v122, val_main_v121, val_main_v120, val_main_v119, val_main_v118, val_main_v117, val_main_v116,
    val_main_v115, val_main_v114, val_main_v113, val_main_v112, val_main_v111, val_main_v110, val_main_v109, val_main_cst_9, val_main_cst_10, val_main_cst_11, val_main_cst_12]
  have e1 : (⟨R.val / 4096, by omega⟩ : Fin 8) = b := Fin.ext (by show R.val / 4096 = b.val; omega)
  have e2 : (⟨R.val % 4096, by omega⟩ : Fin 4096) = i := Fin.ext (by show R.val % 4096 = i.val; omega)
  have e3 : (⟨C.val / 256, by omega⟩ : Fin 16) = h := Fin.ext (by show C.val / 256 = h.val; omega)
  have e4 : (⟨C.val % 256, by omega⟩ : Fin 256) = x := Fin.ext (by show C.val % 256 = x.val; omega)
  rw [e1, e2, e3, e4]
  simp only [refO x0 x1 x3 x4 z ck cv hz hk hv l hl]
  rfl

end AtIndex
end Cert.Attn
-- ==== Proof.Final.lean ====
module

public import proofs.«01_k».proof.Proof.Scratch
public import proofs.«01_k».proof.Proof.Row
public import proofs.«01_k».proof.Proof.Ref2
public import proofs.«01_k».proof.Proof.Gen.KernelIdeal.Value

@[expose] public section

set_option maxRecDepth 16384

noncomputable section

namespace Cert.Attn

open Cert.KernelIdeal Cert.KernelIdeal.Gen Idealize.ShloMosaic Idealize.SL.Sem Idealize.ShloMosaic.TcCoe

/-- A mean in powers of two at scores scaled by `1 / (√128 ln 2)` is the softmax mean at scores scaled by `1 / √128`. -/
theorem mean2_eq (Q : Fin 128 → ℝ) (K : Fin 4608 → Fin 128 → ℝ) (w : Fin 4608 → ℝ) :
    mean2 (fun j => ∑ d, Q d * ((Real.sqrt 128)⁻¹ * (Real.log 2)⁻¹) * K j d) w = meanE (fun j => (∑ d, Q d * K j d) * (Real.sqrt 128)⁻¹) w := by
  have h2 : Real.log 2 ≠ 0 := (Real.log_pos (by norm_num)).ne'
  have e : ∀ j, Real.rpow 2 (∑ d, Q d * ((Real.sqrt 128)⁻¹ * (Real.log 2)⁻¹) * K j d) = Real.exp ((∑ d, Q d * K j d) * (Real.sqrt 128)⁻¹) := fun j => by
    have es : ∑ d, Q d * ((Real.sqrt 128)⁻¹ * (Real.log 2)⁻¹) * K j d = (∑ d, Q d * K j d) * (Real.sqrt 128)⁻¹ * (Real.log 2)⁻¹ := by
      rw [Finset.sum_mul, Finset.sum_mul]
      exact Finset.sum_congr rfl fun d _ => by ring
    rw [es]
    show (2 : ℝ) ^ (_ : ℝ) = _
    rw [Real.rpow_def_of_pos (by norm_num)]
    congr 1
    field_simp
  unfold mean2 meanE
  simp only [e]

section Value
variable {m : (ℓ : Loc nD τ sig) → Buf (Elt Ideal) ℓ} {z : Fin 32768 → Fin 12288 → ℝ} {ck cv : Fin 8 → Fin 512 → Fin 16 → Fin 256 → ℝ}

/-! ### Loads of a grid point -/

theorem ldS (S : Vec Ideal S4096x256 .bf16) (o : ℕ) (inb : ∀ a, (![o, 0] : Fin 2 → ℕ) a + S1024x256.size a ≤ S4096x256.size a) (j : Fin 1024) (y : Fin 256) (J : Fin 4096) (hJ : J.val = o + j.val) :
    View.ld S (Rect.unit (s := S4096x256) ![o, 0] S1024x256.size inb) (ix2 j y) = S (ix2 J y) :=
  View.ld_unit_apply_of S _ _ _ _ _ fun a => match a with
    | ⟨0, _⟩ => hJ
    | ⟨1, _⟩ => (Nat.zero_add _).symm

theorem ldQ (x : Vec Ideal S4096x128 .f32) (t : Fin cfg0.N) (r : Fin 512) (d : Fin 128) :
    View.ld x (Rect.unit (s := S4096x128) (k0_off3 (grid0.coords t)) S512x128.size (k0_off3_inb _)) (ix2 r d) = x (ix2 (tokOf t r) d) :=
  View.ld_unit_apply_of x _ _ _ _ _ fun a => match a with
    | ⟨0, _⟩ => by show (tokOf t r).val = k0_off3 (grid0.coords t) 0 + r.val; rw [off3_eq]; rfl
    | ⟨1, _⟩ => by show d.val = k0_off3 (grid0.coords t) 1 + d.val; rw [off3_eq]; exact (Nat.zero_add _).symm

theorem key_at {t : Fin cfg0.N} {S : Vec Ideal S4096x256 .bf16} (hS : IsKeys z t S) (o : ℕ) (inb : ∀ a, (![o, 0] : Fin 2 → ℕ) a + S1024x256.size a ≤ S4096x256.size a)
    (j : Fin 1024) (y : Fin 256) (mp : Fin 2) (d : Fin 128) (hy : y = lane mp d) (J : Fin 4608) (hJ : J.val = o + j.val) (hlt : J.val < 4096) :
    (View.ld S (Rect.unit (s := S4096x256) ![o, 0] S1024x256.size inb) (ix2 j y) : EReal) = (kR z ck (bOf t) J (hOf t) mp d : EReal) := by
  rw [hy, ldS S o inb j _ ⟨J.val, hlt⟩ hJ, hS]
  unfold kR
  rw [dif_pos hlt]

theorem val_at {c : Dev nD} (hz : IsZ m z c) (t : Fin cfg0.N) (o : ℕ) (inb : ∀ a, (![o, 0] : Fin 2 → ℕ) a + S1024x256.size a ≤ S4096x256.size a)
    (j : Fin 1024) (y : Fin 256) (J : Fin 4608) (hJ : J.val = o + j.val) (hlt : J.val < 4096) :
    (View.ld (iblk m c 2 t : Vec Ideal S4096x256 .bf16) (Rect.unit (s := S4096x256) ![o, 0] S1024x256.size inb) (ix2 j y) : EReal) = (vR z cv (bOf t) J (hOf t) y : EReal) := by
  rw [ldS _ o inb j _ ⟨J.val, hlt⟩ hJ, v_blk hz]
  unfold vR
  rw [dif_pos hlt]

/-- The key cache in the entry memory is the real array `ck`, the value cache `cv`. -/
def IsC (m : (ℓ : Loc nD τ sig) → Buf (Elt Ideal) ℓ) (ck cv : Fin 8 → Fin 512 → Fin 16 → Fin 256 → ℝ) (c : Dev nD) : Prop :=
  (∀ b j h x, ((m ((c.tc : Thread nD τ).loc main_arg3) : Vec Ideal S8x512x16x256 .f32) (ix4 b j h x) : EReal) = (ck b j h x : EReal))
    ∧ ∀ b j h x, ((m ((c.tc : Thread nD τ).loc main_arg4) : Vec Ideal S8x512x16x256 .f32) (ix4 b j h x) : EReal) = (cv b j h x : EReal)

theorem keyC_at {c : Dev nD} (hc : IsC m ck cv c) (t : Fin cfg0.N) (j : Fin 512) (y : Fin 256) (mp : Fin 2) (d : Fin 128) (hy : y = lane mp d) :
    ((iblk m c 5 t : Vec Ideal S1x512x256 .bf16) (ix3 0 j y) : EReal) = (kR z ck (bOf t) (j4 j) (hOf t) mp d : EReal) := by
  rw [hy, ck_blk, hc.1]
  unfold kR
  have hn : ¬ (j4 j).val < 4096 := by show ¬ 4096 + j.val < 4096; omega
  rw [dif_neg hn]
  exact congrArg (fun q => (ck (bOf t) q (hOf t) (lane mp d) : EReal)) (Fin.ext (by show j.val = 4096 + j.val - 4096; omega))

theorem valC_at {c : Dev nD} (hc : IsC m ck cv c) (t : Fin cfg0.N) (j : Fin 512) (y : Fin 256) :
    ((iblk m c 6 t : Vec Ideal S1x512x256 .bf16) (ix3 0 j y) : EReal) = (vR z cv (bOf t) (j4 j) (hOf t) y : EReal) := by
  rw [cv_blk, hc.2]
  unfold vR
  have hn : ¬ (j4 j).val < 4096 := by show ¬ 4096 + j.val < 4096; omega
  rw [dif_neg hn]
  exact congrArg (fun q => (cv (bOf t) q (hOf t) y : EReal)) (Fin.ext (by show j.val = 4096 + j.val - 4096; omega))

theorem rope_q {c : Dev nD} (x : Vec Ideal S512x256 .bf16) (cs sn : Vec Ideal S512x128 .f32) (r : Fin 512) (mp : Fin 2) (d : Fin 128) (xr : Fin 128 → ℝ) (p : Fin 4096)
    (hx : ∀ d, (x (ix2 r (lane mp d)) : EReal) = (xr d : EReal)) (hc : cs (ix2 r d) = (V m c main_v28 : Vec Ideal S4096x128 .f32) (ix2 p d))
    (hs : sn (ix2 r d) = (V m c main_v30 : Vec Ideal S4096x128 .f32) (ix2 p d)) :
    ((x (ix2 r (lane mp d)) : EReal) * (cs (ix2 r d) : EReal) + (x (ix2 r (lane mp (flip64 d))) : EReal) * (sn (ix2 r d) : EReal)) * (((Real.sqrt 128)⁻¹ * (Real.log 2)⁻¹ : ℝ) : EReal)
      = ((rope xr p d * ((Real.sqrt 128)⁻¹ * (Real.log 2)⁻¹) : ℝ) : EReal) := by
  rw [hx, hx, hc, hs, cosT_at, sinT_at, EReal.coe_mul (rope xr p d)]
  exact congrArg (fun q : EReal => q * (((Real.sqrt 128)⁻¹ * (Real.log 2)⁻¹ : ℝ) : EReal)) (rope_eq xr p d)

/-! ### The tile of a grid point -/

/-- What the layer asks of one result element, in real scores and values. -/
def want (m : (ℓ : Loc nD τ sig) → Buf (Elt Ideal) ℓ) (c : Dev nD) (z : Fin 32768 → Fin 12288 → ℝ) (ck cv : Fin 8 → Fin 512 → Fin 16 → Fin 256 → ℝ) (b : Fin 8) (i : Fin 4096) (h : Fin 16) (x : Fin 256) : EReal :=
  fin (fun y => ((meanE (sR z ck b h 0 i) (fun j => vR z cv b j h y) : ℝ) : EReal)
    - lamE (m ((c.tc : Thread nD τ).loc main_arg1)) * ((meanE (sR z ck b h 1 i) (fun j => vR z cv b j h y) : ℝ) : EReal)) ((m ((c.tc : Thread nD τ).loc main_arg2) : Vec Ideal S256 .f32) (ix1 x)) x

theorem lane_dA (d : Fin 128) : dA d = lane 0 d := Fin.ext (by show d.val = 0 * 128 + d.val; omega)
theorem lane_dB (d : Fin 128) : dB d = lane 1 d := Fin.ext (by show 128 + d.val = 1 * 128 + d.val; omega)

theorem lam_eq (c : Dev nD) (t : Fin cfg0.N) : (iblk m c 3 t : Vec Ideal S4x128 .f32) = m ((c.tc : Thread nD τ).loc main_arg1) :=
  funext fun y => by
    change S4x128.Idx at y
    obtain ⟨p, d, rfl⟩ : ∃ (p : Fin 4) (d : Fin 128), y = ix2 p d := ⟨y 0, y 1, funext fun a => match a with | ⟨0, _⟩ => rfl | ⟨1, _⟩ => rfl⟩
    exact lam_blk m c t p d

theorem tileAt_at {c : Dev nD} (hz : IsZ m z c) (hc : IsC m ck cv c) (t : Fin cfg0.N) {S : Vec Ideal S4096x256 .bf16} (hS : IsKeys z t S) (r : Fin 512) (x : Fin 256) :
    (tileAt m c t S (ix2 r x) : EReal) = want m c z ck cv (bOf t) (tokOf t r) (hOf t) x := by
  unfold tileAt
  refine (tile_at _ _ _ _ _ _ _ _ _ _ _ _ _ _ r x
    (fun d => qR z (bOf t) (tokOf t r) (hOf t) 0 d * ((Real.sqrt 128)⁻¹ * (Real.log 2)⁻¹)) (fun d => qR z (bOf t) (tokOf t r) (hOf t) 1 d * ((Real.sqrt 128)⁻¹ * (Real.log 2)⁻¹))
    (fun j d => kR z ck (bOf t) j (hOf t) 0 d) (fun j d => kR z ck (bOf t) j (hOf t) 1 d) (fun j y => vR z cv (bOf t) j (hOf t) y)
    (fun d => (pay4_at r _ _ _ d).trans (rope_q (c := c) _ _ _ r 0 d _ (tokOf t r) (fun d => q_blk hz t r _) ((ldQ _ t r d).trans (cos_blk m c t _ _)) ((ldQ _ t r d).trans (sin_blk m c t _ _))))
    (fun d => (pay5_at r _ _ _ d).trans (rope_q (c := c) _ _ _ r 1 d _ (tokOf t r) (fun d => q_blk hz t r _) ((ldQ _ t r d).trans (cos_blk m c t _ _)) ((ldQ _ t r d).trans (sin_blk m c t _ _))))
    (fun j d => key_at hS 0 _ j _ 0 d (lane_dA d) (j0 j) (Nat.zero_add _).symm (by show j.val < 4096; omega))
    (fun j d => key_at hS 1024 _ j _ 0 d (lane_dA d) (j1 j) rfl (by show 1024 + j.val < 4096; omega))
    (fun j d => key_at hS 2048 _ j _ 0 d (lane_dA d) (j2 j) rfl (by show 2048 + j.val < 4096; omega))
    (fun j d => key_at hS 3072 _ j _ 0 d (lane_dA d) (j3 j) rfl (by show 3072 + j.val < 4096; omega))
    (fun j d => keyC_at hc t j _ 0 d (lane_dA d))
    (fun j d => key_at hS 0 _ j _ 1 d (lane_dB d) (j0 j) (Nat.zero_add _).symm (by show j.val < 4096; omega))
    (fun j d => key_at hS 1024 _ j _ 1 d (lane_dB d) (j1 j) rfl (by show 1024 + j.val < 4096; omega))
    (fun j d => key_at hS 2048 _ j _ 1 d (lane_dB d) (j2 j) rfl (by show 2048 + j.val < 4096; omega))
    (fun j d => key_at hS 3072 _ j _ 1 d (lane_dB d) (j3 j) rfl (by show 3072 + j.val < 4096; omega))
    (fun j d => keyC_at hc t j _ 1 d (lane_dB d))
    (fun j y => val_at hz t 0 _ j y (j0 j) (Nat.zero_add _).symm (by show j.val < 4096; omega))
    (fun j y => val_at hz t 1024 _ j y (j1 j) rfl (by show 1024 + j.val < 4096; omega))
    (fun j y => val_at hz t 2048 _ j y (j2 j) rfl (by show 2048 + j.val < 4096; omega))
    (fun j y => val_at hz t 3072 _ j y (j3 j) rfl (by show 3072 + j.val < 4096; omega))
    (fun j y => valC_at hc t j y)).trans ?_
  rw [lam_eq, g_blk]
  simp only [mean2_eq]
  rfl

theorem out_at {c : Dev nD} (hz : IsZ m z c) (hc : IsC m ck cv c) (t : Fin cfg0.N) (r : Fin 512) (x : Fin 256) :
    ((outsAt0 m c t.val t.isLt).1 (ix2 r x) : EReal) = want m c z ck cv (bOf t) (tokOf t r) (hOf t) x := by
  by_cases h0 : t.val % 8 = 0
  · rw [tile_A m c t h0]
    exact tileAt_at hz hc t (keys hz t.val t.isLt) r x
  · rw [tile_B m c t h0, ← scr_B m c t h0]
    exact tileAt_at hz hc t (keys hz t.val t.isLt) r x

/-- The launch's result array is the reference's. -/
theorem final {c : Dev nD} (hz : IsZ m z c) (hc : IsC m ck cv c) (hlam : ∀ r d, IsR ((m ((c.tc : Thread nD τ).loc main_arg1) : Vec Ideal S4x128 .f32) (ix2 r d))) :
    (dats m 0 c).arrAt 9 cfg0.N = Cert.ReferenceIdeal.Read.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 9 _ (by decide +kernel) fun t hf y => ?_
  rw [after0_9]
  blk_simp
  change S512x256.Idx at y
  obtain ⟨r, x, rfl⟩ : ∃ (r : Fin 512) (x : Fin 256), y = ix2 r x := ⟨y 0, y 1, funext fun a => match a with | ⟨0, _⟩ => rfl | ⟨1, _⟩ => rfl⟩
  have ht : t.val < 1024 := lt_of_lt_of_eq t.isLt N_0
  have hr := r.isLt
  have hx := x.isLt
  refine (out_at hz hc t r x).trans ?_
  refine (ref_at _ _ _ _ _ z ck cv hz hc.1 hc.2 hlam (bOf t) (tokOf t r) (hOf t) x
    ⟨(t.val / 128 * 8 + t.val % 8) * 512 + r.val, by omega⟩ ⟨t.val / 8 % 16 * 256 + x.val, by omega⟩
    (by show (t.val / 128 * 8 + t.val % 8) * 512 + r.val = t.val / 128 * 4096 + (t.val % 8 * 512 + r.val); omega) rfl).symm.trans ?_
  blk_ext [idx t]

end Value
end Cert.Attn
-- ==== Proof.Finite.lean ====
module

public import proofs.«01_k».proof.Defs
public import proofs.«01_k».proof.Proof.Gen.Pre_finite
public import proofs.«01_k».proof.Proof.Online
public import Idealize.ShloMosaic.Lib.ReduceAll
public import Idealize.ShloMosaic.Lib.KernelVsHost

@[expose] public section

set_option maxRecDepth 16384

noncomputable section

namespace Cert.Attn

open Idealize.ShloMosaic Idealize.SL.Sem

/-- A value whose magnitude compares below infinity is a real number. -/
theorem isR_of_olt (x : Ideal .f32) (h : FloatOps.cmpf .olt (FloatOps.hostAbsf x) (FloatOps.ofBits (F := Ideal) .f32 0x7F800000#32) = 1#1) : IsR (x : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [isR_iff]
  have h1 : (x : EReal) ≠ ⊤ := (lt_of_le_of_lt (le_max_left _ _) hlt).ne
  have h2 : (x : EReal) ≠ ⊥ := fun e => by
    rw [e] at hlt
    simp at hlt
  constructor <;> assumption

theorem and_one {a b : BitVec 1} (h : IntOp.andi a b = 1#1) : a = 1#1 ∧ b = 1#1 := by
  revert a b; decide

/-- The precondition says of each argument array but the gain that its elements are real numbers. -/
theorem reals_of_finite (x0 : FVec Ideal Cert.Pre_finite.S32768x12288 .bf16) (x1 : FVec Ideal Cert.Pre_finite.S4x128 .f32) (x2 : FVec Ideal Cert.Pre_finite.S256 .f32) (x3 x4 : FVec Ideal Cert.Pre_finite.S8x512x16x256 .f32)
    (h : Cert.Pre_finite.fn (F := Ideal) x0 x1 x2 x3 x4 = fun _ => 1#1) :
    (∀ i, IsR (x0 i : EReal)) ∧ (∀ i, IsR (x1 i : EReal)) ∧ (∀ i, IsR (x3 i : EReal)) ∧ ∀ i, IsR (x4 i : EReal) := by
  have hall := congrFun h ix0
  unfold Cert.Pre_finite.fn Cert.Pre_finite.fn_part1 at hall
  dsimp only at hall
  obtain ⟨hall, h4⟩ := and_one hall
  obtain ⟨hall, h3⟩ := and_one hall
  obtain ⟨hall, -⟩ := and_one hall
  obtain ⟨h0, h1⟩ := and_one hall
  haveI : Subsingleton Cert.Pre_finite.S_.Idx := ⟨fun a b => funext fun k => k.elim0⟩
  exact ⟨fun i => isR_of_olt _ (Host.reduce_andi_all _ _ _ _ _ h0 i), fun i => isR_of_olt _ (Host.reduce_andi_all _ _ _ _ _ h1 i),
    fun i => isR_of_olt _ (Host.reduce_andi_all _ _ _ _ _ h3 i), fun i => isR_of_olt _ (Host.reduce_andi_all _ _ _ _ _ h4 i)⟩

end Cert.Attn
-- ==== Proof.RetPre.lean ====
/-
What the retention's precondition says of the decay parameters: none is infinite, so each head's log decay is a number.
-/
module

public import proofs.«01_k».proof.Defs
public import proofs.«01_k».proof.Proof.Gen.Pre_finite11
public import Idealize.ShloMosaic.Lib.ReduceAll
public import Idealize.ShloMosaic.Lib.KernelVsHost

@[expose] public section

set_option maxRecDepth 16384

noncomputable section

namespace Cert.Ret

open Idealize.ShloMosaic Idealize.SL.Sem

/-- A value that compares below infinity has a real exponential. -/
theorem log_real (x : Ideal .f32) (h : FloatOps.cmpf .olt x (FloatOps.ofBits (F := Ideal) .f32 0x7F800000#32) = 1#1) : ∃ a : ℝ, -Ideal.exp (x : EReal) = (a : EReal) := by
  have htop : Ideal.ofBits .f32 0x7F800000#32 = ⊤ := by simp [Ideal.ofBits, Ideal.ieee]
  have h' : Ideal.cmp .olt (x : EReal) (Ideal.ofBits .f32 0x7F800000#32) = 1#1 := h
  rw [htop] at h'
  unfold Ideal.cmp at h'
  have hlt : (x : EReal) < ⊤ := by
    by_contra hn
    simp [hn] at h'
  generalize (x : EReal) = y at hlt
  induction y using EReal.rec with
  | bot => exact ⟨0, by
    have e : Ideal.exp ⊥ = 0 := rfl
    rw [e]
    simp⟩
  | coe r => exact ⟨-Real.exp r, rfl⟩
  | top => exact absurd hlt (lt_irrefl _)

/-- The precondition, parameter by parameter. -/
theorem logs_real (x0 : FVec Ideal Cert.Pre_finite11.S8192x14336 .bf16) (x1 : FVec Ideal Cert.Pre_finite11.S2048 .f32) (x2 : FVec Ideal Cert.Pre_finite11.S2x8 .f32)
    (h : Cert.Pre_finite11.fn (F := Ideal) x0 x1 x2 = fun _ => 1#1) (i : Cert.Pre_finite11.S2x8.Idx) : ∃ a : ℝ, -Ideal.exp (x2 i : EReal) = (a : EReal) := by
  have hall := congrFun h fun k : Fin 0 => k.elim0
  unfold Cert.Pre_finite11.fn at hall
  dsimp only at hall
  haveI : Subsingleton Cert.Pre_finite11.S_.Idx := ⟨fun a b => funext fun k => k.elim0⟩
  exact log_real _ (Host.reduce_andi_all _ _ _ _ _ hall i)

end Cert.Ret
-- ==== Proof.Ret.lean ====
/-
The retention's states, stated once for the kernel and for the reference.

A sequence of 256 rows is walked in four chunks of 64, forwards and backwards, and each chunk replaces a head's state by one decayed by the whole
chunk plus the chunk's outer products of keys and values, each key decayed from its own row to the chunk's end. `upd` is that replacement, `zrow` the row
of the projected array that a place of a walk reads.
-/
module

public import Idealize.ShloMosaic.Lib.Pipeline.ValueKit
public import Idealize.ShloMosaic.Lib.Pointwise
public import Idealize.ShloMosaic.Lib.Claim

@[expose] public section

noncomputable section

namespace Cert.Ret

open Idealize.ShloMosaic Idealize.SL.Sem Idealize.ShloMosaic.TcCoe

/-- One chunk's replacement of a state: the state times the chunk's decay, plus the products of the chunk's keys (scaled, and decayed by `E`) with its values. -/
def upd (τ : EReal) (E : Fin 64 → EReal) (K V : Fin 64 → Fin 256 → EReal) (S : Fin 256 → Fin 256 → EReal) (k v : Fin 256) : EReal :=
  τ * S k v + ∑ t, K t k * Ideal.ofBits FTy.f32 0x3D800000#32 * E t * V t v

/-- The decay over a whole chunk, for the logarithm `a` of the decay of one row. -/
def tot (a : ℝ) : EReal := Ideal.exp ((64 * a : ℝ) : EReal)

/-- The decay from a chunk's row `t` to the chunk's end. -/
def toEnd (a : ℝ) (t : Fin 64) : EReal := Ideal.exp (((63 - (t.val : ℝ)) * a : ℝ) : EReal)

/-- The row of the projected array that chunk `n`'s place `t` of sequence `b`'s walk in direction `d` reads: the second direction walks the sequence backwards. -/
def zrow (b : Fin 32) (d : Fin 2) (n : Fin 4) (t : Fin 64) : Fin 8192 :=
  ⟨b.val * 256 + if d.val < 1 then n.val * 64 + t.val else 255 - (n.val * 64 + t.val), by split <;> omega⟩

/-- Column `k` of head `h` of the part of the projected array that begins at column `o`. -/
def zcol (o : ℕ) (ho : o + 2048 ≤ 14336) (h : Fin 8) (k : Fin 256) : Fin 14336 := ⟨o + (h.val * 256 + k.val), by omega⟩

/-- The keys of a chunk. -/
def keys (z : (⟨2, ![8192, 14336]⟩ : Shape).Idx → EReal) (b : Fin 32) (d : Fin 2) (h : Fin 8) (n : Fin 4) (t : Fin 64) (k : Fin 256) : EReal :=
  z (ix2 (zrow b d n t) (zcol 2048 (by decide) h k))

/-- The values of a chunk. -/
def vals (z : (⟨2, ![8192, 14336]⟩ : Shape).Idx → EReal) (b : Fin 32) (d : Fin 2) (h : Fin 8) (n : Fin 4) (t : Fin 64) (v : Fin 256) : EReal :=
  z (ix2 (zrow b d n t) (zcol 4096 (by decide) h v))

/-- The state after the four chunks. -/
def walk (z : (⟨2, ![8192, 14336]⟩ : Shape).Idx → EReal) (a : ℝ) (b : Fin 32) (d : Fin 2) (h : Fin 8) : Fin 256 → Fin 256 → EReal :=
  upd (tot a) (toEnd a) (keys z b d h 3) (vals z b d h 3) (upd (tot a) (toEnd a) (keys z b d h 2) (vals z b d h 2)
    (upd (tot a) (toEnd a) (keys z b d h 1) (vals z b d h 1) (upd (tot a) (toEnd a) (keys z b d h 0) (vals z b d h 0) fun _ _ => 0)))

end Cert.Ret
-- ==== Proof.RetPay.lean ====
/-
The retention kernel's steps, read entry by entry: each chunk's step is the walk's `upd`, and the decays it multiplies by are powers of the head's decay.
-/
module

public import proofs.«01_k».proof.Proof.Ret
public import proofs.«01_k».proof.Proof.Gen.Kernel11Ideal.Value

@[expose] public section

set_option maxRecDepth 16384

noncomputable section

namespace Cert.Ret

open Cert.Kernel11Ideal Cert.Kernel11Ideal.Gen Idealize.ShloMosaic Idealize.SL.Sem Idealize.ShloMosaic.TcCoe

/-! The kernel's numbers. -/

theorem c63 : Ideal.ofBits FTy.f32 0x427C0000#32 = ((63 : ℝ) : EReal) := by
  simp [Ideal.ofBits, Ideal.ieee, -EReal.coe_mul]; norm_num

theorem c64 : Ideal.ofBits FTy.f32 0x42800000#32 = ((64 : ℝ) : EReal) := by
  simp [Ideal.ofBits, Ideal.ieee, -EReal.coe_mul]; norm_num

theorem row_num (t : Fin 64) : (FloatOps.sitofp (F := Ideal) FTy.f32 (BitVec.ofNat 32 t.val) : EReal) = ((t.val : ℝ) : EReal) := by
  have h : (BitVec.ofNat 32 t.val).toInt = (t.val : ℤ) := by
    revert t
    decide +kernel
  show (((BitVec.ofNat 32 t.val).toInt : ℝ) : EReal) = _
  rw [h]
  norm_num

/-! The decays. -/

theorem lgF_at (X : Vec Ideal S1x1x8x128 .f32) (a : ℝ) (ha : -Ideal.exp (X (ix4 0 0 0 0)) = (a : EReal)) : (k0_pay8 (F := Ideal) X (ix2 0 0) : EReal) = (a : EReal) := by
  rw [← ha]
  pointwise [k0_pay8]
  exact zero_sub _

theorem lgB_at (X : Vec Ideal S1x1x8x128 .f32) (a : ℝ) (ha : -Ideal.exp (X (ix4 0 0 0 0)) = (a : EReal)) : (k0_pay9 (F := Ideal) X (ix2 0 0) : EReal) = (a : EReal) := by
  rw [← ha]
  pointwise [k0_pay9]
  exact zero_sub _

theorem endF_at (L : Vec Ideal S1x1 .f32) (a : ℝ) (ha : (L (ix2 0 0) : EReal) = (a : EReal)) (t : Fin 64) : (k0_pay15 (F := Ideal) k0_pay5 L (ix2 t 0) : EReal) = toEnd a t := by
  pointwise [k0_pay15, k0_pay5]
  rw [c63, row_num, ha, ← EReal.coe_sub, ← EReal.coe_mul]
  rfl

theorem endB_at (L : Vec Ideal S1x1 .f32) (a : ℝ) (ha : (L (ix2 0 0) : EReal) = (a : EReal)) (t : Fin 64) : (k0_pay16 (F := Ideal) k0_pay5 L (ix2 t 0) : EReal) = toEnd a t.rev := by
  pointwise [k0_pay16, k0_pay5]
  rw [row_num, ha, ← EReal.coe_mul]
  refine congrArg Ideal.exp (congrArg _ (congrArg (· * a) ?_))
  have h : (t.rev.val : ℕ) = 63 - t.val := by rw [Fin.val_rev]; omega
  rw [h, Nat.cast_sub (by omega)]
  push_cast
  ring

theorem totF_at (L : Vec Ideal S1x1 .f32) (a : ℝ) (ha : (L (ix2 0 0) : EReal) = (a : EReal)) : (k0_pay17 (F := Ideal) L (ix2 0 0) : EReal) = tot a := by
  pointwise [k0_pay17]
  rw [c64, ha, ← EReal.coe_mul]
  rfl

theorem totB_at (L : Vec Ideal S1x1 .f32) (a : ℝ) (ha : (L (ix2 0 0) : EReal) = (a : EReal)) : (k0_pay18 (F := Ideal) L (ix2 0 0) : EReal) = tot a := by
  pointwise [k0_pay18]
  rw [c64, ha, ← EReal.coe_mul]
  rfl

/-! The steps. -/

/-- A step's new state, from the arrays it is made of. -/
def updV (e : Vec Ideal S64x1 .f32) (τ : Vec Ideal S1x1 .f32) (K V : Vec Ideal S64x256 .bf16) (S : Vec Ideal S1x256x256 .f32) : Fin 256 → Fin 256 → EReal :=
  upd (τ (ix2 0 0)) (fun t => e (ix2 t 0)) (fun t k => K (ix2 t k)) (fun t v => V (ix2 t v)) fun k v => S (ix3 0 k v)

theorem zeroF_at (k v : Fin 256) : (k0_pay6 (F := Ideal) (ix3 0 k v) : EReal) = 0 := by
  pointwise [k0_pay6]

theorem zeroB_at (k v : Fin 256) : (k0_pay7 (F := Ideal) (ix3 0 k v) : EReal) = 0 := by
  pointwise [k0_pay7]

theorem outF_at (S : Vec Ideal S1x256x256 .f32) (k v : Fin 256) : (k0_pay2 (F := Ideal) S (ix5 0 0 0 k v) : EReal) = S (ix3 0 k v) := by
  pointwise [k0_pay2]

theorem outB_at (S : Vec Ideal S1x256x256 .f32) (k v : Fin 256) : (k0_pay3 (F := Ideal) S (ix5 0 0 0 k v) : EReal) = S (ix3 0 k v) := by
  pointwise [k0_pay3]

variable (e : Vec Ideal S64x1 .f32) (τ : Vec Ideal S1x1 .f32) (K V : Vec Ideal S64x256 .bf16) (S : Vec Ideal S1x256x256 .f32) (k v : Fin 256)

theorem f0_at : (k0_pay23 (F := Ideal) e τ (k0_pay20 K) V (k0_pay21 S) (ix3 0 k v) : EReal) = updV e τ K V S k v := by
  unfold updV upd
  pointwise [k0_pay23, k0_pay20, k0_pay21]

theorem f1_at : (k0_pay37 (F := Ideal) e τ (k0_pay33 K) V (k0_pay34 S) (ix3 0 k v) : EReal) = updV e τ K V S k v := by
  unfold updV upd
  pointwise [k0_pay37, k0_pay33, k0_pay34]

theorem f2_at : (k0_pay50 (F := Ideal) e τ (k0_pay47 K) V (k0_pay48 S) (ix3 0 k v) : EReal) = updV e τ K V S k v := by
  unfold updV upd
  pointwise [k0_pay50, k0_pay47, k0_pay48]

theorem f3_at : (k0_pay64 (F := Ideal) e τ K V S (ix3 0 k v) : EReal) = updV e τ K V S k v := by
  unfold updV upd
  pointwise [k0_pay64, k0_pay62, k0_pay63]

theorem b0_at : (k0_pay30 (F := Ideal) e τ (k0_pay26 K) V (k0_pay27 S) (ix3 0 k v) : EReal) = updV e τ K V S k v := by
  unfold updV upd
  pointwise [k0_pay30, k0_pay26, k0_pay27]

theorem b1_at : (k0_pay44 (F := Ideal) e τ (k0_pay40 K) V (k0_pay41 S) (ix3 0 k v) : EReal) = updV e τ K V S k v := by
  unfold updV upd
  pointwise [k0_pay44, k0_pay40, k0_pay41]

theorem b2_at : (k0_pay60 (F := Ideal) V (k0_pay58 τ S) (k0_pay59 e K) (constant S256x256 FTy.f32 0#32) (ix3 0 k v) : EReal) = updV e τ K V S k v := by
  unfold updV upd
  pointwise [k0_pay60, k0_pay58, k0_pay59, k0_pay55, k0_pay56]

theorem b3_at : (k0_pay73 (F := Ideal) e τ (k0_pay70 K) V (k0_pay71 S) (ix3 0 k v) : EReal) = updV e τ K V S k v := by
  unfold updV upd
  pointwise [k0_pay73, k0_pay70, k0_pay71]

/-- The rows of a chunk may be summed in either order. -/
theorem upd_rev (τ : EReal) (E : Fin 64 → EReal) (K V : Fin 64 → Fin 256 → EReal) (S : Fin 256 → Fin 256 → EReal) (k v : Fin 256) :
    upd τ (fun t => E t.rev) (fun t => K t.rev) (fun t => V t.rev) S k v = upd τ E K V S k v :=
  congrArg (τ * S k v + ·) (Equiv.sum_comp Fin.revPerm fun t => K t k * Ideal.ofBits FTy.f32 0x3D800000#32 * E t * V t v)

end Cert.Ret
-- ==== Proof.RetKV.lean ====
/-
The keys and values of the reference's retention, read entry by entry from the projected array.
-/
module

public import proofs.«01_k».proof.Proof.Ret
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

namespace Cert.Ret

open Cert.Reference11Ideal Cert.Reference11Ideal.Read Idealize.ShloMosaic Idealize.SL.Sem Idealize.ShloMosaic.TcCoe

theorem k_at (z : Vec Ideal S8192x14336 .bf16) (b : Fin 32) (d : Fin 2) (n : Fin 4) (t : Fin 64) (h : Fin 8) (k : Fin 256) :
    (val_main_v14 (F := Ideal) z (ix6 b d n t h k) : EReal) = keys z b d h n t k * Ideal.ofBits FTy.f32 0x3D800000#32 := by
  unfold keys zrow zcol
  pointwise [val_main_v14, val_main_v13, val_main_v12, val_main_v11, val_main_v10, val_main_v5, val_main_v4, val_main_cst, val_main_v3, val_main_v2, val_main_v1, val_main_v0]
  by_cases hd : d.val < 1
  · simp only [hd, dite_true, if_true]
  · simp only [hd, dite_false, if_false]
    refine congrArg (· * _) (congrArg z (congrArg₂ ix2 (Fin.ext ?_) (Fin.ext ?_)))
    · change b.val * 256 + (256 - (n.val * 64 + t.val + 1)) = b.val * 256 + (255 - (n.val * 64 + t.val))
      omega
    · rfl

theorem v_at (z : Vec Ideal S8192x14336 .bf16) (b : Fin 32) (d : Fin 2) (n : Fin 4) (t : Fin 64) (h : Fin 8) (k : Fin 256) :
    (val_main_v19 (F := Ideal) z (ix6 b d n t h k) : EReal) = vals z b d h n t k := by
  unfold vals zrow zcol
  pointwise [val_main_v19, val_main_v18, val_main_v17, val_main_v16, val_main_v15, val_main_v7, val_main_v6, val_main_v1, val_main_v0]
  by_cases hd : d.val < 1
  · simp only [hd, dite_true, if_true]
  · simp only [hd, dite_false, if_false]
    refine congrArg z (congrArg₂ ix2 (Fin.ext ?_) (Fin.ext ?_))
    · change b.val * 256 + (256 - (n.val * 64 + t.val + 1)) = b.val * 256 + (255 - (n.val * 64 + t.val))
      omega
    · rfl

end Cert.Ret
-- ==== Proof.RetRef.lean ====
/-
The reference's retention states, read entry by entry: the running sum of the equal log decays within a chunk is a multiple of the decay, and the four
chunks' states follow from one another.
-/
module

public import proofs.«01_k».proof.Proof.RetKV
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

namespace Cert.Ret

open Cert.Reference11Ideal Cert.Reference11Ideal.Read Idealize.ShloMosaic Idealize.SL.Sem Idealize.ShloMosaic.TcCoe

/-- The window of the running sum. -/
abbrev Wd : Shape := ⟨6, ![1, 1, 1, 64, 1, 1]⟩

theorem win_at (n : Fin Wd.numel) (a : Fin 6) : (Wd.rowMajor.symm n a : ℕ) = if a = 3 then n.val else 0 := by
  have hN : Wd.numel = 64 := by decide
  revert n a
  decide +kernel

theorem la_at (x2 : Vec Ideal S2x8 .f32) (d : Fin 2) (n : Fin 4) (t : Fin 64) (h : Fin 8) :
    (val_main_v21 (F := Ideal) x2 (ix6 0 d n t h 0) : EReal) = -Ideal.exp (x2 (ix2 d h)) := by
  pointwise [val_main_v21, val_main_v20, val_main_v9, val_main_v8]

/-- A sum that adds `a` at the `t + 1` last of `64` places and zero at the others. -/
theorem fold_at (a : ℝ) (t : Fin 64) (N : ℕ) (hN : N ≤ 64) (z : EReal) (hz : z = 0)
    (f : EReal → Fin N → EReal) (hf : ∀ r n, f r n = r + if 63 ≤ t.val + n.val then (a : EReal) else 0) :
    (List.finRange N).foldl f z = (((t.val + N - 63 : ℕ) : ℝ) * a : ℝ) := by
  induction N with
  | zero =>
    rw [show t.val + 0 - 63 = 0 by omega, hz]
    simp
  | succ N ih =>
    rw [List.finRange_succ_last, List.foldl_append, List.foldl_map]
    rw [ih (by omega) (fun r n => f r n.castSucc) (fun r n => by rw [hf]; rfl)]
    simp only [List.foldl_cons, List.foldl_nil, hf, Fin.val_last]
    split
    · next h =>
      rw [show t.val + (N + 1) - 63 = (t.val + N - 63) + 1 by omega]
      refine (EReal.coe_add _ _).symm.trans (congrArg _ ?_)
      push_cast
      ring
    · next h =>
      rw [show t.val + (N + 1) - 63 = t.val + N - 63 by omega, add_zero]

theorem b_at (x2 : Vec Ideal S2x8 .f32) (d : Fin 2) (n : Fin 4) (t : Fin 64) (h : Fin 8) (a : ℝ)
    (ha : -Ideal.exp (x2 (ix2 d h)) = (a : EReal)) :
    (val_main_v22 (F := Ideal) x2 (ix6 0 d n t h 0) : EReal) = (((t.val + 1 : ℕ) : ℝ) * a : ℝ) := by
  unfold val_main_v22
  simp only [Host.reduceWindowAdd, Ideal.hostReduceWindowAdd_def, Ideal.hostReduceWindowAdd, Host.reduceWindow]
  have hN : Wd.numel = 64 := by decide
  have hz : val_main_call2_call0_v0 (F := Ideal) (Shape.Idx.first Gen.h_S_) = (0 : EReal) := by
    pointwise [val_main_call2_call0_v0, val_main_call2_call0_cst]
  refine (fold_at a t Wd.numel (by decide) _ hz _ ?_).trans ?_
  · intro r w
    refine congrArg (r + ·) ?_
    have hw := w.isLt
    have h0 := win_at w 0
    have h1 := win_at w 1
    have h2 := win_at w 2
    have h3 := win_at w 3
    have h4 := win_at w 4
    have h5 := win_at w 5
    have key : ∀ a : Fin 6, (![0, 0, 0, 63, 0, 0] : Fin 6 → ℕ) a ≤ (ix6 (0 : Fin 1) d n t h (0 : Fin 1) a).val * (![1, 1, 1, 1, 1, 1] : Fin 6 → ℕ) a + (Wd.rowMajor.symm w a).val ∧ (ix6 (0 : Fin 1) d n t h (0 : Fin 1) a).val * (![1, 1, 1, 1, 1, 1] : Fin 6 → ℕ) a + (Wd.rowMajor.symm w a).val - (![0, 0, 0, 63, 0, 0] : Fin 6 → ℕ) a < (![1, 2, 4, 64, 8, 1] : Fin 6 → ℕ) a ↔ (a = 3 → 63 ≤ t.val + w.val) := by
      intro a
      match a with
      | ⟨0, _⟩ =>
        show 0 ≤ 0 * 1 + (Wd.rowMajor.symm w 0).val ∧ 0 * 1 + (Wd.rowMajor.symm w 0).val - 0 < 1 ↔ ((⟨0, by decide⟩ : Fin 6) = 3 → 63 ≤ t.val + w.val)
        rw [h0]
        rw [if_neg (by decide)]
        exact ⟨fun _ q => absurd q (by decide), fun _ => ⟨by omega, by omega⟩⟩
      | ⟨1, _⟩ =>
        show 0 ≤ d.val * 1 + (Wd.rowMajor.symm w 1).val ∧ d.val * 1 + (Wd.rowMajor.symm w 1).val - 0 < 2 ↔ ((⟨1, by decide⟩ : Fin 6) = 3 → 63 ≤ t.val + w.val)
        rw [h1]
        rw [if_neg (by decide)]
        exact ⟨fun _ q => absurd q (by decide), fun _ => ⟨by omega, by omega⟩⟩
      | ⟨2, _⟩ =>
        show 0 ≤ n.val * 1 + (Wd.rowMajor.symm w 2).val ∧ n.val * 1 + (Wd.rowMajor.symm w 2).val - 0 < 4 ↔ ((⟨2, by decide⟩ : Fin 6) = 3 → 63 ≤ t.val + w.val)
        rw [h2]
        rw [if_neg (by decide)]
        exact ⟨fun _ q => absurd q (by decide), fun _ => ⟨by omega, by omega⟩⟩
      | ⟨3, _⟩ =>
        show 63 ≤ t.val * 1 + (Wd.rowMajor.symm w 3).val ∧ t.val * 1 + (Wd.rowMajor.symm w 3).val - 63 < 64 ↔ ((⟨3, by decide⟩ : Fin 6) = 3 → 63 ≤ t.val + w.val)
        rw [h3]
        rw [if_pos rfl]
        exact ⟨fun q _ => by omega, fun q => ⟨by have := q rfl; omega, by omega⟩⟩
      | ⟨4, _⟩ =>
        show 0 ≤ h.val * 1 + (Wd.rowMajor.symm w 4).val ∧ h.val * 1 + (Wd.rowMajor.symm w 4).val - 0 < 8 ↔ ((⟨4, by decide⟩ : Fin 6) = 3 → 63 ≤ t.val + w.val)
        rw [h4]
        rw [if_neg (by decide)]
        exact ⟨fun _ q => absurd q (by decide), fun _ => ⟨by omega, by omega⟩⟩
      | ⟨5, _⟩ =>
        show 0 ≤ 0 * 1 + (Wd.rowMajor.symm w 5).val ∧ 0 * 1 + (Wd.rowMajor.symm w 5).val - 0 < 1 ↔ ((⟨5, by decide⟩ : Fin 6) = 3 → 63 ≤ t.val + w.val)
        rw [h5]
        rw [if_neg (by decide)]
        exact ⟨fun _ q => absurd q (by decide), fun _ => ⟨by omega, by omega⟩⟩
    split
    · next hin =>
      have h3' := hin 3
      rw [if_pos ((key 3).1 h3' rfl)]
      refine Eq.trans (congrArg (val_main_v21 (F := Ideal) x2) ?_) ((la_at x2 d n ⟨t.val + w.val - 63, by omega⟩ h).trans ha)
      funext b
      apply Fin.ext
      match b with
      | ⟨0, _⟩ =>
        show 0 * 1 + (Wd.rowMajor.symm w 0).val - 0 = 0
        rw [h0]
        rw [if_neg (by decide)]
      | ⟨1, _⟩ =>
        show d.val * 1 + (Wd.rowMajor.symm w 1).val - 0 = d.val
        rw [h1]
        rw [if_neg (by decide)]
        omega
      | ⟨2, _⟩ =>
        show n.val * 1 + (Wd.rowMajor.symm w 2).val - 0 = n.val
        rw [h2]
        rw [if_neg (by decide)]
        omega
      | ⟨3, _⟩ =>
        show t.val * 1 + (Wd.rowMajor.symm w 3).val - 63 = t.val + w.val - 63
        rw [h3]
        rw [if_pos rfl]
        omega
      | ⟨4, _⟩ =>
        show h.val * 1 + (Wd.rowMajor.symm w 4).val - 0 = h.val
        rw [h4]
        rw [if_neg (by decide)]
        omega
      | ⟨5, _⟩ =>
        show 0 * 1 + (Wd.rowMajor.symm w 5).val - 0 = 0
        rw [h5]
        rw [if_neg (by decide)]
    · next hin =>
      rw [if_neg fun hle => hin fun b => (key b).2 fun _ => hle]
      exact hz
  · rw [hN, show t.val + 64 - 63 = t.val + 1 by omega]

theorem last_at (x2 : Vec Ideal S2x8 .f32) (d : Fin 2) (n : Fin 4) (h : Fin 8) (a : ℝ) (ha : -Ideal.exp (x2 (ix2 d h)) = (a : EReal)) :
    (val_main_v22 (F := Ideal) x2 (ix6 0 d n 63 h 0) : EReal) = ((64 * a : ℝ) : EReal) := by
  refine (b_at x2 d n 63 h a ha).trans (congrArg _ ?_)
  rw [show ((63 : Fin 64).val + 1) = 64 from rfl]
  push_cast
  ring

theorem dec_at (x2 : Vec Ideal S2x8 .f32) (b : Fin 32) (d : Fin 2) (n : Fin 4) (t : Fin 64) (h : Fin 8) (k : Fin 256) (a : ℝ)
    (ha : -Ideal.exp (x2 (ix2 d h)) = (a : EReal)) :
    (val_main_v27 (F := Ideal) x2 (ix6 b d n t h k) : EReal) = toEnd a t := by
  pointwise [val_main_v27, val_main_v26, val_main_v25, val_main_v24, val_main_v23]
  rw [last_at x2 d n h a ha, b_at x2 d n t h a ha]
  refine congrArg Ideal.exp ((EReal.coe_sub _ _).symm.trans (congrArg _ ?_))
  push_cast
  ring

theorem kv_at (z : Vec Ideal S8192x14336 .bf16) (x2 : Vec Ideal S2x8 .f32) (b : Fin 32) (d : Fin 2) (n : Fin 4) (h : Fin 8) (k v : Fin 256) (a : ℝ)
    (ha : -Ideal.exp (x2 (ix2 d h)) = (a : EReal)) :
    (val_main_v29 (F := Ideal) z x2 (ix6 b d n h k v) : EReal) = ∑ t, keys z b d h n t k * Ideal.ofBits FTy.f32 0x3D800000#32 * toEnd a t * vals z b d h n t v := by
  pointwise [val_main_v29, val_main_v28]
  refine Finset.sum_congr rfl fun t _ => ?_
  rw [k_at, v_at, dec_at x2 b d n t h k a ha]

theorem s0_at (z : Vec Ideal S8192x14336 .bf16) (x2 : Vec Ideal S2x8 .f32) (b : Fin 32) (d : Fin 2) (h : Fin 8) (k v : Fin 256) (a : ℝ)
    (ha : -Ideal.exp (x2 (ix2 d h)) = (a : EReal)) :
    (val_main_v39 (F := Ideal) z x2 (ix5 b d h k v) : EReal)
      = upd (tot a) (toEnd a) (keys z b d h 0) (vals z b d h 0) (fun k v => 0) k v := by
  pointwise [val_main_v39, val_main_v36, val_main_v35, val_main_v34, val_main_v33, val_main_v32, val_main_v31, val_main_v38, val_main_v37, val_main_v23, val_main_v30, val_main_cst_0]
  rw [last_at x2 d 0 h a ha, kv_at z x2 b d 0 h k v a ha]
  rfl

theorem s1_at (z : Vec Ideal S8192x14336 .bf16) (x2 : Vec Ideal S2x8 .f32) (b : Fin 32) (d : Fin 2) (h : Fin 8) (k v : Fin 256) (a : ℝ)
    (ha : -Ideal.exp (x2 (ix2 d h)) = (a : EReal)) :
    (val_main_v48 (F := Ideal) z x2 (ix5 b d h k v) : EReal)
      = upd (tot a) (toEnd a) (keys z b d h 1) (vals z b d h 1) (fun k v => val_main_v39 (F := Ideal) z x2 (ix5 b d h k v)) k v := by
  pointwise [val_main_v48, val_main_v45, val_main_v44, val_main_v43, val_main_v42, val_main_v41, val_main_v40, val_main_v47, val_main_v46, val_main_v23]
  rw [last_at x2 d 1 h a ha, kv_at z x2 b d 1 h k v a ha]
  rfl

theorem s2_at (z : Vec Ideal S8192x14336 .bf16) (x2 : Vec Ideal S2x8 .f32) (b : Fin 32) (d : Fin 2) (h : Fin 8) (k v : Fin 256) (a : ℝ)
    (ha : -Ideal.exp (x2 (ix2 d h)) = (a : EReal)) :
    (val_main_v57 (F := Ideal) z x2 (ix5 b d h k v) : EReal)
      = upd (tot a) (toEnd a) (keys z b d h 2) (vals z b d h 2) (fun k v => val_main_v48 (F := Ideal) z x2 (ix5 b d h k v)) k v := by
  pointwise [val_main_v57, val_main_v54, val_main_v53, val_main_v52, val_main_v51, val_main_v50, val_main_v49, val_main_v56, val_main_v55, val_main_v23]
  rw [last_at x2 d 2 h a ha, kv_at z x2 b d 2 h k v a ha]
  rfl

theorem s3_at (z : Vec Ideal S8192x14336 .bf16) (x2 : Vec Ideal S2x8 .f32) (b : Fin 32) (d : Fin 2) (h : Fin 8) (k v : Fin 256) (a : ℝ)
    (ha : -Ideal.exp (x2 (ix2 d h)) = (a : EReal)) :
    (val_main_v66 (F := Ideal) z x2 (ix5 b d h k v) : EReal)
      = upd (tot a) (toEnd a) (keys z b d h 3) (vals z b d h 3) (fun k v => val_main_v57 (F := Ideal) z x2 (ix5 b d h k v)) k v := by
  pointwise [val_main_v66, val_main_v63, val_main_v62, val_main_v61, val_main_v60, val_main_v59, val_main_v58, val_main_v65, val_main_v64, val_main_v23]
  rw [last_at x2 d 3 h a ha, kv_at z x2 b d 3 h k v a ha]
  rfl

/-- The reference's states are the walk's. -/
theorem ref_at (z : Vec Ideal S8192x14336 .bf16) (x2 : Vec Ideal S2x8 .f32) (b : Fin 32) (d : Fin 2) (h : Fin 8) (k v : Fin 256) (a : ℝ)
    (ha : -Ideal.exp (x2 (ix2 d h)) = (a : EReal)) :
    (val_main_v66 (F := Ideal) z x2 (ix5 b d h k v) : EReal) = walk z a b d h k v := by
  refine (s3_at z x2 b d h k v a ha).trans (congrArg (fun S => upd _ _ _ _ S k v) (funext₂ fun k v => ?_))
  refine (s2_at z x2 b d h k v a ha).trans (congrArg (fun S => upd _ _ _ _ S k v) (funext₂ fun k v => ?_))
  refine (s1_at z x2 b d h k v a ha).trans (congrArg (fun S => upd _ _ _ _ S k v) (funext₂ fun k v => ?_))
  exact s0_at z x2 b d h k v a ha

end Cert.Ret
-- ==== Proof.RetOut.lean ====
/-
The retention kernel's states are the reference's.
-/
module

public import proofs.«01_k».proof.Proof.RetPay
public import proofs.«01_k».proof.Proof.RetRef
public import Idealize.ShloMosaic.Lib.Pipeline.ReadBack

@[expose] public section

set_option maxRecDepth 16384

noncomputable section

namespace Cert.Ret

open Cert.Kernel11Ideal Cert.Kernel11Ideal.Gen Idealize.ShloMosaic Idealize.SL.Sem Idealize.ShloMosaic.TcCoe

/-- Which blocks a grid point reads and writes: a point is a sequence and a head. -/
theorem idx : ∀ t : Fin cfg0.N, win0_1.index t = ![t.val / 8, 8 + t.val % 8] ∧ win0_2.index t = ![t.val / 8, 16 + t.val % 8] ∧
    win0_5.index t = ![t.val % 8, 0, 0, 0] ∧ win0_7.index t = ![t.val / 8, 0, t.val % 8, 0, 0] :=
  (by decide +kernel : ∀ t : Fin grid0.N, _)

variable (m : (ℓ : Loc nD τ sig) → Buf (Elt Ideal) ℓ)

/-- A grid point's sequence. -/
def seqOf (t : Fin cfg0.N) : Fin 32 := ⟨t.val / 8, by have h := t.isLt; have e : cfg0.N = 256 := N_0; omega⟩
/-- A grid point's head. -/
def headOf (t : Fin cfg0.N) : Fin 8 := ⟨t.val % 8, by omega⟩

/-- The projected array. -/
abbrev zed (c : Dev nD) : Vec Ideal S8192x14336 .bf16 := m ((c.tc : Thread nD τ).loc main_arg0)
/-- The heads' decay parameters. -/
abbrev dec (c : Dev nD) : Vec Ideal S2x8 .f32 := m ((c.tc : Thread nD τ).loc main_arg2)

theorem k_blk (c : Dev nD) (t : Fin cfg0.N) (r : Fin 256) (k : Fin 256) :
    (iblk m c 1 t : Vec Ideal S256x256 .bf16) (ix2 r k) = zed m c (ix2 ⟨(seqOf t).val * 256 + r.val, by omega⟩ (zcol 2048 (by decide) (headOf t) k)) := by
  blk_ext [iblk, V, idx t, seqOf, headOf, zcol]

theorem v_blk (c : Dev nD) (t : Fin cfg0.N) (r : Fin 256) (k : Fin 256) :
    (iblk m c 2 t : Vec Ideal S256x256 .bf16) (ix2 r k) = zed m c (ix2 ⟨(seqOf t).val * 256 + r.val, by omega⟩ (zcol 4096 (by decide) (headOf t) k)) := by
  blk_ext [iblk, V, idx t, seqOf, headOf, zcol]

theorem dec_host (c : Dev nD) (d : Fin 2) (h : Fin 8) :
    (V m c main_v2 : Vec Ideal S8x2x8x128 .f32) (ix4 h d 0 0) = dec m c (ix2 d h) := by
  entry_read
  pointwise

theorem dec_blk (c : Dev nD) (t : Fin cfg0.N) (d : Fin 2) :
    (iblk m c 5 t : Vec Ideal S1x2x8x128 .f32) (ix4 0 d 0 0) = dec m c (ix2 d (headOf t)) := by
  rw [← dec_host m c]
  blk_ext [iblk, idx t, headOf]

theorem ld_rows (X : Vec Ideal S256x256 .bf16) (o : ℕ) (ho : o + 64 ≤ 256) (h) (r : Fin 64) (k : Fin 256) :
    (View.ld X (Rect.unit ![o, 0] ![64, 256] h) : Vec Ideal S64x256 .bf16) (ix2 r k) = X (ix2 ⟨o + r.val, by omega⟩ k) := by
  refine congrArg X (funext fun a => Fin.ext ?_)
  match a with
  | ⟨0, _⟩ => show o + 1 * r.val = o + r.val; omega
  | ⟨1, _⟩ => show 0 + 1 * k.val = k.val; omega

theorem ld_dec (X : Vec Ideal S1x2x8x128 .f32) (d : ℕ) (hd : d < 2) (h) :
    (View.ld X (Rect.unit ![0, d, 0, 0] ![1, 1, 8, 128] h) : Vec Ideal S1x1x8x128 .f32) (ix4 0 0 0 0) = X (ix4 0 ⟨d, hd⟩ 0 0) := by
  refine congrArg X (funext fun a => Fin.ext ?_)
  match a with
  | ⟨0, _⟩ => rfl
  | ⟨1, _⟩ => rfl
  | ⟨2, _⟩ => rfl
  | ⟨3, _⟩ => rfl

/-- Off the last of two stores, an output holds the first. -/
theorem second {s : Shape} {e : EltTy} (r0 r1 : Rect s) (A : r0.shape.Idx → Elt Ideal e) (B : r1.shape.Idx → Elt Ideal e) (x : r0.shape.Idx) (y : s.Idx)
    (hn : y ∉ r1.set) (hy : y = r0.emb x) : View.canon (Val := Elt Ideal) [⟨r1, B⟩, ⟨r0, A⟩] y = A x := by
  refine (View.canon_cons_of_not_mem _ _ hn).trans ?_
  rw [hy]
  exact View.canon_cons_emb _ _ _ _

theorem not_half (h1) (k v : Fin 256) : (ix5 (0 : Fin 1) (0 : Fin 2) (0 : Fin 1) k v : S1x2x1x256x256.Idx) ∉ (Rect.unit (s := S1x2x1x256x256) ![0, 1, 0, 0, 0] ![1, 1, 1, 256, 256] h1).set := fun h => by
  have h' := ((Rect.mem_set_unit.mp h) 1).1
  exact absurd h' (by decide : ¬ (1 : ℕ) ≤ 0)

theorem in_half (h0) (k v : Fin 256) : (ix5 (0 : Fin 1) (0 : Fin 2) (0 : Fin 1) k v : S1x2x1x256x256.Idx) = (Rect.unit (s := S1x2x1x256x256) ![0, 0, 0, 0, 0] ![1, 1, 1, 256, 256] h0).emb (ix5 (0 : Fin 1) (0 : Fin 1) (0 : Fin 1) k v) := by
  funext a
  apply Fin.ext
  match a with
  | ⟨0, _⟩ => rfl
  | ⟨1, _⟩ => rfl
  | ⟨2, _⟩ => rfl
  | ⟨3, _⟩ => show k.val = 0 + 1 * k.val; omega
  | ⟨4, _⟩ => show v.val = 0 + 1 * v.val; omega

theorem half1 (A B : Vec Ideal S1x1x1x256x256 .f32) (h1 h0) (k v : Fin 256) :
    (View.canon (Val := Elt Ideal) (s := S1x2x1x256x256) (e := .f32) [⟨Rect.unit ![0, 1, 0, 0, 0] ![1, 1, 1, 256, 256] h1, B⟩, ⟨Rect.unit ![0, 0, 0, 0, 0] ![1, 1, 1, 256, 256] h0, A⟩] (ix5 0 1 0 k v) : EReal) = B (ix5 0 0 0 k v) := by
  have e : (ix5 (0 : Fin 1) (1 : Fin 2) (0 : Fin 1) k v : S1x2x1x256x256.Idx) = (Rect.unit (s := S1x2x1x256x256) ![0, 1, 0, 0, 0] ![1, 1, 1, 256, 256] h1).emb (ix5 (0 : Fin 1) (0 : Fin 1) (0 : Fin 1) k v) := by
    funext a
    apply Fin.ext
    match a with
    | ⟨0, _⟩ => rfl
    | ⟨1, _⟩ => rfl
    | ⟨2, _⟩ => rfl
    | ⟨3, _⟩ => show k.val = 0 + 1 * k.val; omega
    | ⟨4, _⟩ => show v.val = 0 + 1 * v.val; omega
  rw [e]
  exact View.canon_cons_emb _ _ _ _

/-- A step of the forward walk, on the rows of the grid point's blocks. -/
theorem fwd (c : Dev nD) (t : Fin cfg0.N) (e : Vec Ideal S64x1 .f32) (τ : Vec Ideal S1x1 .f32) (a : ℝ) (he : ∀ s, (e (ix2 s 0) : EReal) = toEnd a s)
    (hτ : (τ (ix2 0 0) : EReal) = tot a) (n : Fin 4) (o : ℕ) (ho : o = n.val * 64) (h1 h2) (S : Vec Ideal S1x256x256 .f32) (S' : Fin 256 → Fin 256 → EReal)
    (hS : ∀ k v, (S (ix3 0 k v) : EReal) = S' k v) (k v : Fin 256) :
    updV e τ (View.ld (iblk m c 1 t : Vec Ideal S256x256 .bf16) (Rect.unit ![o, 0] ![64, 256] h1)) (View.ld (iblk m c 2 t : Vec Ideal S256x256 .bf16) (Rect.unit ![o, 0] ![64, 256] h2)) S k v
      = upd (tot a) (toEnd a) (keys (zed m c) (seqOf t) 0 (headOf t) n) (vals (zed m c) (seqOf t) 0 (headOf t) n) S' k v := by
  have hr : ∀ s : Fin 64, (⟨(seqOf t).val * 256 + (o + s.val), by omega⟩ : Fin 8192) = zrow (seqOf t) 0 n s := fun s => Fin.ext (by
    show (seqOf t).val * 256 + (o + s.val) = (seqOf t).val * 256 + (n.val * 64 + s.val)
    omega)
  unfold updV
  rw [hτ, funext he, funext₂ hS]
  refine congrArg₂ (fun K V => upd _ _ K V _ k v) (funext₂ fun s k => ?_) (funext₂ fun s v => ?_)
  · exact (ld_rows _ o (by omega) h1 s k).trans ((k_blk m c t _ k).trans (congrArg (fun r => zed m c (ix2 r _)) (hr s)))
  · exact (ld_rows _ o (by omega) h2 s v).trans ((v_blk m c t _ v).trans (congrArg (fun r => zed m c (ix2 r _)) (hr s)))

/-- A step of the backward walk likewise: it meets the rows of its chunk last first. -/
theorem bwd (c : Dev nD) (t : Fin cfg0.N) (e : Vec Ideal S64x1 .f32) (τ : Vec Ideal S1x1 .f32) (a : ℝ) (he : ∀ s : Fin 64, (e (ix2 s 0) : EReal) = toEnd a s.rev)
    (hτ : (τ (ix2 0 0) : EReal) = tot a) (n : Fin 4) (o : ℕ) (ho : o + n.val * 64 = 192) (h1 h2) (S : Vec Ideal S1x256x256 .f32) (S' : Fin 256 → Fin 256 → EReal)
    (hS : ∀ k v, (S (ix3 0 k v) : EReal) = S' k v) (k v : Fin 256) :
    updV e τ (View.ld (iblk m c 1 t : Vec Ideal S256x256 .bf16) (Rect.unit ![o, 0] ![64, 256] h1)) (View.ld (iblk m c 2 t : Vec Ideal S256x256 .bf16) (Rect.unit ![o, 0] ![64, 256] h2)) S k v
      = upd (tot a) (toEnd a) (keys (zed m c) (seqOf t) 1 (headOf t) n) (vals (zed m c) (seqOf t) 1 (headOf t) n) S' k v := by
  have hr : ∀ s : Fin 64, (⟨(seqOf t).val * 256 + (o + s.val), by omega⟩ : Fin 8192) = zrow (seqOf t) 1 n s.rev := fun s => Fin.ext (by
    show (seqOf t).val * 256 + (o + s.val) = (seqOf t).val * 256 + (255 - (n.val * 64 + s.rev.val))
    rw [Fin.val_rev]
    omega)
  rw [← upd_rev]
  unfold updV
  rw [hτ, funext he, funext₂ hS]
  refine congrArg₂ (fun K V => upd _ _ K V _ k v) (funext₂ fun s k => ?_) (funext₂ fun s v => ?_)
  · exact (ld_rows _ o (by omega) h1 s k).trans ((k_blk m c t _ k).trans (congrArg (fun r => zed m c (ix2 r _)) (hr s)))
  · exact (ld_rows _ o (by omega) h2 s v).trans ((v_blk m c t _ v).trans (congrArg (fun r => zed m c (ix2 r _)) (hr s)))

theorem out0_at (c : Dev nD) (t : Fin cfg0.N) (k v : Fin 256) (a : ℝ) (ha : -Ideal.exp (dec m c (ix2 0 (headOf t))) = (a : EReal)) :
    ((outsAt0 (F := Ideal) m c t).2 (ix5 0 0 0 k v) : EReal) = walk (zed m c) a (seqOf t) 0 (headOf t) k v := by
  unfold outsAt0
  dsimp only
  frame_open
  simp (disch := decide) only [↓ View.readCov_skip, ↓ View.readCov_cons_toLoadRect, ↓ View.readCov_fill]
  frame_out
  refine (second _ _ _ _ _ _ (not_half _ k v) (in_half _ k v)).trans ((outF_at _ k v).trans ?_)
  have hX := congrArg (fun x : EReal => -Ideal.exp x) ((ld_dec (iblk m c 5 t) 0 (by decide) inb_S1x2x8x128_S1x1x8x128_0_0_0_0).trans (dec_blk m c t 0))
  have hL := lgF_at _ a (hX.trans ha)
  have he := endF_at _ a hL
  have hτ := totF_at _ a hL
  unfold walk
  refine (f3_at _ _ _ _ _ k v).trans (fwd m c t _ _ a he hτ 3 192 rfl _ _ _ _ (fun k v => ?_) k v)
  refine (f2_at _ _ _ _ _ k v).trans (fwd m c t _ _ a he hτ 2 128 rfl _ _ _ _ (fun k v => ?_) k v)
  refine (f1_at _ _ _ _ _ k v).trans (fwd m c t _ _ a he hτ 1 64 rfl _ _ _ _ (fun k v => ?_) k v)
  refine (f0_at _ _ _ _ _ k v).trans (fwd m c t _ _ a he hτ 0 0 rfl _ _ _ _ (fun k v => ?_) k v)
  exact zeroF_at k v

theorem out1_at (c : Dev nD) (t : Fin cfg0.N) (k v : Fin 256) (a : ℝ) (ha : -Ideal.exp (dec m c (ix2 1 (headOf t))) = (a : EReal)) :
    ((outsAt0 (F := Ideal) m c t).2 (ix5 0 1 0 k v) : EReal) = walk (zed m c) a (seqOf t) 1 (headOf t) k v := by
  unfold outsAt0
  dsimp only
  frame_open
  simp (disch := decide) only [↓ View.readCov_skip, ↓ View.readCov_cons_toLoadRect, ↓ View.readCov_fill]
  frame_out
  refine (half1 _ _ _ _ k v).trans ((outB_at _ k v).trans ?_)
  have hX := congrArg (fun x : EReal => -Ideal.exp x) ((ld_dec (iblk m c 5 t) 1 (by decide) inb_S1x2x8x128_S1x1x8x128_0_1_0_0).trans (dec_blk m c t 1))
  have hL := lgB_at _ a (hX.trans ha)
  have he := endB_at _ a hL
  have hτ := totB_at _ a hL
  unfold walk
  refine (b3_at _ _ _ _ _ k v).trans (bwd m c t _ _ a he hτ 3 0 rfl _ _ _ _ (fun k v => ?_) k v)
  refine (b2_at _ _ _ _ _ k v).trans (bwd m c t _ _ a he hτ 2 64 rfl _ _ _ _ (fun k v => ?_) k v)
  refine (b1_at _ _ _ _ _ k v).trans (bwd m c t _ _ a he hτ 1 128 rfl _ _ _ _ (fun k v => ?_) k v)
  refine (b0_at _ _ _ _ _ k v).trans (bwd m c t _ _ a he hτ 0 192 rfl _ _ _ _ (fun k v => ?_) k v)
  exact zeroB_at k v

theorem out_at (c : Dev nD) (t : Fin cfg0.N) (d : Fin 2) (k v : Fin 256) (a : ℝ) (ha : -Ideal.exp (dec m c (ix2 d (headOf t))) = (a : EReal)) :
    ((outsAt0 (F := Ideal) m c t).2 (ix5 0 d 0 k v) : EReal) = walk (zed m c) a (seqOf t) d (headOf t) k v := by
  obtain rfl | rfl : d = 0 ∨ d = 1 := by omega
  · exact out0_at m c t k v a ha
  · exact out1_at m c t k v a ha

/-- The launch's states are the reference's, where no decay parameter is infinite. -/
theorem final (c : Dev nD) (hd : ∀ i, ∃ a : ℝ, -Ideal.exp (dec m c i) = (a : EReal)) :
    (dats (F := Ideal) m 0 c).arrAt 7 cfg0.N = Cert.Reference11Ideal.Read.val_main_v66 (F := Ideal) (zed m c) (dec m c) := by
  refine (dats m 0 c).arrAt_eq_of_covers 7 _ (by decide +kernel) fun t hf y => ?_
  rw [after0_7]
  change S1x2x1x256x256.Idx at y
  obtain ⟨d, k, v, rfl⟩ : ∃ (d : Fin 2) (k v : Fin 256), y = ix5 0 d 0 k v := ⟨y 1, y 3, y 4, funext fun a => match a with
    | ⟨0, _⟩ => Subsingleton.elim (α := Fin 1) _ _ | ⟨1, _⟩ => rfl | ⟨2, _⟩ => Subsingleton.elim (α := Fin 1) _ _ | ⟨3, _⟩ => rfl | ⟨4, _⟩ => rfl⟩
  obtain ⟨a, ha⟩ := hd (ix2 d (headOf t))
  refine (out_at m c t d k v a ha).trans ((ref_at (zed m c) (dec m c) (seqOf t) d (headOf t) k v a ha).symm.trans ?_)
  blk_simp
  blk_ext [idx t, seqOf, headOf]

end Cert.Ret
-- ==== Proof.Gla.lean ====
/-
The gated linear attention's states, stated once for the kernel and for the reference.

A sequence of 256 rows is walked in four chunks of 64, forwards and backwards. Each row has a log decay for every key column, a log-sigmoid of a logit
from the row's low-rank factors; `run 64` is its running sum within a chunk. A chunk replaces a head's state by one decayed by the whole chunk plus the
chunk's outer products of keys and values, each key decayed from its own row to the chunk's end.
-/
module

public import Idealize.ShloMosaic.Lib.Pipeline.ValueKit
public import Idealize.ShloMosaic.Lib.Pointwise
public import Idealize.ShloMosaic.Lib.Claim

@[expose] public section

noncomputable section

namespace Cert.Gla

open Idealize.ShloMosaic Idealize.SL.Sem Idealize.ShloMosaic.TcCoe

/-- The sum of a chunk's entries at a row and the `m - 1` rows before it. -/
def run (m : ℕ) (l : Fin 64 → EReal) (t : Fin 64) : EReal := ∑ i ∈ Finset.range m, if i ≤ t.val then l ⟨t.val - i, by omega⟩ else 0

theorem run_one (l : Fin 64 → EReal) (t : Fin 64) : run 1 l t = l t := by
  unfold run
  rw [Finset.sum_range_one, if_pos (Nat.zero_le _)]
  rfl

/-- Twice as many rows: the sum at the row, and the sum as many rows before. -/
theorem run_double (m : ℕ) (l : Fin 64 → EReal) (t : Fin 64) : run (m + m) l t = run m l t + if m ≤ t.val then run m l ⟨t.val - m, by omega⟩ else 0 := by
  unfold run
  rw [Finset.sum_range_add]
  refine congrArg (_ + ·) ?_
  split
  · next h =>
    refine Finset.sum_congr rfl fun i _ => ?_
    by_cases hi : m + i ≤ t.val
    · have hi' : i ≤ t.val - m := by omega
      rw [if_pos hi, if_pos hi']
      exact congrArg l (Fin.ext (by show t.val - (m + i) = t.val - m - i; omega))
    · have hi' : ¬ i ≤ t.val - m := by omega
      rw [if_neg hi, if_neg hi']
  · next h =>
    refine Finset.sum_eq_zero fun i _ => if_neg ?_
    omega

/-- A sum over 64 places of which place `n` holds the entry `63 - n` rows before. -/
theorem run_window (l : Fin 64 → EReal) (t : Fin 64) :
    (∑ n ∈ Finset.range 64, if 63 ≤ t.val + n then l ⟨(t.val + n - 63) % 64, Nat.mod_lt _ (by decide)⟩ else 0) = run 64 l t := by
  unfold run
  rw [← Finset.sum_range_reflect]
  refine Finset.sum_congr rfl fun i hi => ?_
  have hi64 : i < 64 := Finset.mem_range.mp hi
  by_cases h : i ≤ t.val
  · rw [if_pos h, if_pos (by omega)]
    refine congrArg l (Fin.ext ?_)
    show (t.val + (64 - 1 - i) - 63) % 64 = t.val - i
    omega
  · rw [if_neg h, if_neg (by omega)]

/-- The log decay of a logit: the logarithm of its sigmoid, over 16. -/
def lg (x : EReal) : EReal := (min x 0 - Ideal.log (1 + Ideal.exp (0 - max x (-x)))) * Ideal.ofBits FTy.f32 0x3D800000#32

/-- One chunk's replacement of a state. -/
def upd (τ : Fin 256 → EReal) (E : Fin 64 → Fin 256 → EReal) (K : Fin 64 → Fin 256 → EReal) (V : Fin 64 → Fin 512 → EReal) (S : Fin 256 → Fin 512 → EReal)
    (k : Fin 256) (v : Fin 512) : EReal :=
  τ k * S k v + ∑ t, K t k * E t k * V t v

/-- The same from the running sums of the log decays. -/
def step (B : Fin 64 → Fin 256 → EReal) (K : Fin 64 → Fin 256 → EReal) (V : Fin 64 → Fin 512 → EReal) (S : Fin 256 → Fin 512 → EReal) : Fin 256 → Fin 512 → EReal :=
  upd (fun k => Ideal.exp (B 63 k)) (fun t k => Ideal.exp (B 63 k - B t k)) K V S

/-- The row of the projected arrays that chunk `n`'s place `t` of sequence `b`'s walk in direction `d` reads: the second direction walks the sequence backwards. -/
def zrow (b : Fin 32) (d : Fin 2) (n : Fin 4) (t : Fin 64) : Fin 8192 :=
  ⟨b.val * 256 + if d.val < 1 then n.val * 64 + t.val else 255 - (n.val * 64 + t.val), by split <;> omega⟩

/-- Key column `k` of head `h` in a row of all heads' key columns. -/
def kcol (h : Fin 4) (k : Fin 256) : Fin 1024 := ⟨h.val * 256 + k.val, by omega⟩

variable (z : (⟨2, ![8192, 14336]⟩ : Shape).Idx → EReal) (r : (⟨2, ![8192, 128]⟩ : Shape).Idx → EReal)
  (w : (⟨3, ![2, 16, 1024]⟩ : Shape).Idx → EReal) (g : (⟨2, ![2, 1024]⟩ : Shape).Idx → EReal) (b : Fin 32) (d : Fin 2) (h : Fin 4)

/-- The keys of a chunk. -/
def keys (n : Fin 4) (t : Fin 64) (k : Fin 256) : EReal := z (ix2 (zrow b d n t) ⟨9216 + (h.val * 256 + k.val), by omega⟩)

/-- The values of a chunk. -/
def vals (n : Fin 4) (t : Fin 64) (v : Fin 512) : EReal := z (ix2 (zrow b d n t) ⟨10240 + (h.val * 512 + v.val), by omega⟩)

/-- The logit of a row: its low-rank factors of the direction, times the direction's weight, plus the bias. -/
def logit (R : Fin 8192) (k : Fin 256) : EReal :=
  (∑ q : Fin 16, r (ix2 R ⟨d.val * 16 + q.val, by omega⟩) * w (ix3 d q (kcol h k))) + g (ix2 d (kcol h k))

/-- The running sum of a chunk's log decays. -/
def cum (n : Fin 4) (t : Fin 64) (k : Fin 256) : EReal := run 64 (fun s => lg (logit r w g d h (zrow b d n s) k)) t

/-- The state after the four chunks. -/
def walk : Fin 256 → Fin 512 → EReal :=
  step (cum r w g b d h 3) (keys z b d h 3) (vals z b d h 3) (step (cum r w g b d h 2) (keys z b d h 2) (vals z b d h 2)
    (step (cum r w g b d h 1) (keys z b d h 1) (vals z b d h 1) (step (cum r w g b d h 0) (keys z b d h 0) (vals z b d h 0) fun _ _ => 0)))

end Cert.Gla
-- ==== Proof.GlaPay.lean ====
/-
The running sums of the gated linear attention kernel, read entry by entry: six shifts and sums, each doubling how many rows are summed.
-/
module

public import proofs.«01_k».proof.Proof.Gla
public import proofs.«01_k».proof.Proof.Gen.Kernel12Ideal.Value

@[expose] public section

set_option maxRecDepth 16384

noncomputable section

namespace Cert.Gla

open Cert.Kernel12Ideal Cert.Kernel12Ideal.Gen Idealize.ShloMosaic Idealize.SL.Sem Idealize.ShloMosaic.TcCoe

/-- The row numbers of a chunk. -/
abbrev rows : IVec S64x1 32 := iota .tc S64x1 32 [0] iota_S64x1_d0_w32

/-- An array plus itself some rows down, zeros coming in at the top. -/
def shF (s : BitVec 32) (x : FVec Ideal S64x256 .f32) : FVec Ideal S64x256 .f32 :=
  addf x (select (broadcastTo S64x256 (shapeCast S64x1 (cmpi .sge rows (broadcast S64x1 s)) shapeCasts_S64x1_S64x1) broadcasts_S64x1_S64x256)
    (dynamicRotate 0 s none x rotates_S64x256_d0) (broadcast S64x256 (Scalar.ofBits .f32 0x00000000#32)))

/-- An array plus itself some rows up, zeros coming in at the bottom. -/
def shB (s : BitVec 32) (x : FVec Ideal S64x256 .f32) : FVec Ideal S64x256 .f32 :=
  addf x (select (broadcastTo S64x256 (shapeCast S64x1 (cmpi .slt rows (broadcast S64x1 s)) shapeCasts_S64x1_S64x1) broadcasts_S64x1_S64x256)
    (dynamicRotate 0 s none x rotates_S64x256_d0) (broadcast S64x256 (Scalar.ofBits .f32 0x00000000#32)))

/-- The running sum down a chunk. -/
def cumF (x : FVec Ideal S64x256 .f32) : FVec Ideal S1x64x256 .f32 :=
  shapeCast S1x64x256 (shF 32#32 (shF 16#32 (shF 8#32 (shF 4#32 (shF 2#32 (shF 1#32 x)))))) shapeCasts_S64x256_S1x64x256

/-- The running sum up a chunk. -/
def cumB (x : FVec Ideal S64x256 .f32) : FVec Ideal S1x64x256 .f32 :=
  shapeCast S1x64x256 (shB 32#32 (shB 48#32 (shB 56#32 (shB 60#32 (shB 62#32 (shB 63#32 x)))))) shapeCasts_S64x256_S1x64x256

section
variable (a : Vec Ideal S64x128 .bf16) (w : Vec Ideal S1x1x128x256 .bf16) (c : Vec Ideal S1x1x1x256 .f32)

theorem f0_cum : k0_pay10 rows (k0_pay9 rows (k0_pay7 a w c) (k0_pay8 a w c)) 32#32 = cumF (k0_pay11 a w c) := rfl
theorem f1_cum : k0_pay19 rows (k0_pay16 rows a w c) (k0_pay17 rows) (k0_pay18 rows a w c) = cumF (k0_pay11 a w c) := rfl
theorem f2_cum : k0_pay27 rows (k0_pay25 rows (k0_pay24 a w) c) (k0_pay26 rows) = cumF (k0_pay11 a w c) := rfl
theorem f3_cum : k0_pay38 rows (k0_pay37 rows (k0_pay35 a w c) (k0_pay36 a w c)) 32#32 = cumF (k0_pay11 a w c) := rfl
theorem b0_cum : k0_pay15 (k0_pay14 rows (k0_pay11 a w c) (k0_pay12 a w c) (Scalar.ofBits .f32 0x00000000#32) (k0_pay13 rows)) = cumB (k0_pay11 a w c) := rfl
theorem b1_cum : k0_pay23 rows (k0_pay20 rows a w c) (k0_pay21 rows) (k0_pay22 rows a w c) (Scalar.ofBits .f32 0x00000000#32) = cumB (k0_pay11 a w c) := rfl
theorem b2_cum : k0_pay33 rows (k0_pay31 rows (k0_pay29 a w c) (k0_pay30 a w c)) (k0_pay32 rows) 48#32 = cumB (k0_pay11 a w c) := rfl
theorem b3_cum : k0_pay43 (k0_pay42 rows (k0_pay39 a w c) (k0_pay40 a w c) (Scalar.ofBits .f32 0x00000000#32) (k0_pay41 rows)) = cumB (k0_pay11 a w c) := rfl
end

/-! The comparisons of the shifts. -/

theorem ge_num : ∀ m t : Fin 64, IntOp.cmpi CmpIPredicate.sge (BitVec.ofNat 32 t.val) (BitVec.ofNat 32 m.val) = if m.val ≤ t.val then 1#1 else 0#1 := by
  decide +kernel

theorem lt_num : ∀ m t : Fin 64, IntOp.cmpi CmpIPredicate.slt (BitVec.ofNat 32 t.val) (BitVec.ofNat 32 m.val) = if t.val < m.val then 1#1 else 0#1 := by
  decide +kernel

variable (x : FVec Ideal S64x256 .f32) (l : Fin 64 → EReal) (k : Fin 256)

theorem down (m : Fin 64) (h : ∀ t, (x (ix2 t k) : EReal) = run m.val l t) (t : Fin 64) :
    x (ix2 t k) + Scalar.select (IntOp.cmpi CmpIPredicate.sge (BitVec.ofNat 32 t.val) (BitVec.ofNat 32 m.val)) (x (ix2 ⟨(t.val + 64 - m.val) % 64, Nat.mod_lt _ (by decide)⟩ k)) 0
      = run (m.val + m.val) l t := by
  rw [run_double, ← h t, ge_num]
  refine congrArg (_ + ·) ?_
  by_cases hm : m.val ≤ t.val
  · rw [if_pos hm, if_pos hm, ← h]
    exact congrArg (fun s => x (ix2 s k)) (Fin.ext (by show (t.val + 64 - m.val) % 64 = t.val - m.val; omega))
  · rw [if_neg hm, if_neg hm]
    rfl

theorem up (m s : Fin 64) (hs : s.val + m.val = 64) (h : ∀ t : Fin 64, (x (ix2 t k) : EReal) = run m.val l t.rev) (t : Fin 64) :
    x (ix2 t k) + Scalar.select (IntOp.cmpi CmpIPredicate.slt (BitVec.ofNat 32 t.val) (BitVec.ofNat 32 s.val)) (x (ix2 ⟨(t.val + 64 - s.val) % 64, Nat.mod_lt _ (by decide)⟩ k)) 0
      = run (m.val + m.val) l t.rev := by
  have hr : t.rev.val = 63 - t.val := by rw [Fin.val_rev]; omega
  rw [run_double, ← h t, lt_num]
  refine congrArg (_ + ·) ?_
  by_cases hm : t.val < s.val
  · rw [if_pos hm, if_pos (by omega)]
    refine (h ⟨(t.val + 64 - s.val) % 64, Nat.mod_lt _ (by decide)⟩).trans (congrArg (run m.val l) (Fin.ext ?_))
    rw [Fin.val_rev]
    show 64 - ((t.val + 64 - s.val) % 64 + 1) = t.rev.val - m.val
    omega
  · rw [if_neg hm, if_neg (by omega)]
    rfl

theorem shF1_at (h : ∀ t, (x (ix2 t k) : EReal) = run 1 l t) (t : Fin 64) : (shF 1#32 x (ix2 t k) : EReal) = run 2 l t := by
  pointwise [shF, rows]
  exact down x l k 1 h t

theorem shB1_at (h : ∀ t : Fin 64, (x (ix2 t k) : EReal) = run 1 l t.rev) (t : Fin 64) : (shB 63#32 x (ix2 t k) : EReal) = run 2 l t.rev := by
  pointwise [shB, rows]
  exact up x l k 1 63 rfl h t

theorem shF2_at (h : ∀ t, (x (ix2 t k) : EReal) = run 2 l t) (t : Fin 64) : (shF 2#32 x (ix2 t k) : EReal) = run 4 l t := by
  pointwise [shF, rows]
  exact down x l k 2 h t

theorem shB2_at (h : ∀ t : Fin 64, (x (ix2 t k) : EReal) = run 2 l t.rev) (t : Fin 64) : (shB 62#32 x (ix2 t k) : EReal) = run 4 l t.rev := by
  pointwise [shB, rows]
  exact up x l k 2 62 rfl h t

theorem shF4_at (h : ∀ t, (x (ix2 t k) : EReal) = run 4 l t) (t : Fin 64) : (shF 4#32 x (ix2 t k) : EReal) = run 8 l t := by
  pointwise [shF, rows]
  exact down x l k 4 h t

theorem shB4_at (h : ∀ t : Fin 64, (x (ix2 t k) : EReal) = run 4 l t.rev) (t : Fin 64) : (shB 60#32 x (ix2 t k) : EReal) = run 8 l t.rev := by
  pointwise [shB, rows]
  exact up x l k 4 60 rfl h t

theorem shF8_at (h : ∀ t, (x (ix2 t k) : EReal) = run 8 l t) (t : Fin 64) : (shF 8#32 x (ix2 t k) : EReal) = run 16 l t := by
  pointwise [shF, rows]
  exact down x l k 8 h t

theorem shB8_at (h : ∀ t : Fin 64, (x (ix2 t k) : EReal) = run 8 l t.rev) (t : Fin 64) : (shB 56#32 x (ix2 t k) : EReal) = run 16 l t.rev := by
  pointwise [shB, rows]
  exact up x l k 8 56 rfl h t

theorem shF16_at (h : ∀ t, (x (ix2 t k) : EReal) = run 16 l t) (t : Fin 64) : (shF 16#32 x (ix2 t k) : EReal) = run 32 l t := by
  pointwise [shF, rows]
  exact down x l k 16 h t

theorem shB16_at (h : ∀ t : Fin 64, (x (ix2 t k) : EReal) = run 16 l t.rev) (t : Fin 64) : (shB 48#32 x (ix2 t k) : EReal) = run 32 l t.rev := by
  pointwise [shB, rows]
  exact up x l k 16 48 rfl h t

theorem shF32_at (h : ∀ t, (x (ix2 t k) : EReal) = run 32 l t) (t : Fin 64) : (shF 32#32 x (ix2 t k) : EReal) = run 64 l t := by
  pointwise [shF, rows]
  exact down x l k 32 h t

theorem shB32_at (h : ∀ t : Fin 64, (x (ix2 t k) : EReal) = run 32 l t.rev) (t : Fin 64) : (shB 32#32 x (ix2 t k) : EReal) = run 64 l t.rev := by
  pointwise [shB, rows]
  exact up x l k 32 32 rfl h t

theorem cumF_at (h : ∀ t, (x (ix2 t k) : EReal) = l t) (t : Fin 64) : (cumF x (ix3 0 t k) : EReal) = run 64 l t := by
  refine Eq.trans ?_ (shF32_at _ l k (shF16_at _ l k (shF8_at _ l k (shF4_at _ l k (shF2_at _ l k (shF1_at x l k fun t => (h t).trans (run_one l t).symm))))) t)
  pointwise [cumF]

theorem cumB_at (h : ∀ t : Fin 64, (x (ix2 t k) : EReal) = l t.rev) (t : Fin 64) : (cumB x (ix3 0 t k) : EReal) = run 64 l t.rev := by
  refine Eq.trans ?_ (shB32_at _ l k (shB16_at _ l k (shB8_at _ l k (shB4_at _ l k (shB2_at _ l k (shB1_at x l k fun t => (h t).trans (run_one l t.rev).symm))))) t)
  pointwise [cumB]

theorem lg_at (a : Vec Ideal S64x128 .bf16) (w : Vec Ideal S1x1x128x256 .bf16) (c : Vec Ideal S1x1x1x256 .f32) (t : Fin 64) (k : Fin 256) :
    (k0_pay11 (F := Ideal) a w c (ix2 t k) : EReal) = lg ((∑ q : Fin 128, a (ix2 t q) * w (ix4 0 0 q k)) + c (ix4 0 0 0 k)) := by
  unfold lg
  pointwise [k0_pay11]
  rfl

/-! The steps. -/

/-- A step's new state, from the arrays it is made of; `e` is the row that holds the whole chunk's sum. -/
def stepV (e : Fin 64) (B : Vec Ideal S1x64x256 .f32) (K : Vec Ideal S64x256 .bf16) (V : Vec Ideal S64x512 .bf16) (S : Vec Ideal S1x256x512 .f32) : Fin 256 → Fin 512 → EReal :=
  upd (fun k => Ideal.exp (B (ix3 0 e k))) (fun t k => Ideal.exp (B (ix3 0 e k) - B (ix3 0 t k))) (fun t k => K (ix2 t k)) (fun t v => V (ix2 t v)) fun k v => S (ix3 0 k v)

theorem zeroF_at (k : Fin 256) (v : Fin 512) : (k0_pay4 (F := Ideal) (ix3 0 k v) : EReal) = 0 := by
  pointwise [k0_pay4]

theorem zeroB_at (k : Fin 256) (v : Fin 512) : (k0_pay5 (F := Ideal) (ix3 0 k v) : EReal) = 0 := by
  pointwise [k0_pay5]

theorem outF_at (S : Vec Ideal S1x256x512 .f32) (k : Fin 256) (v : Fin 512) : (k0_pay122 (F := Ideal) S (ix5 0 0 0 k v) : EReal) = S (ix3 0 k v) := by
  pointwise [k0_pay122]

theorem outB_at (S : Vec Ideal S1x256x512 .f32) (k : Fin 256) (v : Fin 512) : (k0_pay1 (F := Ideal) S (ix5 0 0 0 k v) : EReal) = S (ix3 0 k v) := by
  pointwise [k0_pay1]

variable (B : Vec Ideal S1x64x256 .f32) (K : Vec Ideal S64x256 .bf16) (V : Vec Ideal S64x512 .bf16) (S : Vec Ideal S1x256x512 .f32) (v : Fin 512)

theorem f0_at : (k0_pay52 (F := Ideal) V (k0_pay45 S) (k0_pay49 K B) (k0_pay50 B) (ix3 0 k v) : EReal) = stepV 63 B K V S k v := by
  unfold stepV upd
  pointwise [k0_pay52, k0_pay45, k0_pay49, k0_pay50, k0_pay47, k0_pay46, k0_pay44]

theorem b0_at : (k0_pay60 (F := Ideal) (k0_pay54 K) V (k0_pay55 S) (k0_pay56 B) (k0_pay57 B) (ix3 0 k v) : EReal) = stepV 0 B K V S k v := by
  unfold stepV upd
  pointwise [k0_pay60, k0_pay54, k0_pay55, k0_pay56, k0_pay57]

theorem f1_at : (k0_pay67 (F := Ideal) (k0_pay63 K) V S B (ix3 0 k v) : EReal) = stepV 63 B K V S k v := by
  unfold stepV upd
  pointwise [k0_pay67, k0_pay63, k0_pay64, k0_pay65]

theorem b1_at : (k0_pay77 (F := Ideal) V (k0_pay70 S) (k0_pay74 K B) (k0_pay75 B) (ix3 0 k v) : EReal) = stepV 0 B K V S k v := by
  unfold stepV upd
  pointwise [k0_pay77, k0_pay70, k0_pay74, k0_pay75, k0_pay72, k0_pay71, k0_pay69]

theorem f2_at : (k0_pay85 (F := Ideal) (k0_pay79 K) V (k0_pay80 S) (k0_pay81 B) (k0_pay82 B) (ix3 0 k v) : EReal) = stepV 63 B K V S k v := by
  unfold stepV upd
  pointwise [k0_pay85, k0_pay79, k0_pay80, k0_pay81, k0_pay82]

theorem b2_at : (k0_pay95 (F := Ideal) (k0_pay89 K) V (k0_pay90 S) (k0_pay91 B) (k0_pay92 B) (ix3 0 k v) : EReal) = stepV 0 B K V S k v := by
  unfold stepV upd
  pointwise [k0_pay95, k0_pay89, k0_pay90, k0_pay91, k0_pay92]

theorem f3_at : (k0_pay106 (F := Ideal) (k0_pay99 K) V (k0_pay100 S) (k0_pay102 B) (k0_pay105 B) (ix3 0 k v) : EReal) = stepV 63 B K V S k v := by
  unfold stepV upd
  pointwise [k0_pay106, k0_pay99, k0_pay100, k0_pay102, k0_pay105, k0_pay101]

theorem b3_at : (k0_pay117 (F := Ideal) V (k0_pay111 S) (k0_pay113 B) (k0_pay116 K B) (ix3 0 k v) : EReal) = stepV 0 B K V S k v := by
  unfold stepV upd
  pointwise [k0_pay117, k0_pay111, k0_pay113, k0_pay116, k0_pay112, k0_pay110]

/-- The rows of a chunk may be summed in either order. -/
theorem upd_rev (τ : Fin 256 → EReal) (E K : Fin 64 → Fin 256 → EReal) (V : Fin 64 → Fin 512 → EReal) (S : Fin 256 → Fin 512 → EReal) (k : Fin 256) (v : Fin 512) :
    upd τ (fun t => E t.rev) (fun t => K t.rev) (fun t => V t.rev) S k v = upd τ E K V S k v :=
  congrArg (τ k * S k v + ·) (Equiv.sum_comp Fin.revPerm fun t => K t k * E t k * V t v)

end Cert.Gla
-- ==== Proof.GlaHost.lean ====
/-
The gated linear attention kernel's blocks, read entry by entry: which rows and columns of the arguments a grid point's blocks hold, and the weight that the
program lays, one direction below the other, in 128 rows of which the others are zero.
-/
module

public import proofs.«01_k».proof.Proof.Gla
public import proofs.«01_k».proof.Proof.Gen.Kernel12Ideal.Value
public import Idealize.ShloMosaic.Lib.Routing.OpsSet

@[expose] public section

set_option maxRecDepth 16384

noncomputable section

namespace Cert.Gla

open Cert.Kernel12Ideal Cert.Kernel12Ideal.Gen Idealize.ShloMosaic Idealize.SL.Sem Idealize.ShloMosaic.TcCoe

abbrev Sc := scatter_S4x2x128x256_S2_S4x16x256_012_1_12_0

/-- Where an entry of one direction's weight lands. -/
theorem lands (i : IVec S2 32) (e o : ℕ) (h0 : (i (ix1 0)).toInt = e) (h1 : (i (ix1 1)).toInt = o) (j : S4x16x256.Idx) (h : Fin 4) (d : Fin 2) (q : Fin 128) (k : Fin 256) :
    Sc.resultIdx? j i = some (ix4 h d q k) ↔ (j 0).val = h.val ∧ e = d.val ∧ o + (j 1).val = q.val ∧ (j 2).val = k.val := by
  rw [Routing.resultIdx?_eq_some]
  have s0 : Sc.start j i 0 = 0 := rfl
  have s1 : Sc.start j i 1 = (e : ℤ) := by
    refine Eq.trans ?_ h0
    exact congrArg (fun x => (i x).toInt) (funext fun a => match a with | ⟨0, _⟩ => rfl)
  have s2 : Sc.start j i 2 = (o : ℤ) := by
    refine Eq.trans ?_ h1
    exact congrArg (fun x => (i x).toInt) (funext fun a => match a with | ⟨0, _⟩ => rfl)
  have s3 : Sc.start j i 3 = 0 := rfl
  have w0 : Sc.window j 0 = (j 0).val := rfl
  have w1 : Sc.window j 1 = 0 := rfl
  have w2 : Sc.window j 2 = (j 1).val := rfl
  have w3 : Sc.window j 3 = (j 2).val := rfl
  constructor
  · intro H
    have a0 : Sc.start j i 0 + (Sc.window j 0 : ℤ) = (h.val : ℤ) := H 0
    have a1 : Sc.start j i 1 + (Sc.window j 1 : ℤ) = (d.val : ℤ) := H 1
    have a2 : Sc.start j i 2 + (Sc.window j 2 : ℤ) = (q.val : ℤ) := H 2
    have a3 : Sc.start j i 3 + (Sc.window j 3 : ℤ) = (k.val : ℤ) := H 3
    rw [s0, w0] at a0
    rw [s1, w1] at a1
    rw [s2, w2] at a2
    rw [s3, w3] at a3
    exact ⟨by omega, by omega, by omega, by omega⟩
  · rintro ⟨a0, a1, a2, a3⟩ a
    match a with
    | ⟨0, _⟩ =>
      show Sc.start j i 0 + (Sc.window j 0 : ℤ) = (h.val : ℤ)
      rw [s0, w0]; omega
    | ⟨1, _⟩ =>
      show Sc.start j i 1 + (Sc.window j 1 : ℤ) = (d.val : ℤ)
      rw [s1, w1]; omega
    | ⟨2, _⟩ =>
      show Sc.start j i 2 + (Sc.window j 2 : ℤ) = (q.val : ℤ)
      rw [s2, w2]; omega
    | ⟨3, _⟩ =>
      show Sc.start j i 3 + (Sc.window j 3 : ℤ) = (k.val : ℤ)
      rw [s3, w3]; omega

theorem put_in (X : Vec Ideal S4x2x128x256 .f32) (i : IVec S2 32) (e o : ℕ) (h0 : (i (ix1 0)).toInt = e) (h1 : (i (ix1 1)).toInt = o) (U : Vec Ideal S4x16x256 .f32)
    (h : Fin 4) (d : Fin 2) (q : Fin 128) (s : Fin 16) (k : Fin 256) (hd : e = d.val) (hq : o + s.val = q.val) :
    Host.scatter Sc (fun _ b => b) X i U (ix4 h d q k) = U (ix3 h s k) := by
  refine Routing.scatter_set_hit Sc X i U _ _ (fun j hj => ?_) (ix3 h s k) ((lands i e o h0 h1 _ h d q k).2 ⟨rfl, hd, hq, rfl⟩)
  obtain ⟨a0, a1, a2, a3⟩ := (lands i e o h0 h1 j h d q k).1 hj
  refine congrArg U (funext fun a => Fin.ext ?_)
  match a with
  | ⟨0, _⟩ => exact a0
  | ⟨1, _⟩ =>
    show (j 1).val = s.val
    omega
  | ⟨2, _⟩ => exact a3

theorem put_out (X : Vec Ideal S4x2x128x256 .f32) (i : IVec S2 32) (e o : ℕ) (h0 : (i (ix1 0)).toInt = e) (h1 : (i (ix1 1)).toInt = o) (U : Vec Ideal S4x16x256 .f32)
    (h : Fin 4) (d : Fin 2) (q : Fin 128) (k : Fin 256) (hn : e = d.val → q.val < o ∨ o + 16 ≤ q.val) :
    Host.scatter Sc (fun _ b => b) X i U (ix4 h d q k) = X (ix4 h d q k) := by
  refine Routing.scatter_set_miss Sc X i U _ fun j hj => ?_
  obtain ⟨a0, a1, a2, a3⟩ := (lands i e o h0 h1 j h d q k).1 hj
  have : (j 1).val < 16 := (j 1).isLt
  rcases hn a1 with hq | hq <;> omega

/-- Which blocks a grid point reads and writes: a point is a sequence and a head. -/
theorem idx : ∀ t : Fin cfg0.N, win0_1.index t = ![t.val / 4, 36 + t.val % 4] ∧ win0_2.index t = ![t.val / 4, 20 + t.val % 4] ∧ win0_5.index t = ![t.val / 4, 0] ∧
    win0_6.index t = ![t.val % 4, 0, 0, 0] ∧ win0_7.index t = ![t.val % 4, 0, 0, 0] ∧ win0_9.index t = ![t.val / 4, 0, t.val % 4, 0, 0] :=
  (by decide +kernel : ∀ t : Fin grid0.N, _)

variable (m : (ℓ : Loc nD τ sig) → Buf (Elt Ideal) ℓ)

/-- A grid point's sequence. -/
def seqOf (t : Fin cfg0.N) : Fin 32 := ⟨t.val / 4, by have h := t.isLt; have e : cfg0.N = 128 := N_0; omega⟩
/-- A grid point's head. -/
def headOf (t : Fin cfg0.N) : Fin 4 := ⟨t.val % 4, by omega⟩

/-- The projected array. -/
abbrev zed (c : Dev nD) : Vec Ideal S8192x14336 .bf16 := m ((c.tc : Thread nD τ).loc main_arg0)
/-- The low-rank factors. -/
abbrev low (c : Dev nD) : Vec Ideal S8192x128 .bf16 := m ((c.tc : Thread nD τ).loc main_arg1)
/-- The directions' weights. -/
abbrev wgt (c : Dev nD) : Vec Ideal S2x16x1024 .f32 := m ((c.tc : Thread nD τ).loc main_arg3)
/-- The directions' biases. -/
abbrev bia (c : Dev nD) : Vec Ideal S2x1024 .f32 := m ((c.tc : Thread nD τ).loc main_arg4)

theorem k_blk (c : Dev nD) (t : Fin cfg0.N) (r : Fin 256) (k : Fin 256) :
    (iblk m c 1 t : Vec Ideal S256x256 .bf16) (ix2 r k) = zed m c (ix2 ⟨(seqOf t).val * 256 + r.val, by omega⟩ ⟨9216 + ((headOf t).val * 256 + k.val), by omega⟩) := by
  blk_ext [iblk, V, idx t, seqOf, headOf]

theorem v_blk (c : Dev nD) (t : Fin cfg0.N) (r : Fin 256) (k : Fin 512) :
    (iblk m c 2 t : Vec Ideal S256x512 .bf16) (ix2 r k) = zed m c (ix2 ⟨(seqOf t).val * 256 + r.val, by omega⟩ ⟨10240 + ((headOf t).val * 512 + k.val), by omega⟩) := by
  blk_ext [iblk, V, idx t, seqOf, headOf]

theorem r_blk (c : Dev nD) (t : Fin cfg0.N) (r : Fin 256) (q : Fin 128) :
    (iblk m c 5 t : Vec Ideal S256x128 .bf16) (ix2 r q) = low m c (ix2 ⟨(seqOf t).val * 256 + r.val, by omega⟩ q) := by
  blk_ext [iblk, V, idx t, seqOf]

theorem b_host (c : Dev nD) (h : Fin 4) (d : Fin 2) (k : Fin 256) :
    (V m c main_v17 : Vec Ideal S4x2x1x256 .f32) (ix4 h d 0 k) = bia m c (ix2 d (kcol h k)) := by
  unfold kcol
  entry_read
  pointwise

theorem b_blk (c : Dev nD) (t : Fin cfg0.N) (d : Fin 2) (k : Fin 256) :
    (iblk m c 7 t : Vec Ideal S1x2x1x256 .f32) (ix4 0 d 0 k) = bia m c (ix2 d (kcol (headOf t) k)) := by
  rw [← b_host m c]
  blk_ext [iblk, idx t, headOf]

theorem w_in (c : Dev nD) (h : Fin 4) (d : Fin 2) (q : Fin 16) (k : Fin 256) :
    (V m c main_v15 : Vec Ideal S4x2x128x256 .bf16) (ix4 h d ⟨d.val * 16 + q.val, by omega⟩ k) = wgt m c (ix3 d q (kcol h k)) := by
  unfold kcol
  entry_read
  pointwise
  match d with
  | 0 => exact (put_out _ _ 1 16 rfl rfl _ h 0 _ k (fun e => absurd e (by decide))).trans (put_in _ _ 0 0 rfl rfl _ h 0 _ q k rfl (by show 0 + q.val = 0 * 16 + q.val; omega))
  | 1 => exact put_in _ _ 1 16 rfl rfl _ h 1 _ q k rfl (by show 16 + q.val = 1 * 16 + q.val; omega)

theorem w_out (c : Dev nD) (h : Fin 4) (d : Fin 2) (q : Fin 128) (k : Fin 256) (hq : q.val < d.val * 16 ∨ d.val * 16 + 16 ≤ q.val) :
    (V m c main_v15 : Vec Ideal S4x2x128x256 .bf16) (ix4 h d q k) = (0 : EReal) := by
  entry_read
  pointwise
  refine (put_out _ _ 1 16 rfl rfl _ h d q k fun e => by omega).trans ((put_out _ _ 0 0 rfl rfl _ h d q k fun e => by omega).trans ?_)
  pointwise

theorem w_blk (c : Dev nD) (t : Fin cfg0.N) (d : Fin 2) (q : Fin 128) (k : Fin 256) :
    (iblk m c 6 t : Vec Ideal S1x2x128x256 .bf16) (ix4 0 d q k) = (V m c main_v15 : Vec Ideal S4x2x128x256 .bf16) (ix4 (headOf t) d q k) := by
  unfold iblk
  generalize V m c = W
  blk_ext [idx t, headOf]

end Cert.Gla
-- ==== Proof.GlaLg.lean ====
/-
The log decays of the reference's gated linear attention, its keys and its values, read entry by entry.
-/
module

public import proofs.«01_k».proof.Proof.Gla
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

namespace Cert.Gla

open Cert.Reference12Ideal Cert.Reference12Ideal.Read Idealize.ShloMosaic Idealize.SL.Sem Idealize.ShloMosaic.TcCoe

theorem k_at (z : Vec Ideal S8192x14336 .bf16) (b : Fin 32) (d : Fin 2) (n : Fin 4) (t : Fin 64) (h : Fin 4) (k : Fin 256) :
    (val_main_v12 (F := Ideal) z (ix6 b d n t h k) : EReal) = keys z b d h n t k := by
  unfold keys zrow
  pointwise [val_main_v12, val_main_v11, val_main_v10, val_main_v9, val_main_v8, val_main_v5, val_main_v4, val_main_v1, val_main_v0]
  by_cases hd : d.val < 1
  · simp only [hd, dite_true, if_true]
  · simp only [hd, dite_false, if_false]
    refine congrArg z (congrArg₂ ix2 (Fin.ext ?_) (Fin.ext ?_))
    · change b.val * 256 + (256 - (n.val * 64 + t.val + 1)) = b.val * 256 + (255 - (n.val * 64 + t.val))
      omega
    · rfl

theorem v_at (z : Vec Ideal S8192x14336 .bf16) (b : Fin 32) (d : Fin 2) (n : Fin 4) (t : Fin 64) (h : Fin 4) (k : Fin 512) :
    (val_main_v17 (F := Ideal) z (ix6 b d n t h k) : EReal) = vals z b d h n t k := by
  unfold vals zrow
  pointwise [val_main_v17, val_main_v16, val_main_v15, val_main_v14, val_main_v13, val_main_v7, val_main_v6, val_main_v1, val_main_v0]
  by_cases hd : d.val < 1
  · simp only [hd, dite_true, if_true]
  · simp only [hd, dite_false, if_false]
    refine congrArg z (congrArg₂ ix2 (Fin.ext ?_) (Fin.ext ?_))
    · change b.val * 256 + (256 - (n.val * 64 + t.val + 1)) = b.val * 256 + (255 - (n.val * 64 + t.val))
      omega
    · rfl

variable (r : Vec Ideal S8192x128 .bf16) (w : Vec Ideal S2x16x1024 .f32) (g : Vec Ideal S2x1024 .f32)

theorem logitF_at (b : Fin 32) (T : Fin 256) (h : Fin 4) (k : Fin 256) :
    (val_main_v26 (F := Ideal) r w g (ix3 b T (kcol h k)) : EReal) = logit r w g 0 h ⟨b.val * 256 + T.val, by omega⟩ k := by
  unfold logit
  pointwise [val_main_v26, val_main_v25, val_main_v24, val_main_v23, val_main_v22, val_main_v21, val_main_v20, val_main_v19, val_main_v18, val_main_v3, val_main_v2]

theorem logitB_at (b : Fin 32) (T : Fin 256) (h : Fin 4) (k : Fin 256) :
    (val_main_v39 (F := Ideal) r w g (ix3 b T (kcol h k)) : EReal) = logit r w g 1 h ⟨b.val * 256 + T.val, by omega⟩ k := by
  unfold logit
  pointwise [val_main_v39, val_main_v38, val_main_v37, val_main_v36, val_main_v35, val_main_v34, val_main_v33, val_main_v32, val_main_v31, val_main_v3, val_main_v2]

/-- The logarithm of one plus an exponential of minus a size is a number. -/
theorem soft_real (x : EReal) : ∃ a : ℝ, Ideal.log (1 + Ideal.exp (-max x (-x))) = (a : EReal) := by
  have h0 : Ideal.log (1 + Ideal.exp ⊥) = ((Real.log 1 : ℝ) : EReal) := by
    have e : Ideal.exp ⊥ = 0 := rfl
    rw [e, add_zero]
    show (if (1 : ℝ) ≤ 0 then (⊥ : EReal) else ((Real.log 1 : ℝ) : EReal)) = _
    exact if_neg (by norm_num)
  induction x using EReal.rec with
  | bot => exact ⟨Real.log 1, by simpa using h0⟩
  | top => exact ⟨Real.log 1, by simpa using h0⟩
  | coe r =>
    refine ⟨Real.log (1 + Real.exp (-max r (-r))), ?_⟩
    have e : (1 : EReal) + Ideal.exp (-max (r : EReal) (-(r : EReal))) = ((1 + Real.exp (-max r (-r)) : ℝ) : EReal) := by
      rw [← EReal.coe_neg, ← EReal.coe_strictMono.monotone.map_max, ← EReal.coe_neg]
      rfl
    rw [e]
    exact if_neg (not_le.mpr (by positivity))

/-- The reference's log-sigmoid over 16 is the kernel's. -/
theorem lg_eq (x : EReal) : Ideal.div (-if -x ≠ -x then -x else max (-x) 0 + Ideal.log1p (Ideal.exp (-max (-x) (- -x)))) (Ideal.ofBits FTy.f32 0x41800000#32) = lg x := by
  have c16 : Ideal.ofBits FTy.f32 0x41800000#32 = ((16 : ℝ) : EReal) := by
    simp [Ideal.ofBits, Ideal.ieee, -EReal.coe_mul]; norm_num
  have c1 : Ideal.ofBits FTy.f32 0x3D800000#32 = ((16 : ℝ) : EReal)⁻¹ := by
    rw [← EReal.coe_inv]
    simp [Ideal.ofBits, Ideal.ieee, -EReal.coe_mul]; norm_num
  rw [if_neg (fun h => h rfl)]
  unfold lg Ideal.log1p
  rw [c16, c1, neg_neg, max_comm (-x) x, zero_sub]
  obtain ⟨a, ha⟩ := soft_real x
  rw [ha]
  unfold Ideal.div
  rw [if_neg (EReal.coe_ne_zero.mpr (by norm_num))]
  refine congrArg (· * _) ?_
  rw [EReal.neg_add (Or.inr (EReal.coe_ne_top a)) (Or.inr (EReal.coe_ne_bot a))]
  refine congrArg (· - (a : EReal)) ?_
  rcases le_total x 0 with h | h
  · rw [min_eq_left h, max_eq_left (by simpa using EReal.neg_le_neg_iff.mpr h), neg_neg]
  · rw [min_eq_right h, max_eq_right (by simpa using EReal.neg_le_neg_iff.mpr h), neg_zero]

theorem lgF_at (b : Fin 32) (T : Fin 256) (c : Fin 1024) :
    (val_main_v29 (F := Ideal) r w g (ix3 b T c) : EReal) = lg (val_main_v26 (F := Ideal) r w g (ix3 b T c)) := by
  pointwise [val_main_v29, val_main_v28, val_main_v27, val_main_cst, val_main_call2_v1, val_main_call2_v0, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_call0_cst]
  generalize val_main_v26 (F := Ideal) r w g (ix3 b T c) = x
  exact lg_eq x

theorem lgB_at (b : Fin 32) (T : Fin 256) (c : Fin 1024) :
    (val_main_v42 (F := Ideal) r w g (ix3 b T c) : EReal) = lg (val_main_v39 (F := Ideal) r w g (ix3 b T c)) := by
  pointwise [val_main_v42, val_main_v41, val_main_v40, val_main_cst_0, val_main_call3_v1, val_main_call3_v0, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst]
  generalize val_main_v39 (F := Ideal) r w g (ix3 b T c) = x
  exact lg_eq x

theorem laF_at (b : Fin 32) (n : Fin 4) (t : Fin 64) (h : Fin 4) (k : Fin 256) :
    (val_main_v48 (F := Ideal) r w g (ix6 b 0 n t h k) : EReal) = lg (logit r w g 0 h (zrow b 0 n t) k) := by
  refine Eq.trans ?_ ((lgF_at r w g b ⟨n.val * 64 + t.val, by omega⟩ (kcol h k)).trans (congrArg lg (logitF_at r w g b ⟨n.val * 64 + t.val, by omega⟩ h k)))
  unfold kcol
  pointwise [val_main_v48, val_main_v47, val_main_v46, val_main_v45, val_main_v44, val_main_v43, val_main_v30]

theorem laB_at (b : Fin 32) (n : Fin 4) (t : Fin 64) (h : Fin 4) (k : Fin 256) :
    (val_main_v48 (F := Ideal) r w g (ix6 b 1 n t h k) : EReal) = lg (logit r w g 1 h (zrow b 1 n t) k) := by
  have e : (⟨b.val * 256 + (⟨n.val * 64 + t.val, by omega⟩ : Fin 256).rev.val, by omega⟩ : Fin 8192) = zrow b 1 n t := Fin.ext (by
    show b.val * 256 + (256 - (n.val * 64 + t.val + 1)) = b.val * 256 + (255 - (n.val * 64 + t.val))
    omega)
  refine Eq.trans ?_ ((lgB_at r w g b (⟨n.val * 64 + t.val, by omega⟩ : Fin 256).rev (kcol h k)).trans (congrArg lg ((logitB_at r w g b (⟨n.val * 64 + t.val, by omega⟩ : Fin 256).rev h k).trans (congrArg (fun R => logit r w g 1 h R k) e))))
  clear e
  unfold kcol
  pointwise [val_main_v48, val_main_v47, val_main_v46, val_main_v45, val_main_v44, val_main_v43, val_main_v30]
  rfl

theorem la_at (b : Fin 32) (d : Fin 2) (n : Fin 4) (t : Fin 64) (h : Fin 4) (k : Fin 256) :
    (val_main_v48 (F := Ideal) r w g (ix6 b d n t h k) : EReal) = lg (logit r w g d h (zrow b d n t) k) :=
  match d with
  | 0 => laF_at r w g b n t h k
  | 1 => laB_at r w g b n t h k

end Cert.Gla
-- ==== Proof.GlaCum.lean ====
/-
The reference's running sum, a window of 64 places that slides over zeros, is the sum of a chunk's entries up to a row.
-/
module

public import proofs.«01_k».proof.Proof.Gla
public import proofs.«01_k».proof.Proof.Gen.Reference12Ideal
public import Idealize.ShloMosaic.Lib.Pipeline.ValueKit
public import Idealize.ShloMosaic.Lib.Pointwise
public import Idealize.ShloMosaic.Lib.Claim

@[expose] public section

set_option maxRecDepth 16384

noncomputable section

namespace Cert.Gla

open Cert.Reference12Ideal Idealize.ShloMosaic Idealize.SL.Sem Idealize.ShloMosaic.TcCoe

/-- The window of the running sum. -/
abbrev Wd : Shape := ⟨6, ![1, 1, 1, 64, 1, 1]⟩

theorem win_at (n : Fin Wd.numel) (a : Fin 6) : (Wd.rowMajor.symm n a : ℕ) = if a = 3 then n.val else 0 := by
  have hN : Wd.numel = 64 := by decide
  revert n a
  decide +kernel

/-- A fold that adds a value at each place is the sum of the values. -/
theorem fold_sum (N : ℕ) (z : EReal) (g : ℕ → EReal) (f : EReal → Fin N → EReal) (hf : ∀ r n, f r n = r + g n.val) :
    (List.finRange N).foldl f z = z + ∑ n ∈ Finset.range N, g n := by
  induction N with
  | zero => simp
  | succ N ih =>
    rw [List.finRange_succ_last, List.foldl_append, List.foldl_map]
    rw [ih (fun r n => f r n.castSucc) (fun r n => by rw [hf]; rfl)]
    simp only [List.foldl_cons, List.foldl_nil, hf, Fin.val_last]
    rw [Finset.sum_range_succ, add_assoc]

theorem window_at (X : FVec Ideal S32x2x4x64x4x256 .f32) (z0 : FVec Ideal S_ .f32) (hz : (z0 (Shape.Idx.first Gen.h_S_) : EReal) = 0)
    (b : Fin 32) (d : Fin 2) (n : Fin 4) (t : Fin 64) (h : Fin 4) (k : Fin 256) :
    (Host.reduceWindowAdd ![1, 1, 1, 64, 1, 1] ![1, 1, 1, 1, 1, 1] ![0, 0, 0, 63, 0, 0] ![0, 0, 0, 0, 0, 0] X z0 Gen.reduceWindows_S32x2x4x64x4x256_S32x2x4x64x4x256_w1s1p0_0_w1s1p0_0_w1s1p0_0_w64s1p63_0_w1s1p0_0_w1s1p0_0 Gen.h_S_ (ix6 b d n t h k) : EReal)
      = run 64 (fun s => X (ix6 b d n s h k)) t := by
  simp only [Host.reduceWindowAdd, Ideal.hostReduceWindowAdd_def, Ideal.hostReduceWindowAdd, Host.reduceWindow]
  have hN : Wd.numel = 64 := by decide
  refine (fold_sum Wd.numel _ (fun m => if 63 ≤ t.val + m then X (ix6 b d n ⟨(t.val + m - 63) % 64, Nat.mod_lt _ (by decide)⟩ h k) else 0) _ ?_).trans ?_
  · intro r w
    refine congrArg (r + ·) ?_
    have hw : w.val < 64 := hN ▸ w.isLt
    have h0 : (Wd.rowMajor.symm w 0 : ℕ) = 0 := win_at w 0
    have h1 : (Wd.rowMajor.symm w 1 : ℕ) = 0 := win_at w 1
    have h2 : (Wd.rowMajor.symm w 2 : ℕ) = 0 := win_at w 2
    have h3 : (Wd.rowMajor.symm w 3 : ℕ) = w.val := win_at w 3
    have h4 : (Wd.rowMajor.symm w 4 : ℕ) = 0 := win_at w 4
    have h5 : (Wd.rowMajor.symm w 5 : ℕ) = 0 := win_at w 5
    split
    · next hin =>
      have h3' : 63 ≤ t.val * 1 + (Wd.rowMajor.symm w 3).val := (hin 3).1
      rw [h3] at h3'
      rw [if_pos (by omega)]
      refine congrArg X ?_
      funext a
      apply Fin.ext
      match a with
      | ⟨0, _⟩ =>
        show b.val * 1 + (Wd.rowMajor.symm w 0).val - 0 = b.val
        rw [h0]
        omega
      | ⟨1, _⟩ =>
        show d.val * 1 + (Wd.rowMajor.symm w 1).val - 0 = d.val
        rw [h1]
        omega
      | ⟨2, _⟩ =>
        show n.val * 1 + (Wd.rowMajor.symm w 2).val - 0 = n.val
        rw [h2]
        omega
      | ⟨3, _⟩ =>
        show t.val * 1 + (Wd.rowMajor.symm w 3).val - 63 = (t.val + w.val - 63) % 64
        rw [h3]
        omega
      | ⟨4, _⟩ =>
        show h.val * 1 + (Wd.rowMajor.symm w 4).val - 0 = h.val
        rw [h4]
        omega
      | ⟨5, _⟩ =>
        show k.val * 1 + (Wd.rowMajor.symm w 5).val - 0 = k.val
        rw [h5]
        omega
    · next hin =>
      rw [if_neg fun hle => hin fun a => ?_]
      · exact hz
      · match a with
        | ⟨0, _⟩ =>
          show 0 ≤ b.val * 1 + (Wd.rowMajor.symm w 0).val ∧ b.val * 1 + (Wd.rowMajor.symm w 0).val - 0 < 32
          rw [h0]
          omega
        | ⟨1, _⟩ =>
          show 0 ≤ d.val * 1 + (Wd.rowMajor.symm w 1).val ∧ d.val * 1 + (Wd.rowMajor.symm w 1).val - 0 < 2
          rw [h1]
          omega
        | ⟨2, _⟩ =>
          show 0 ≤ n.val * 1 + (Wd.rowMajor.symm w 2).val ∧ n.val * 1 + (Wd.rowMajor.symm w 2).val - 0 < 4
          rw [h2]
          omega
        | ⟨3, _⟩ =>
          show 63 ≤ t.val * 1 + (Wd.rowMajor.symm w 3).val ∧ t.val * 1 + (Wd.rowMajor.symm w 3).val - 63 < 64
          rw [h3]
          omega
        | ⟨4, _⟩ =>
          show 0 ≤ h.val * 1 + (Wd.rowMajor.symm w 4).val ∧ h.val * 1 + (Wd.rowMajor.symm w 4).val - 0 < 4
          rw [h4]
          omega
        | ⟨5, _⟩ =>
          show 0 ≤ k.val * 1 + (Wd.rowMajor.symm w 5).val ∧ k.val * 1 + (Wd.rowMajor.symm w 5).val - 0 < 256
          rw [h5]
          omega
  · rw [hN]
    exact (congrArg (· + _) hz).trans ((zero_add _).trans (run_window (fun s => X (ix6 b d n s h k)) t))

end Cert.Gla
-- ==== Proof.GlaRef.lean ====
/-
The reference's gated linear attention states, read entry by entry: the running sums of the log decays, each chunk's outer products, and the states that
follow from one another.
-/
module

public import proofs.«01_k».proof.Proof.GlaLg
public import proofs.«01_k».proof.Proof.GlaCum
public import Idealize.ShloMosaic.Lib.Pipeline.ValueKit
public import Idealize.ShloMosaic.Lib.Pointwise
public import Idealize.ShloMosaic.Lib.Claim

@[expose] public section

set_option maxRecDepth 16384

noncomputable section

namespace Cert.Gla

open Cert.Reference12Ideal Cert.Reference12Ideal.Read Idealize.ShloMosaic Idealize.SL.Sem Idealize.ShloMosaic.TcCoe

variable (z : Vec Ideal S8192x14336 .bf16) (r : Vec Ideal S8192x128 .bf16) (w : Vec Ideal S2x16x1024 .f32) (g : Vec Ideal S2x1024 .f32)
  (b : Fin 32) (d : Fin 2) (h : Fin 4)

theorem cum_at (n : Fin 4) (t : Fin 64) (k : Fin 256) :
    (val_main_v49 (F := Ideal) r w g (ix6 b d n t h k) : EReal) = cum r w g b d h n t k := by
  unfold val_main_v49
  refine (window_at _ _ ?_ b d n t h k).trans ?_
  · pointwise [val_main_call5_call0_v0, val_main_call5_call0_cst]
  · exact congrArg (fun l => run 64 l t) (funext fun s => la_at r w g b d n s h k)

theorem kv_at (n : Fin 4) (k : Fin 256) (v : Fin 512) :
    (val_main_v55 (F := Ideal) z r w g (ix6 b d n h k v) : EReal)
      = ∑ t, keys z b d h n t k * Ideal.exp (cum r w g b d h n 63 k - cum r w g b d h n t k) * vals z b d h n t v := by
  pointwise [val_main_v55, val_main_v54, val_main_v53, val_main_v52, val_main_v51, val_main_v50]
  refine Finset.sum_congr rfl fun t _ => ?_
  rw [k_at, v_at, cum_at r w g b d h n t k]
  exact congrArg (fun x => _ * Ideal.exp (x - _) * _) (cum_at r w g b d h n 63 k)

theorem s0_at (k : Fin 256) (v : Fin 512) :
    (val_main_v65 (F := Ideal) z r w g (ix5 b d h k v) : EReal)
      = step (cum r w g b d h 0) (keys z b d h 0) (vals z b d h 0) (fun _ _ => 0) k v := by
  unfold step upd
  pointwise [val_main_v65, val_main_v62, val_main_v61, val_main_v60, val_main_v59, val_main_v58, val_main_v57, val_main_v64, val_main_v63, val_main_v56, val_main_v50, val_main_cst_1]
  exact congrArg₂ (fun x y => Ideal.exp x * _ + y) (cum_at r w g b d h 0 63 k) (kv_at z r w g b d h 0 k v)

theorem s1_at (k : Fin 256) (v : Fin 512) :
    (val_main_v74 (F := Ideal) z r w g (ix5 b d h k v) : EReal)
      = step (cum r w g b d h 1) (keys z b d h 1) (vals z b d h 1) (fun k v => val_main_v65 (F := Ideal) z r w g (ix5 b d h k v)) k v := by
  unfold step upd
  pointwise [val_main_v66, val_main_v67, val_main_v68, val_main_v69, val_main_v70, val_main_v71, val_main_v72, val_main_v73, val_main_v74, val_main_v50]
  exact congrArg₂ (fun x y => Ideal.exp x * _ + y) (cum_at r w g b d h 1 63 k) (kv_at z r w g b d h 1 k v)

theorem s2_at (k : Fin 256) (v : Fin 512) :
    (val_main_v83 (F := Ideal) z r w g (ix5 b d h k v) : EReal)
      = step (cum r w g b d h 2) (keys z b d h 2) (vals z b d h 2) (fun k v => val_main_v74 (F := Ideal) z r w g (ix5 b d h k v)) k v := by
  unfold step upd
  pointwise [val_main_v75, val_main_v76, val_main_v77, val_main_v78, val_main_v79, val_main_v80, val_main_v81, val_main_v82, val_main_v83, val_main_v50]
  exact congrArg₂ (fun x y => Ideal.exp x * _ + y) (cum_at r w g b d h 2 63 k) (kv_at z r w g b d h 2 k v)

theorem s3_at (k : Fin 256) (v : Fin 512) :
    (val_main_v92 (F := Ideal) z r w g (ix5 b d h k v) : EReal)
      = step (cum r w g b d h 3) (keys z b d h 3) (vals z b d h 3) (fun k v => val_main_v83 (F := Ideal) z r w g (ix5 b d h k v)) k v := by
  unfold step upd
  pointwise [val_main_v84, val_main_v85, val_main_v86, val_main_v87, val_main_v88, val_main_v89, val_main_v90, val_main_v91, val_main_v92, val_main_v50]
  exact congrArg₂ (fun x y => Ideal.exp x * _ + y) (cum_at r w g b d h 3 63 k) (kv_at z r w g b d h 3 k v)

/-- The reference's states are the walk's. -/
theorem ref_at (k : Fin 256) (v : Fin 512) :
    (val_main_v92 (F := Ideal) z r w g (ix5 b d h k v) : EReal) = walk z r w g b d h k v := by
  refine (s3_at z r w g b d h k v).trans (congrArg (fun S => step _ _ _ S k v) (funext₂ fun k v => ?_))
  refine (s2_at z r w g b d h k v).trans (congrArg (fun S => step _ _ _ S k v) (funext₂ fun k v => ?_))
  refine (s1_at z r w g b d h k v).trans (congrArg (fun S => step _ _ _ S k v) (funext₂ fun k v => ?_))
  exact s0_at z r w g b d h k v

end Cert.Gla
-- ==== Proof.GlaOut.lean ====
/-
The gated linear attention kernel's states are the reference's.
-/
module

public import proofs.«01_k».proof.Proof.GlaPay
public import proofs.«01_k».proof.Proof.GlaHost
public import proofs.«01_k».proof.Proof.GlaRef
public import Idealize.ShloMosaic.Lib.Pipeline.ReadBack

@[expose] public section

set_option maxRecDepth 16384

noncomputable section

namespace Cert.Gla

open Cert.Kernel12Ideal Cert.Kernel12Ideal.Gen Idealize.ShloMosaic Idealize.SL.Sem Idealize.ShloMosaic.TcCoe

variable (m : (ℓ : Loc nD τ sig) → Buf (Elt Ideal) ℓ)

theorem ld_rows {n : ℕ} (X : Vec Ideal ⟨2, ![256, n]⟩ .bf16) (o : ℕ) (ho : o + 64 ≤ 256) (h) (r : Fin 64) (k : Fin n) :
    (View.ld X (Rect.unit ![o, 0] ![64, n] h) : Vec Ideal ⟨2, ![64, n]⟩ .bf16) (ix2 r k) = X (ix2 ⟨o + r.val, by omega⟩ k) := by
  refine congrArg X (funext fun a => Fin.ext ?_)
  match a with
  | ⟨0, _⟩ => show o + 1 * r.val = o + r.val; omega
  | ⟨1, _⟩ => show 0 + 1 * k.val = k.val; omega

theorem ld_dir {n : ℕ} {e : EltTy} (X : Vec Ideal ⟨4, ![1, 2, n, 256]⟩ e) (d : ℕ) (hd : d < 2) (h) (q : Fin n) (k : Fin 256) :
    (View.ld X (Rect.unit ![0, d, 0, 0] ![1, 1, n, 256] h) : Vec Ideal ⟨4, ![1, 1, n, 256]⟩ e) (ix4 0 0 q k) = X (ix4 0 ⟨d, hd⟩ q k) := by
  refine congrArg X (funext fun a => Fin.ext ?_)
  match a with
  | ⟨0, _⟩ => rfl
  | ⟨1, _⟩ => rfl
  | ⟨2, _⟩ => show 0 + 1 * q.val = q.val; omega
  | ⟨3, _⟩ => show 0 + 1 * k.val = k.val; omega

/-- The weight's 128 rows weigh only the direction's 16 factors. -/
theorem rank_sum (c : Dev nD) (h : Fin 4) (d : Fin 2) (k : Fin 256) (R : Fin 8192) :
    (∑ q : Fin 128, (low m c (ix2 R q) : EReal) * (V m c main_v15 : Vec Ideal S4x2x128x256 .bf16) (ix4 h d q k))
      = ∑ q : Fin 16, (low m c (ix2 R ⟨d.val * 16 + q.val, by omega⟩) : EReal) * wgt m c (ix3 d q (kcol h k)) := by
  refine (Fintype.sum_of_injective (fun q : Fin 16 => (⟨d.val * 16 + q.val, by omega⟩ : Fin 128)) (fun a b hab => Fin.ext ?_) _ _ (fun q hq => ?_) (fun q => ?_)).symm
  · have := congrArg Fin.val hab
    simp only at this
    omega
  · rw [w_out m c h d q k ?_]
    · exact mul_zero _
    · by_contra hn
      refine hq ⟨⟨q.val - d.val * 16, by omega⟩, Fin.ext ?_⟩
      show d.val * 16 + (q.val - d.val * 16) = q.val
      omega
  · exact congrArg (_ * ·) (w_in m c h d q k).symm

/-- The log decays of 64 rows of a grid point. -/
theorem lg_chunk (c : Dev nD) (t : Fin cfg0.N) (d : ℕ) (hd : d < 2) (o : ℕ) (ho : o + 64 ≤ 256) (h1 h2 h3) (s : Fin 64) (k : Fin 256) :
    (k0_pay11 (F := Ideal) (View.ld (iblk m c 5 t : Vec Ideal S256x128 .bf16) (Rect.unit ![o, 0] ![64, 128] h1)) (View.ld (iblk m c 6 t : Vec Ideal S1x2x128x256 .bf16) (Rect.unit ![0, d, 0, 0] ![1, 1, 128, 256] h2))
        (View.ld (iblk m c 7 t : Vec Ideal S1x2x1x256 .f32) (Rect.unit ![0, d, 0, 0] ![1, 1, 1, 256] h3)) (ix2 s k) : EReal)
      = lg (logit (low m c) (wgt m c) (bia m c) ⟨d, hd⟩ (headOf t) ⟨(seqOf t).val * 256 + (o + s.val), by omega⟩ k) := by
  refine (lg_at _ _ _ s k).trans (congrArg lg ?_)
  unfold logit
  rw [← rank_sum m c]
  refine congrArg₂ (· + ·) (Finset.sum_congr rfl fun q _ => ?_) ?_
  · exact congrArg₂ (fun x y : EReal => x * y) ((ld_rows _ o ho h1 s q).trans (r_blk m c t _ q)) ((ld_dir _ d hd h2 q k).trans (w_blk m c t _ q k))
  · exact (ld_dir _ d hd h3 0 k).trans (b_blk m c t _ k)

theorem cumF_chunk (c : Dev nD) (t : Fin cfg0.N) (n : Fin 4) (o : ℕ) (ho : o = n.val * 64) (h1 h2 h3) (s : Fin 64) (k : Fin 256) :
    (cumF (k0_pay11 (F := Ideal) (View.ld (iblk m c 5 t : Vec Ideal S256x128 .bf16) (Rect.unit ![o, 0] ![64, 128] h1)) (View.ld (iblk m c 6 t : Vec Ideal S1x2x128x256 .bf16) (Rect.unit ![0, 0, 0, 0] ![1, 1, 128, 256] h2))
        (View.ld (iblk m c 7 t : Vec Ideal S1x2x1x256 .f32) (Rect.unit ![0, 0, 0, 0] ![1, 1, 1, 256] h3))) (ix3 0 s k) : EReal)
      = cum (low m c) (wgt m c) (bia m c) (seqOf t) 0 (headOf t) n s k := by
  refine cumF_at _ (fun s => lg (logit (low m c) (wgt m c) (bia m c) 0 (headOf t) (zrow (seqOf t) 0 n s) k)) k (fun s => ?_) s
  refine (lg_chunk m c t 0 (by decide) o (by omega) h1 h2 h3 s k).trans (congrArg (fun R => lg (logit _ _ _ _ _ R k)) (Fin.ext ?_))
  show (seqOf t).val * 256 + (o + s.val) = (seqOf t).val * 256 + (n.val * 64 + s.val)
  omega

theorem cumB_chunk (c : Dev nD) (t : Fin cfg0.N) (n : Fin 4) (o : ℕ) (ho : o + n.val * 64 = 192) (h1 h2 h3) (s : Fin 64) (k : Fin 256) :
    (cumB (k0_pay11 (F := Ideal) (View.ld (iblk m c 5 t : Vec Ideal S256x128 .bf16) (Rect.unit ![o, 0] ![64, 128] h1)) (View.ld (iblk m c 6 t : Vec Ideal S1x2x128x256 .bf16) (Rect.unit ![0, 1, 0, 0] ![1, 1, 128, 256] h2))
        (View.ld (iblk m c 7 t : Vec Ideal S1x2x1x256 .f32) (Rect.unit ![0, 1, 0, 0] ![1, 1, 1, 256] h3))) (ix3 0 s k) : EReal)
      = cum (low m c) (wgt m c) (bia m c) (seqOf t) 1 (headOf t) n s.rev k := by
  refine cumB_at _ (fun s => lg (logit (low m c) (wgt m c) (bia m c) 1 (headOf t) (zrow (seqOf t) 1 n s) k)) k (fun s => ?_) s
  refine (lg_chunk m c t 1 (by decide) o (by omega) h1 h2 h3 s k).trans (congrArg (fun R => lg (logit _ _ _ _ _ R k)) (Fin.ext ?_))
  show (seqOf t).val * 256 + (o + s.val) = (seqOf t).val * 256 + (255 - (n.val * 64 + s.rev.val))
  rw [Fin.val_rev]
  omega

/-- A step of the forward walk, on the rows of the grid point's blocks. -/
theorem fwd (c : Dev nD) (t : Fin cfg0.N) (n : Fin 4) (o : ℕ) (ho : o = n.val * 64) (h1 h2) (B : Vec Ideal S1x64x256 .f32)
    (hB : ∀ s k, (B (ix3 0 s k) : EReal) = cum (low m c) (wgt m c) (bia m c) (seqOf t) 0 (headOf t) n s k) (S : Vec Ideal S1x256x512 .f32) (S' : Fin 256 → Fin 512 → EReal)
    (hS : ∀ k v, (S (ix3 0 k v) : EReal) = S' k v) (k : Fin 256) (v : Fin 512) :
    stepV 63 B (View.ld (iblk m c 1 t : Vec Ideal S256x256 .bf16) (Rect.unit ![o, 0] ![64, 256] h1)) (View.ld (iblk m c 2 t : Vec Ideal S256x512 .bf16) (Rect.unit ![o, 0] ![64, 512] h2)) S k v
      = step (cum (low m c) (wgt m c) (bia m c) (seqOf t) 0 (headOf t) n) (keys (zed m c) (seqOf t) 0 (headOf t) n) (vals (zed m c) (seqOf t) 0 (headOf t) n) S' k v := by
  have hr : ∀ s : Fin 64, (⟨(seqOf t).val * 256 + (o + s.val), by omega⟩ : Fin 8192) = zrow (seqOf t) 0 n s := fun s => Fin.ext (by
    show (seqOf t).val * 256 + (o + s.val) = (seqOf t).val * 256 + (n.val * 64 + s.val)
    omega)
  unfold stepV step
  simp only [hB]
  rw [funext₂ hS]
  refine congrArg₂ (fun K V => upd _ _ K V _ k v) (funext₂ fun s k => ?_) (funext₂ fun s v => ?_)
  · exact (ld_rows _ o (by omega) h1 s k).trans ((k_blk m c t _ k).trans (congrArg (fun r => zed m c (ix2 r _)) (hr s)))
  · exact (ld_rows _ o (by omega) h2 s v).trans ((v_blk m c t _ v).trans (congrArg (fun r => zed m c (ix2 r _)) (hr s)))

/-- A step of the backward walk likewise: it meets the rows of its chunk last first. -/
theorem bwd (c : Dev nD) (t : Fin cfg0.N) (n : Fin 4) (o : ℕ) (ho : o + n.val * 64 = 192) (h1 h2) (B : Vec Ideal S1x64x256 .f32)
    (hB : ∀ s k, (B (ix3 0 s k) : EReal) = cum (low m c) (wgt m c) (bia m c) (seqOf t) 1 (headOf t) n s.rev k) (S : Vec Ideal S1x256x512 .f32) (S' : Fin 256 → Fin 512 → EReal)
    (hS : ∀ k v, (S (ix3 0 k v) : EReal) = S' k v) (k : Fin 256) (v : Fin 512) :
    stepV 0 B (View.ld (iblk m c 1 t : Vec Ideal S256x256 .bf16) (Rect.unit ![o, 0] ![64, 256] h1)) (View.ld (iblk m c 2 t : Vec Ideal S256x512 .bf16) (Rect.unit ![o, 0] ![64, 512] h2)) S k v
      = step (cum (low m c) (wgt m c) (bia m c) (seqOf t) 1 (headOf t) n) (keys (zed m c) (seqOf t) 1 (headOf t) n) (vals (zed m c) (seqOf t) 1 (headOf t) n) S' k v := by
  have hr : ∀ s : Fin 64, (⟨(seqOf t).val * 256 + (o + s.val), by omega⟩ : Fin 8192) = zrow (seqOf t) 1 n s.rev := fun s => Fin.ext (by
    show (seqOf t).val * 256 + (o + s.val) = (seqOf t).val * 256 + (255 - (n.val * 64 + s.rev.val))
    rw [Fin.val_rev]
    omega)
  unfold step
  rw [← upd_rev]
  unfold stepV
  simp only [hB]
  rw [funext₂ hS]
  refine congrArg₂ (fun K V => upd _ _ K V _ k v) (funext₂ fun s k => ?_) (funext₂ fun s v => ?_)
  · exact (ld_rows _ o (by omega) h1 s k).trans ((k_blk m c t _ k).trans (congrArg (fun r => zed m c (ix2 r _)) (hr s)))
  · exact (ld_rows _ o (by omega) h2 s v).trans ((v_blk m c t _ v).trans (congrArg (fun r => zed m c (ix2 r _)) (hr s)))

/-- Off the last of two stores, an output holds the first. -/
theorem second {s : Shape} {e : EltTy} (r0 r1 : Rect s) (A : r0.shape.Idx → Elt Ideal e) (B : r1.shape.Idx → Elt Ideal e) (x : r0.shape.Idx) (y : s.Idx)
    (hn : y ∉ r1.set) (hy : y = r0.emb x) : View.canon (Val := Elt Ideal) [⟨r1, B⟩, ⟨r0, A⟩] y = A x := by
  refine (View.canon_cons_of_not_mem _ _ hn).trans ?_
  rw [hy]
  exact View.canon_cons_emb _ _ _ _

theorem not_half (h1) (k : Fin 256) (v : Fin 512) : (ix5 (0 : Fin 1) (0 : Fin 2) (0 : Fin 1) k v : S1x2x1x256x512.Idx) ∉ (Rect.unit (s := S1x2x1x256x512) ![0, 1, 0, 0, 0] ![1, 1, 1, 256, 512] h1).set := fun h => by
  have h' := ((Rect.mem_set_unit.mp h) 1).1
  exact absurd h' (by decide : ¬ (1 : ℕ) ≤ 0)

theorem in_half (h0) (k : Fin 256) (v : Fin 512) : (ix5 (0 : Fin 1) (0 : Fin 2) (0 : Fin 1) k v : S1x2x1x256x512.Idx) = (Rect.unit (s := S1x2x1x256x512) ![0, 0, 0, 0, 0] ![1, 1, 1, 256, 512] h0).emb (ix5 (0 : Fin 1) (0 : Fin 1) (0 : Fin 1) k v) := by
  funext a
  apply Fin.ext
  match a with
  | ⟨0, _⟩ => rfl
  | ⟨1, _⟩ => rfl
  | ⟨2, _⟩ => rfl
  | ⟨3, _⟩ => show k.val = 0 + 1 * k.val; omega
  | ⟨4, _⟩ => show v.val = 0 + 1 * v.val; omega

theorem half1 (A B : Vec Ideal S1x1x1x256x512 .f32) (h1 h0) (k : Fin 256) (v : Fin 512) :
    (View.canon (Val := Elt Ideal) (s := S1x2x1x256x512) (e := .f32) [⟨Rect.unit ![0, 1, 0, 0, 0] ![1, 1, 1, 256, 512] h1, B⟩, ⟨Rect.unit ![0, 0, 0, 0, 0] ![1, 1, 1, 256, 512] h0, A⟩] (ix5 0 1 0 k v) : EReal) = B (ix5 0 0 0 k v) := by
  have e : (ix5 (0 : Fin 1) (1 : Fin 2) (0 : Fin 1) k v : S1x2x1x256x512.Idx) = (Rect.unit (s := S1x2x1x256x512) ![0, 1, 0, 0, 0] ![1, 1, 1, 256, 512] h1).emb (ix5 (0 : Fin 1) (0 : Fin 1) (0 : Fin 1) k v) := by
    funext a
    apply Fin.ext
    match a with
    | ⟨0, _⟩ => rfl
    | ⟨1, _⟩ => rfl
    | ⟨2, _⟩ => rfl
    | ⟨3, _⟩ => show k.val = 0 + 1 * k.val; omega
    | ⟨4, _⟩ => show v.val = 0 + 1 * v.val; omega
  rw [e]
  exact View.canon_cons_emb _ _ _ _

theorem out0_at (c : Dev nD) (t : Fin cfg0.N) (k : Fin 256) (v : Fin 512) :
    ((outsAt0 (F := Ideal) m c t).2 (ix5 0 0 0 k v) : EReal) = walk (zed m c) (low m c) (wgt m c) (bia m c) (seqOf t) 0 (headOf t) k v := by
  unfold outsAt0
  dsimp only
  frame_open
  simp (disch := decide) only [↓ View.readCov_skip, ↓ View.readCov_cons_toLoadRect, ↓ View.readCov_fill]
  frame_out
  refine (second _ _ _ _ _ _ (not_half _ k v) (in_half _ k v)).trans ((outF_at _ k v).trans ?_)
  unfold walk
  refine (f3_at k _ _ _ _ v).trans (fwd m c t 3 192 rfl _ _ _ (fun s k => (congrFun (f3_cum _ _ _) (ix3 0 s k)).trans (cumF_chunk m c t 3 192 rfl _ _ _ s k)) _ _ (fun k v => ?_) k v)
  refine (f2_at k _ _ _ _ v).trans (fwd m c t 2 128 rfl _ _ _ (fun s k => (congrFun (f2_cum _ _ _) (ix3 0 s k)).trans (cumF_chunk m c t 2 128 rfl _ _ _ s k)) _ _ (fun k v => ?_) k v)
  refine (f1_at k _ _ _ _ v).trans (fwd m c t 1 64 rfl _ _ _ (fun s k => (congrFun (f1_cum _ _ _) (ix3 0 s k)).trans (cumF_chunk m c t 1 64 rfl _ _ _ s k)) _ _ (fun k v => ?_) k v)
  refine (f0_at k _ _ _ _ v).trans (fwd m c t 0 0 rfl _ _ _ (fun s k => (congrFun (f0_cum _ _ _) (ix3 0 s k)).trans (cumF_chunk m c t 0 0 rfl _ _ _ s k)) _ _ (fun k v => ?_) k v)
  exact zeroF_at k v

theorem out1_at (c : Dev nD) (t : Fin cfg0.N) (k : Fin 256) (v : Fin 512) :
    ((outsAt0 (F := Ideal) m c t).2 (ix5 0 1 0 k v) : EReal) = walk (zed m c) (low m c) (wgt m c) (bia m c) (seqOf t) 1 (headOf t) k v := by
  unfold outsAt0
  dsimp only
  frame_open
  simp (disch := decide) only [↓ View.readCov_skip, ↓ View.readCov_cons_toLoadRect, ↓ View.readCov_fill]
  frame_out
  refine (half1 _ _ _ _ k v).trans ((outB_at _ k v).trans ?_)
  unfold walk
  refine (b3_at k _ _ _ _ v).trans (bwd m c t 3 0 rfl _ _ _ (fun s k => (congrFun (b3_cum _ _ _) (ix3 0 s k)).trans (cumB_chunk m c t 3 0 rfl _ _ _ s k)) _ _ (fun k v => ?_) k v)
  refine (b2_at k _ _ _ _ v).trans (bwd m c t 2 64 rfl _ _ _ (fun s k => (congrFun (b2_cum _ _ _) (ix3 0 s k)).trans (cumB_chunk m c t 2 64 rfl _ _ _ s k)) _ _ (fun k v => ?_) k v)
  refine (b1_at k _ _ _ _ v).trans (bwd m c t 1 128 rfl _ _ _ (fun s k => (congrFun (b1_cum _ _ _) (ix3 0 s k)).trans (cumB_chunk m c t 1 128 rfl _ _ _ s k)) _ _ (fun k v => ?_) k v)
  refine (b0_at k _ _ _ _ v).trans (bwd m c t 0 192 rfl _ _ _ (fun s k => (congrFun (b0_cum _ _ _) (ix3 0 s k)).trans (cumB_chunk m c t 0 192 rfl _ _ _ s k)) _ _ (fun k v => ?_) k v)
  exact zeroB_at k v

/-- The launch's states are the reference's. -/
theorem final (c : Dev nD) :
    (dats (F := Ideal) m 0 c).arrAt 9 cfg0.N = Cert.Reference12Ideal.Read.val_main_v92 (F := Ideal) (zed m c) (low m c) (wgt m c) (bia m c) := by
  refine (dats m 0 c).arrAt_eq_of_covers 9 _ (by decide +kernel) fun t hf y => ?_
  rw [after0_9]
  change S1x2x1x256x512.Idx at y
  obtain ⟨d, k, v, rfl⟩ : ∃ (d : Fin 2) (k : Fin 256) (v : Fin 512), y = ix5 0 d 0 k v := ⟨y 1, y 3, y 4, funext fun a => match a with
    | ⟨0, _⟩ => Subsingleton.elim (α := Fin 1) _ _ | ⟨1, _⟩ => rfl | ⟨2, _⟩ => Subsingleton.elim (α := Fin 1) _ _ | ⟨3, _⟩ => rfl | ⟨4, _⟩ => rfl⟩
  have h : ((outsAt0 (F := Ideal) m c t).2 (ix5 0 d 0 k v) : EReal) = walk (zed m c) (low m c) (wgt m c) (bia m c) (seqOf t) d (headOf t) k v :=
    match d with
    | 0 => out0_at m c t k v
    | 1 => out1_at m c t k v
  refine h.trans ((ref_at (zed m c) (low m c) (wgt m c) (bia m c) (seqOf t) d (headOf t) k v).symm.trans ?_)
  blk_simp
  blk_ext [idx t, seqOf, headOf]

end Cert.Gla
-- ==== Proof.ModPrompt.lean ====
/-
The modulated norm of the prompt's rows that the first layer begins with, read at one element, and that the launch's result is the reference's.
-/
module

public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

namespace Cert.ModPrompt

open Cert.Kernel13Ideal Cert.Kernel13Ideal.Gen Idealize.ShloMosaic Idealize.SL.Sem Idealize.ShloMosaic.TcCoe

/-- The modulated norm at one element: `y` the row, `a` its element there, `g` the norm's gain, `s` the scale, `b` the shift. -/
def step (a g s b : EReal) (y : Fin 4096 → EReal) : EReal :=
  a * Ideal.rsqrt (Ideal.div (∑ k, y k * y k) (Ideal.ofBits .f32 0x45800000#32) + Ideal.ofBits .f32 0x358637BD#32) * g * (Ideal.ofBits .f32 0x3F800000#32 + s) + b

/-- Which blocks a grid point reads and writes: 256 rows of the stream, the gains, the prompt's shift and scale. -/
theorem idx : ∀ t : Fin cfg0.N, win0_0.index t = ![t.val, 0] ∧ win0_1.index t = ![0, 0] ∧ win0_2.index t = ![0, 0, 0, 0] ∧
    win0_3.index t = ![0, 0, 0, 1] ∧ win0_4.index t = ![t.val, 0] :=
  (by decide +kernel : ∀ t : Fin grid0.N, _)

/-- What a block's element becomes. -/
theorem pay_at (v0 : Vec Ideal S256x4096 .f32) (v11 : Vec Ideal S1x4096 .f32) (v15 v21 : Vec Ideal S1x1x1x4096 .f32) (r : Fin 256) (x : Fin 4096) :
    (k0_pay1 v0 v11 v15 v21 (ix2 r x) : EReal)
      = step (v0 (ix2 r x)) (v11 (ix2 0 x)) (v15 (ix4 0 0 0 x)) (v21 (ix4 0 0 0 x)) (fun k => v0 (ix2 r k)) := by
  pointwise [k0_pay1, step]

variable (m : (ℓ : Loc nD τ sig) → Buf (Elt Ideal) ℓ)

/-- The row of the whole array that a row of a grid point's block is. -/
def rowOf (t : Fin cfg0.N) (r : Fin 256) : Fin 8192 := ⟨t.val * 256 + r.val, by have h := t.isLt; have e : cfg0.N = 32 := N_0; omega⟩

/-- The columns of the modulation table where the shift and the scale of a column lie. -/
def shiftOf (x : Fin 4096) : Fin 24576 := ⟨x.val, by omega⟩
def scaleOf (x : Fin 4096) : Fin 24576 := ⟨4096 + x.val, by omega⟩

theorem y_blk (c : Dev nD) (t : Fin cfg0.N) (r : Fin 256) (k : Fin 4096) :
    (iblk m c 0 t : Vec Ideal S256x4096 .f32) (ix2 r k) = (m ((c.tc : Thread nD τ).loc main_arg0) : Vec Ideal S8192x4096 .f32) (ix2 (rowOf t r) k) := by
  blk_ext [iblk, V, idx t, rowOf]

theorem g_at (c : Dev nD) (x : Fin 4096) :
    (V m c main_v0 : Vec Ideal S1x4096 .f32) (ix2 0 x) = (m ((c.tc : Thread nD τ).loc main_arg1) : Vec Ideal S4096 .f32) (ix1 x) := by
  entry_read
  pointwise

theorem g_blk (c : Dev nD) (t : Fin cfg0.N) (x : Fin 4096) :
    (iblk m c 1 t : Vec Ideal S1x4096 .f32) (ix2 0 x) = (m ((c.tc : Thread nD τ).loc main_arg1) : Vec Ideal S4096 .f32) (ix1 x) := by
  rw [← g_at m c]
  blk_ext [iblk, idx t]

theorem b_blk (c : Dev nD) (t : Fin cfg0.N) (x : Fin 4096) :
    (iblk m c 2 t : Vec Ideal S1x1x1x4096 .f32) (ix4 0 0 0 x)
      = (m ((c.tc : Thread nD τ).loc main_arg2) : Vec Ideal S4x16x1x24576 .f32) (ix4 0 0 0 (shiftOf x)) := by
  blk_ext [iblk, V, idx t, shiftOf]

theorem s_blk (c : Dev nD) (t : Fin cfg0.N) (x : Fin 4096) :
    (iblk m c 3 t : Vec Ideal S1x1x1x4096 .f32) (ix4 0 0 0 x)
      = (m ((c.tc : Thread nD τ).loc main_arg2) : Vec Ideal S4x16x1x24576 .f32) (ix4 0 0 0 (scaleOf x)) := by
  blk_ext [iblk, V, idx t, scaleOf]

section
open Cert.Reference13Ideal.Read

/-- The row's sum of squares. -/
theorem squares_at (y : Vec Ideal S8192x4096 .f32) (r : Fin 8192) :
    (val_main_v9 (F := Ideal) y (ix1 r) : EReal) = ∑ k : Fin 4096, (y (ix2 r k) : EReal) * y (ix2 r k) := by
  refine (val_main_v9_apply y _).trans ?_
  refine (congrArg (· + _) (show (val_main_cst (F := Ideal) (Shape.Idx.first Cert.Reference13Ideal.Facts₀.h_S_) : EReal) = 0 from Ideal.ofBits_zero_f32)).trans ?_
  refine (zero_add _).trans (Finset.sum_congr rfl fun k _ => ?_)
  have e : (y (idx_main_v9 (ix1 r) k) : EReal) = y (ix2 r k) :=
    congrArg y (show idx_main_v9 (ix1 r) k = ix2 r k from funext fun a => match a with | ⟨0, _⟩ => rfl | ⟨1, _⟩ => rfl)
  exact congrArg₂ (fun a b : EReal => a * b) e e

/-- The factor a row is scaled by. -/
theorem norm_at (y : Vec Ideal S8192x4096 .f32) (r : Fin 8192) (x : Fin 4096) :
    (val_main_v16 (F := Ideal) y (ix2 r x) : EReal)
      = Ideal.rsqrt (Ideal.div (∑ k : Fin 4096, (y (ix2 r k) : EReal) * y (ix2 r k)) (Ideal.ofBits .f32 0x45800000#32) + Ideal.ofBits .f32 0x358637BD#32) := by
  refine (val_main_v16_apply y _).trans ?_
  refine congrArg (fun q : EReal => Ideal.rsqrt (Ideal.div q (Ideal.ofBits .f32 0x45800000#32) + Ideal.ofBits .f32 0x358637BD#32)) ?_
  refine (val_main_v10_apply y _).trans ((congrArg (val_main_v9 (F := Ideal) y) ?_).trans (squares_at y r))
  exact funext fun a => match a with | ⟨0, _⟩ => rfl

/-- The prompt's shift. -/
theorem shift_at (u : Vec Ideal S4x16x1x24576 .f32) (r : Fin 8192) (x : Fin 4096) :
    (val_main_v25 (F := Ideal) u (ix2 r x) : EReal) = u (ix4 0 0 0 (shiftOf x)) := by
  refine (val_main_v25_apply u _).trans ?_
  refine (val_main_v2_apply u _).trans ?_
  refine (val_main_v1_apply u _).trans ?_
  refine (val_main_v0_apply u _).trans ?_
  refine congrArg u (funext fun a => match a with | ⟨0, _⟩ => rfl | ⟨1, _⟩ => rfl | ⟨2, _⟩ => rfl | ⟨3, _⟩ => Fin.ext ?_)
  show (0 * 24576 + x.val) % 24576 = x.val
  omega

/-- One and the prompt's scale. -/
theorem scale_at (u : Vec Ideal S4x16x1x24576 .f32) (r : Fin 8192) (x : Fin 4096) :
    (val_main_v23 (F := Ideal) u (ix2 r x) : EReal) = Ideal.ofBits .f32 0x3F800000#32 + (u (ix4 0 0 0 (scaleOf x)) : EReal) := by
  refine (val_main_v23_apply u _).trans ?_
  refine congrArg (fun q : EReal => Ideal.ofBits .f32 0x3F800000#32 + q) ?_
  refine (val_main_v3_apply u _).trans ?_
  refine (val_main_v1_apply u _).trans ?_
  refine (val_main_v0_apply u _).trans ?_
  refine congrArg u (funext fun a => match a with | ⟨0, _⟩ => rfl | ⟨1, _⟩ => rfl | ⟨2, _⟩ => rfl | ⟨3, _⟩ => Fin.ext ?_)
  show (0 * 24576 + (4096 + x.val)) % 24576 = 4096 + x.val
  omega

/-- The gain of a column. -/
theorem gain_at (g : Vec Ideal S4096 .f32) (r : Fin 8192) (x : Fin 4096) :
    (val_main_v19 (F := Ideal) g (ix2 r x) : EReal) = g (ix1 x) := by
  refine (val_main_v19_apply g _).trans ?_
  refine (val_main_v18_apply g _).trans ?_
  exact congrArg g (funext fun a => match a with | ⟨0, _⟩ => rfl)

/-- The reference's result, at an index. -/
theorem ref_at (y : Vec Ideal S8192x4096 .f32) (g : Vec Ideal S4096 .f32) (u : Vec Ideal S4x16x1x24576 .f32) (r : Fin 8192) (x : Fin 4096) :
    (val_main_v27 (F := Ideal) y g u (ix2 r x) : EReal)
      = step (y (ix2 r x)) (g (ix1 x)) (u (ix4 0 0 0 (scaleOf x))) (u (ix4 0 0 0 (shiftOf x))) (fun k => y (ix2 r k)) := by
  refine congrArg₂ (fun a b : EReal => a + b) ?_ (shift_at u r x)
  refine congrArg₂ (fun a b : EReal => a * b) ?_ (scale_at u r x)
  refine congrArg₂ (fun a b : EReal => a * b) ?_ (gain_at g r x)
  exact congrArg (fun b : EReal => (y (ix2 r x) : EReal) * b) (norm_at y r x)
end

/-- The launch's result array is the reference's. -/
theorem final (c : Dev nD) :
    (dats m 0 c).arrAt 4 cfg0.N = Cert.Reference13Ideal.Read.val_main_v27 (F := Ideal) (m ((c.tc : Thread nD τ).loc main_arg0)) (m ((c.tc : Thread nD τ).loc main_arg1))
      (m ((c.tc : Thread nD τ).loc main_arg2)) := by
  refine (dats m 0 c).arrAt_eq_of_covers 4 _ (by decide +kernel) fun t hf y => ?_
  rw [after0_4]
  frame_out
  blk_simp
  change S256x4096.Idx at y
  obtain ⟨r, x, rfl⟩ : ∃ (r : Fin 256) (x : Fin 4096), y = ix2 r x := ⟨y 0, y 1, funext fun a => match a with | ⟨0, _⟩ => rfl | ⟨1, _⟩ => rfl⟩
  refine (pay_at _ _ _ _ r x).trans ?_
  simp only [y_blk, g_blk, b_blk m c t x, s_blk m c t x]
  refine (ref_at _ _ _ (rowOf t r) x).symm.trans ?_
  blk_ext [idx t, rowOf]

end Cert.ModPrompt
-- ==== Proof.MidPrompt.lean ====
/-
The step between a layer's two halves, for the prompt's rows: the residual sum and the modulated norm of it, read at one element, and that the launch's results are the reference's.
-/
module

public import proofs.«01_k».proof.Proof.Gen.Kernel14Ideal.Value
public import proofs.«01_k».proof.Proof.Gen.Reference14Ideal.Read
public import Idealize.ShloMosaic.Lib.Pipeline.ValueKit
public import Idealize.ShloMosaic.Lib.Pointwise
public import Idealize.ShloMosaic.Lib.Claim

@[expose] public section

set_option maxRecDepth 16384

noncomputable section

namespace Cert.MidPrompt

open Cert.Kernel14Ideal Cert.Kernel14Ideal.Gen Idealize.ShloMosaic Idealize.SL.Sem Idealize.ShloMosaic.TcCoe

/-- The factor that the norm scales a row by. -/
def unit (f : Fin 4096 → EReal) : EReal :=
  Ideal.rsqrt (Ideal.div (∑ k, f k * f k) (Ideal.ofBits .f32 0x45800000#32) + Ideal.ofBits .f32 0x358637BD#32)

/-- The residual sum along a row: `y` of the stream, `f` of the branch, `g` the norm's gains, `u` the gates. -/
def sums (y f g u : Fin 4096 → EReal) (x : Fin 4096) : EReal := y x + u x * (f x * unit f * g x)

/-- The modulated norm along a row: `y` the row, `g` the norm's gains, `s` the scales, `b` the shifts. -/
def mods (y g s b : Fin 4096 → EReal) (x : Fin 4096) : EReal := y x * unit y * g x * (Ideal.ofBits .f32 0x3F800000#32 + s x) + b x

/-- Which blocks a grid point reads and writes: 256 rows of the stream and the branch, the gains, the prompt's gate, shift and scale. -/
theorem idx : ∀ t : Fin cfg0.N, win0_0.index t = ![t.val, 0] ∧ win0_1.index t = ![t.val, 0] ∧ win0_2.index t = ![0, 0] ∧
    win0_3.index t = ![0, 0, 0, 2] ∧ win0_4.index t = ![0, 0] ∧ win0_5.index t = ![0, 0, 0, 3] ∧ win0_6.index t = ![0, 0, 0, 4] ∧
    win0_7.index t = ![t.val, 0] ∧ win0_8.index t = ![t.val, 0] :=
  (by decide +kernel : ∀ t : Fin grid0.N, _)

/-- What the residual sum is at a block's element. -/
theorem sum_at (v0 : Vec Ideal S256x4096 .f32) (v1 : Vec Ideal S1x1x1x4096 .f32) (v3 : Vec Ideal S256x4096 .bf16) (v15 : Vec Ideal S1x4096 .f32)
    (r : Fin 256) (x : Fin 4096) :
    (k0_pay2 v0 v1 v3 v15 (ix2 r x) : EReal)
      = sums (fun k => v0 (ix2 r k)) (fun k => v3 (ix2 r k)) (fun k => v15 (ix2 0 k)) (fun k => v1 (ix4 0 0 0 k)) x := by
  pointwise [k0_pay2, sums, unit]

theorem normed_at (v0 : Vec Ideal S256x4096 .f32) (v1 : Vec Ideal S1x1x1x4096 .f32) (v3 : Vec Ideal S256x4096 .bf16) (v15 v33 : Vec Ideal S1x4096 .f32)
    (r : Fin 256) (x : Fin 4096) :
    (k0_pay3 v0 v1 v3 v15 v33 (ix2 r x) : EReal)
      = (k0_pay2 v0 v1 v3 v15 (ix2 r x) : EReal) * unit (fun k => k0_pay2 v0 v1 v3 v15 (ix2 r k)) * v33 (ix2 0 x) := by
  unfold k0_pay3
  generalize k0_pay2 v0 v1 v3 v15 = z
  pointwise [unit]

theorem scaled_at (z : Vec Ideal S256x4096 .f32) (v37 v43 : Vec Ideal S1x1x1x4096 .f32) (r : Fin 256) (x : Fin 4096) :
    (k0_pay1 z v37 v43 (ix2 r x) : EReal) = (z (ix2 r x) : EReal) * (Ideal.ofBits .f32 0x3F800000#32 + v37 (ix4 0 0 0 x)) + v43 (ix4 0 0 0 x) := by
  pointwise [k0_pay1]

/-- What the modulated norm is at a block's element. -/
theorem mod_at (v0 : Vec Ideal S256x4096 .f32) (v1 : Vec Ideal S1x1x1x4096 .f32) (v3 : Vec Ideal S256x4096 .bf16) (v15 v33 : Vec Ideal S1x4096 .f32)
    (v37 v43 : Vec Ideal S1x1x1x4096 .f32) (r : Fin 256) (x : Fin 4096) :
    (k0_pay1 (k0_pay3 v0 v1 v3 v15 v33) v37 v43 (ix2 r x) : EReal)
      = mods (sums (fun k => v0 (ix2 r k)) (fun k => v3 (ix2 r k)) (fun k => v15 (ix2 0 k)) (fun k => v1 (ix4 0 0 0 k)))
          (fun k => v33 (ix2 0 k)) (fun k => v37 (ix4 0 0 0 k)) (fun k => v43 (ix4 0 0 0 k)) x := by
  refine (scaled_at _ v37 v43 r x).trans ?_
  rw [normed_at]
  simp only [sum_at]
  rfl

variable (m : (ℓ : Loc nD τ sig) → Buf (Elt Ideal) ℓ)

/-- The row of the whole array that a row of a grid point's block is. -/
def rowOf (t : Fin cfg0.N) (r : Fin 256) : Fin 8192 := ⟨t.val * 256 + r.val, by have h := t.isLt; have e : cfg0.N = 32 := N_0; omega⟩

/-- The columns of the modulation table where the gate, the shift and the scale of a column lie. -/
def gateOf (x : Fin 4096) : Fin 24576 := ⟨8192 + x.val, by omega⟩
def shiftOf (x : Fin 4096) : Fin 24576 := ⟨12288 + x.val, by omega⟩
def scaleOf (x : Fin 4096) : Fin 24576 := ⟨16384 + x.val, by omega⟩

theorem y_blk (c : Dev nD) (t : Fin cfg0.N) (r : Fin 256) (k : Fin 4096) :
    (iblk m c 0 t : Vec Ideal S256x4096 .f32) (ix2 r k) = (m ((c.tc : Thread nD τ).loc main_arg0) : Vec Ideal S8192x4096 .f32) (ix2 (rowOf t r) k) := by
  blk_ext [iblk, V, idx t, rowOf]

theorem f_blk (c : Dev nD) (t : Fin cfg0.N) (r : Fin 256) (k : Fin 4096) :
    (iblk m c 1 t : Vec Ideal S256x4096 .bf16) (ix2 r k) = (m ((c.tc : Thread nD τ).loc main_arg1) : Vec Ideal S8192x4096 .bf16) (ix2 (rowOf t r) k) := by
  blk_ext [iblk, V, idx t, rowOf]

theorem g1_at (c : Dev nD) (x : Fin 4096) :
    (V m c main_v0 : Vec Ideal S1x4096 .f32) (ix2 0 x) = (m ((c.tc : Thread nD τ).loc main_arg2) : Vec Ideal S4096 .f32) (ix1 x) := by
  entry_read
  pointwise

theorem g1_blk (c : Dev nD) (t : Fin cfg0.N) (x : Fin 4096) :
    (iblk m c 2 t : Vec Ideal S1x4096 .f32) (ix2 0 x) = (m ((c.tc : Thread nD τ).loc main_arg2) : Vec Ideal S4096 .f32) (ix1 x) := by
  rw [← g1_at m c]
  blk_ext [iblk, idx t]

theorem g2_at (c : Dev nD) (x : Fin 4096) :
    (V m c main_v1 : Vec Ideal S1x4096 .f32) (ix2 0 x) = (m ((c.tc : Thread nD τ).loc main_arg3) : Vec Ideal S4096 .f32) (ix1 x) := by
  entry_read
  pointwise

theorem g2_blk (c : Dev nD) (t : Fin cfg0.N) (x : Fin 4096) :
    (iblk m c 4 t : Vec Ideal S1x4096 .f32) (ix2 0 x) = (m ((c.tc : Thread nD τ).loc main_arg3) : Vec Ideal S4096 .f32) (ix1 x) := by
  rw [← g2_at m c]
  blk_ext [iblk, idx t]

theorem u_blk (c : Dev nD) (t : Fin cfg0.N) (x : Fin 4096) :
    (iblk m c 3 t : Vec Ideal S1x1x1x4096 .f32) (ix4 0 0 0 x)
      = (m ((c.tc : Thread nD τ).loc main_arg4) : Vec Ideal S4x16x1x24576 .f32) (ix4 0 0 0 (gateOf x)) := by
  blk_ext [iblk, V, idx t, gateOf]

theorem b_blk (c : Dev nD) (t : Fin cfg0.N) (x : Fin 4096) :
    (iblk m c 5 t : Vec Ideal S1x1x1x4096 .f32) (ix4 0 0 0 x)
      = (m ((c.tc : Thread nD τ).loc main_arg4) : Vec Ideal S4x16x1x24576 .f32) (ix4 0 0 0 (shiftOf x)) := by
  blk_ext [iblk, V, idx t, shiftOf]

theorem s_blk (c : Dev nD) (t : Fin cfg0.N) (x : Fin 4096) :
    (iblk m c 6 t : Vec Ideal S1x1x1x4096 .f32) (ix4 0 0 0 x)
      = (m ((c.tc : Thread nD τ).loc main_arg4) : Vec Ideal S4x16x1x24576 .f32) (ix4 0 0 0 (scaleOf x)) := by
  blk_ext [iblk, V, idx t, scaleOf]

section
open Cert.Reference14Ideal.Read

/-- The factor that the branch's row is scaled by. -/
theorem unit1_at (f : Vec Ideal S8192x4096 .bf16) (r : Fin 8192) (x : Fin 4096) :
    (val_main_v17 (F := Ideal) f (ix2 r x) : EReal) = unit (fun k => f (ix2 r k)) := by
  refine (val_main_v17_apply f _).trans ?_
  refine congrArg (fun q : EReal => Ideal.rsqrt (Ideal.div q (Ideal.ofBits .f32 0x45800000#32) + Ideal.ofBits .f32 0x358637BD#32)) ?_
  refine (val_main_v11_apply f _).trans ((congrArg (val_main_v10 (F := Ideal) f) (show idx_main_v11 (idx_main_v17 (ix2 r x)) = ix1 r from funext fun a => match a with | ⟨0, _⟩ => rfl)).trans ?_)
  refine (val_main_v10_apply f _).trans ?_
  refine (congrArg (· + _) (show (val_main_cst (F := Ideal) (Shape.Idx.first Cert.Reference14Ideal.Facts₀.h_S_) : EReal) = 0 from Ideal.ofBits_zero_f32)).trans ?_
  refine (zero_add _).trans (Finset.sum_congr rfl fun k _ => ?_)
  have e : (val_main_v8 (F := Ideal) f (idx_main_v10 (ix1 r) k) : EReal) = f (ix2 r k) :=
    congrArg f (show idx_main_v10 (ix1 r) k = ix2 r k from funext fun a => match a with | ⟨0, _⟩ => rfl | ⟨1, _⟩ => rfl)
  exact congrArg₂ (fun a b : EReal => a * b) e e

/-- The prompt's gate. -/
theorem gate_at (u : Vec Ideal S4x16x1x24576 .f32) (r : Fin 8192) (x : Fin 4096) :
    (val_main_v22 (F := Ideal) u (ix2 r x) : EReal) = u (ix4 0 0 0 (gateOf x)) := by
  refine (val_main_v22_apply u _).trans ?_
  refine (val_main_v4_apply u _).trans ?_
  refine (val_main_v1_apply u _).trans ?_
  refine (val_main_v0_apply u _).trans ?_
  refine congrArg u (funext fun a => match a with | ⟨0, _⟩ => rfl | ⟨1, _⟩ => rfl | ⟨2, _⟩ => rfl | ⟨3, _⟩ => Fin.ext ?_)
  show (0 * 24576 + (8192 + x.val)) % 24576 = 8192 + x.val
  omega

/-- The prompt's shift. -/
theorem shift_at (u : Vec Ideal S4x16x1x24576 .f32) (r : Fin 8192) (x : Fin 4096) :
    (val_main_v42 (F := Ideal) u (ix2 r x) : EReal) = u (ix4 0 0 0 (shiftOf x)) := by
  refine (val_main_v42_apply u _).trans ?_
  refine (val_main_v5_apply u _).trans ?_
  refine (val_main_v1_apply u _).trans ?_
  refine (val_main_v0_apply u _).trans ?_
  refine congrArg u (funext fun a => match a with | ⟨0, _⟩ => rfl | ⟨1, _⟩ => rfl | ⟨2, _⟩ => rfl | ⟨3, _⟩ => Fin.ext ?_)
  show (0 * 24576 + (12288 + x.val)) % 24576 = 12288 + x.val
  omega

/-- One and the prompt's scale. -/
theorem scale_at (u : Vec Ideal S4x16x1x24576 .f32) (r : Fin 8192) (x : Fin 4096) :
    (val_main_v40 (F := Ideal) u (ix2 r x) : EReal) = Ideal.ofBits .f32 0x3F800000#32 + (u (ix4 0 0 0 (scaleOf x)) : EReal) := by
  refine (val_main_v40_apply u _).trans ?_
  refine congrArg (fun q : EReal => Ideal.ofBits .f32 0x3F800000#32 + q) ?_
  refine (val_main_v6_apply u _).trans ?_
  refine (val_main_v1_apply u _).trans ?_
  refine (val_main_v0_apply u _).trans ?_
  refine congrArg u (funext fun a => match a with | ⟨0, _⟩ => rfl | ⟨1, _⟩ => rfl | ⟨2, _⟩ => rfl | ⟨3, _⟩ => Fin.ext ?_)
  show (0 * 24576 + (16384 + x.val)) % 24576 = 16384 + x.val
  omega

/-- The gains of a column, of the norm of the branch and of the norm of the sum. -/
theorem gain1_at (g : Vec Ideal S4096 .f32) (r : Fin 8192) (x : Fin 4096) :
    (val_main_v20 (F := Ideal) g (ix2 r x) : EReal) = g (ix1 x) := by
  refine (val_main_v20_apply g _).trans ?_
  refine (val_main_v19_apply g _).trans ?_
  exact congrArg g (funext fun a => match a with | ⟨0, _⟩ => rfl)

theorem gain2_at (g : Vec Ideal S4096 .f32) (r : Fin 8192) (x : Fin 4096) :
    (val_main_v36 (F := Ideal) g (ix2 r x) : EReal) = g (ix1 x) := by
  refine (val_main_v36_apply g _).trans ?_
  refine (val_main_v35_apply g _).trans ?_
  exact congrArg g (funext fun a => match a with | ⟨0, _⟩ => rfl)

/-- The reference's residual sum, at an index. -/
theorem refSum_at (y : Vec Ideal S8192x4096 .f32) (f : Vec Ideal S8192x4096 .bf16) (g : Vec Ideal S4096 .f32) (u : Vec Ideal S4x16x1x24576 .f32)
    (r : Fin 8192) (x : Fin 4096) :
    (val_main_v24 (F := Ideal) y f g u (ix2 r x) : EReal)
      = sums (fun k => y (ix2 r k)) (fun k => f (ix2 r k)) (fun k => g (ix1 k)) (fun k => u (ix4 0 0 0 (gateOf k))) x := by
  refine congrArg (fun b : EReal => (y (ix2 r x) : EReal) + b) ?_
  refine congrArg₂ (fun a b : EReal => a * b) (gate_at u r x) ?_
  refine congrArg₂ (fun a b : EReal => a * b) ?_ (gain1_at g r x)
  exact congrArg (fun b : EReal => (f (ix2 r x) : EReal) * b) (unit1_at f r x)

/-- The factor that the residual sum's row is scaled by. -/
theorem unit2_at (y : Vec Ideal S8192x4096 .f32) (f : Vec Ideal S8192x4096 .bf16) (g : Vec Ideal S4096 .f32) (u : Vec Ideal S4x16x1x24576 .f32)
    (r : Fin 8192) (x : Fin 4096) :
    (val_main_v33 (F := Ideal) y f g u (ix2 r x) : EReal)
      = unit (sums (fun k => y (ix2 r k)) (fun k => f (ix2 r k)) (fun k => g (ix1 k)) (fun k => u (ix4 0 0 0 (gateOf k)))) := by
  refine (val_main_v33_apply y f g u _).trans ?_
  refine congrArg (fun q : EReal => Ideal.rsqrt (Ideal.div q (Ideal.ofBits .f32 0x45800000#32) + Ideal.ofBits .f32 0x358637BD#32)) ?_
  refine (val_main_v27_apply y f g u _).trans ((congrArg (val_main_v26 (F := Ideal) y f g u) (show idx_main_v27 (idx_main_v33 (ix2 r x)) = ix1 r from funext fun a => match a with | ⟨0, _⟩ => rfl)).trans ?_)
  refine (val_main_v26_apply y f g u _).trans ?_
  refine (congrArg (· + _) (show (val_main_cst_2 (F := Ideal) (Shape.Idx.first Cert.Reference14Ideal.Facts₀.h_S_) : EReal) = 0 from Ideal.ofBits_zero_f32)).trans ?_
  refine (zero_add _).trans (Finset.sum_congr rfl fun k _ => ?_)
  have e := (congrArg (val_main_v24 (F := Ideal) y f g u)
    (show idx_main_v26 (ix1 r) k = ix2 r k from funext fun a => match a with | ⟨0, _⟩ => rfl | ⟨1, _⟩ => rfl)).trans (refSum_at y f g u r k)
  exact congrArg₂ (fun a b : EReal => a * b) e e

/-- The reference's modulated norm, at an index. -/
theorem refMod_at (y : Vec Ideal S8192x4096 .f32) (f : Vec Ideal S8192x4096 .bf16) (g1 g2 : Vec Ideal S4096 .f32) (u : Vec Ideal S4x16x1x24576 .f32)
    (r : Fin 8192) (x : Fin 4096) :
    (val_main_v44 (F := Ideal) y f g1 g2 u (ix2 r x) : EReal)
      = mods (sums (fun k => y (ix2 r k)) (fun k => f (ix2 r k)) (fun k => g1 (ix1 k)) (fun k => u (ix4 0 0 0 (gateOf k))))
          (fun k => g2 (ix1 k)) (fun k => u (ix4 0 0 0 (scaleOf k))) (fun k => u (ix4 0 0 0 (shiftOf k))) x := by
  refine congrArg₂ (fun a b : EReal => a + b) ?_ (shift_at u r x)
  refine congrArg₂ (fun a b : EReal => a * b) ?_ (scale_at u r x)
  refine congrArg₂ (fun a b : EReal => a * b) ?_ (gain2_at g2 r x)
  exact congrArg₂ (fun a b : EReal => a * b) (refSum_at y f g1 u r x) (unit2_at y f g1 u r x)
end

/-- The launch's first result is the reference's. -/
theorem final_sum (c : Dev nD) :
    (dats m 0 c).arrAt 7 cfg0.N = Cert.Reference14Ideal.Read.val_main_v24 (F := Ideal) (m ((c.tc : Thread nD τ).loc main_arg0)) (m ((c.tc : Thread nD τ).loc main_arg1))
      (m ((c.tc : Thread nD τ).loc main_arg2)) (m ((c.tc : Thread nD τ).loc main_arg4)) := by
  refine (dats m 0 c).arrAt_eq_of_covers 7 _ (by decide +kernel) fun t hf y => ?_
  rw [after0_7]
  frame_out
  blk_simp
  change S256x4096.Idx at y
  obtain ⟨r, x, rfl⟩ : ∃ (r : Fin 256) (x : Fin 4096), y = ix2 r x := ⟨y 0, y 1, funext fun a => match a with | ⟨0, _⟩ => rfl | ⟨1, _⟩ => rfl⟩
  refine (sum_at _ _ _ _ r x).trans ?_
  simp only [y_blk, f_blk, g1_blk, fun k => u_blk m c t k]
  refine (refSum_at _ _ _ _ (rowOf t r) x).symm.trans ?_
  blk_ext [idx t, rowOf]

/-- The launch's second result is the reference's. -/
theorem final_mod (c : Dev nD) :
    (dats m 0 c).arrAt 8 cfg0.N = Cert.Reference14Ideal.Read.val_main_v44 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  rw [after0_8]
  frame_out
  blk_simp
  change S256x4096.Idx at y
  obtain ⟨r, x, rfl⟩ : ∃ (r : Fin 256) (x : Fin 4096), y = ix2 r x := ⟨y 0, y 1, funext fun a => match a with | ⟨0, _⟩ => rfl | ⟨1, _⟩ => rfl⟩
  refine (mod_at _ _ _ _ _ _ _ r x).trans ?_
  simp only [y_blk, f_blk, g1_blk, g2_blk, fun k => u_blk m c t k, fun k => b_blk m c t k, fun k => s_blk m c t k]
  refine (refMod_at _ _ _ _ _ (rowOf t r) x).symm.trans ?_
  blk_ext [idx t, rowOf]

end Cert.MidPrompt
-- ==== Proof.FfnPos.lean ====
module

public import Idealize.ShloMosaic.Lib.Pointwise

@[expose] public section

set_option maxRecDepth 16384

namespace Cert.Ffn

open Idealize.ShloMosaic

/-- The place within its sequence of the row the words `i` and `r` name. -/
def posW (i r : BitVec 32) : BitVec 32 :=
  let d : BitVec 32 := Scalar.select (Scalar.cmpi .eq 4096#32 0#32) 1#32 4096#32
  let q : BitVec 32 := IntOp.remsi .vector (IntOp.addi (Scalar.muli i 1024#32) r) d
  Scalar.select (IntOp.andi (IntOp.xori (IntOp.cmpi .slt q 0#32) (Scalar.cmpi .slt d 0#32)) (IntOp.cmpi .ne q 0#32)) (IntOp.addi q d) q

theorem pos_eq : ∀ (i : Fin 32) (r : Fin 1024), posW (BitVec.ofNat 32 i.val) (BitVec.ofNat 32 r.val) = BitVec.ofNat 32 ((i.val * 1024 + r.val) % 4096) := by
  decide +kernel

end Cert.Ffn
-- ==== Proof.FfnPay.lean ====
module

public import proofs.«01_k».proof.Proof.Gen.Kernel2Ideal.Value
public import proofs.«01_k».proof.Proof.FfnPos
public import Idealize.ShloMosaic.Lib.Pipeline.ValueKit
public import Idealize.ShloMosaic.Lib.Pointwise
public import Idealize.ShloMosaic.Lib.Claim

@[expose] public section

set_option maxRecDepth 16384

noncomputable section

namespace Cert.Ffn

open Cert.Kernel2Ideal Cert.Kernel2Ideal.Gen Idealize.ShloMosaic Idealize.SL.Sem Idealize.ShloMosaic.TcCoe

/-! What each step of the body computes, at an index. -/

/-- Row `7 + r` of the extended block: the row before row `r`. -/
def rowP (r : Fin 1024) : Fin 1040 := ⟨7 + r.val, by omega⟩
/-- Row `8 + r` of the extended block: row `r` itself. -/
def rowM (r : Fin 1024) : Fin 1040 := ⟨8 + r.val, by omega⟩
/-- Row `9 + r` of the extended block: the row after row `r`. -/
def rowN (r : Fin 1024) : Fin 1040 := ⟨9 + r.val, by omega⟩

/-- The product of the extended block's row `s` and a weight column. -/
def uB (x : Vec Ideal S1040x4096 .bf16) (w : Vec Ideal S4096x512 .bf16) (s : Fin 1040) (y : Fin 512) : EReal := ∑ k : Fin 4096, (x (ix2 s k) : EReal) * (w (ix2 k y) : EReal)

theorem pay8_at (x : Vec Ideal S1040x4096 .bf16) (w : Vec Ideal S4096x512 .bf16) (s : Fin 1040) (y : Fin 512) :
    (k0_pay8 x w (ix2 s y) : EReal) = uB x w s y := by
  unfold uB
  pointwise [k0_pay8]

theorem pay12_at (x : Vec Ideal S1040x4096 .bf16) (w : Vec Ideal S4096x512 .bf16) (s : Fin 1040) (y : Fin 512) :
    (k0_pay12 x w (ix2 s y) : EReal) = uB x w s y := by
  unfold uB
  pointwise [k0_pay12]

theorem rotP (v : FVec Ideal S1040x512 .f32) (r : Fin 1024) (y : Fin 512) :
    (extractStridedSlice S1024x512 ![8, 0] (dynamicRotate 0 1#32 none v rotates_S1040x512_d0) slices_S1040x512_o8_0_S1024x512 (ix2 r y) : EReal) = v (ix2 (rowP r) y) := by
  pointwise
  exact congrArg (fun s => v (ix2 s y)) (Fin.ext (by show (8 + r.val + 1040 - 1) % 1040 = 7 + r.val; omega))

theorem rotN (v : FVec Ideal S1040x512 .f32) (r : Fin 1024) (y : Fin 512) :
    (extractStridedSlice S1024x512 ![8, 0] (dynamicRotate 0 1039#32 none v rotates_S1040x512_d0) slices_S1040x512_o8_0_S1024x512 (ix2 r y) : EReal) = v (ix2 (rowN r) y) := by
  pointwise
  exact congrArg (fun s => v (ix2 s y)) (Fin.ext (by show (8 + r.val + 1040 - 1039) % 1040 = 9 + r.val; omega))

theorem pay11_at (a b : FVec Ideal S1024x1 .f32) (v : FVec Ideal S1040x512 .f32) (p n : FVec Ideal S1024x512 .f32) (cw : Vec Ideal S1x3x512 .f32) (cb : Vec Ideal S1x1x512 .f32) (r : Fin 1024) (y : Fin 512) :
    (k0_pay11 a b v p n cw cb (ix2 r y) : EReal) = ((p (ix2 r y) : EReal) * a (ix2 r 0) * cw (ix3 0 0 y) + (v (ix2 (rowM r) y) : EReal) * cw (ix3 0 1 y) + (n (ix2 r y) : EReal) * b (ix2 r 0) * cw (ix3 0 2 y)) + cb (ix3 0 0 y) := by
  pointwise [k0_pay11]
  rfl

theorem pay9_at (x : Vec Ideal S1040x4096 .bf16) (w : Vec Ideal S4096x512 .bf16) (r : Fin 1024) (y : Fin 512) :
    (k0_pay9 x w (ix2 r y) : EReal) = uB x w (rowP r) y := (rotP _ r y).trans (pay8_at x w _ y)

theorem pay10_at (x : Vec Ideal S1040x4096 .bf16) (w : Vec Ideal S4096x512 .bf16) (r : Fin 1024) (y : Fin 512) :
    (k0_pay10 x w (ix2 r y) : EReal) = uB x w (rowN r) y := (rotN _ r y).trans (pay8_at x w _ y)

theorem pay14_at (x : Vec Ideal S1040x4096 .bf16) (a : FVec Ideal S1024x1 .f32) (w : Vec Ideal S4096x512 .bf16) (cw : Vec Ideal S1x3x512 .f32) (r : Fin 1024) (y : Fin 512) :
    (k0_pay14 x a w cw (ix2 r y) : EReal) = uB x w (rowP r) y * a (ix2 r 0) * cw (ix3 0 0 y) + uB x w (rowM r) y * cw (ix3 0 1 y) := by
  rw [← pay12_at x w (rowM r) y, ← pay12_at x w (rowP r) y, ← rotP (k0_pay12 x w) r y]
  unfold k0_pay14 k0_pay13
  generalize k0_pay12 x w = v
  generalize dynamicRotate 0 1#32 none v rotates_S1040x512_d0 = v'
  pointwise
  rfl

theorem pay15_at (x : Vec Ideal S1040x4096 .bf16) (a : FVec Ideal S1024x1 .f32) (w : Vec Ideal S4096x512 .bf16) (cw : Vec Ideal S1x3x512 .f32) (r : Fin 1024) (y : Fin 512) :
    (k0_pay15 x a w cw (ix2 r y) : EReal) = uB x w (rowN r) y * a (ix2 r 0) * cw (ix3 0 2 y) := by
  rw [← pay12_at x w (rowN r) y, ← rotN (k0_pay12 x w) r y]
  unfold k0_pay15 k0_pay13
  generalize k0_pay12 x w = v
  generalize dynamicRotate 0 1039#32 none v rotates_S1040x512_d0 = v'
  pointwise

theorem pay1_at (g u v : FVec Ideal S1024x512 .f32) (cb : Vec Ideal S1x1x512 .f32) (r : Fin 1024) (y : Fin 512) :
    (k0_pay1 g u v cb (ix2 r y) : EReal) = ((g (ix2 r y) : EReal) * Ideal.logistic (g (ix2 r y) : EReal)) * (((u (ix2 r y) : EReal) + v (ix2 r y)) + cb (ix3 0 0 y)) := by
  pointwise [k0_pay1]
  rw [zero_sub]
  rfl

theorem pay5_at (i : grid0.Coords) (r : Fin 1024) : k0_pay5 i (ix2 r 0) = BitVec.ofNat 32 (((i 0).val * 1024 + r.val) % 4096) := by
  refine Eq.trans ?_ (pos_eq (i 0) r)
  pointwise [k0_pay5]
  rfl

/-- The word of a condition, read as a number: one where two places differ and zero where they agree. -/
theorem mask_w (n k : ℕ) (hn : n < 4096) (hk : k < 4096) :
    (FloatOps.sitofp (F := Ideal) FTy.f32 (BitVec.setWidth 32 (IntOp.cmpi CmpIPredicate.ne (BitVec.ofNat 32 n) (BitVec.ofNat 32 k))) : EReal) = if n = k then 0 else 1 := by
  by_cases h : n = k
  · subst h
    rw [if_pos rfl]
    simp [FloatOps.sitofp, IntOp.cmpi]
  · have hne : BitVec.ofNat 32 n ≠ BitVec.ofNat 32 k := fun e => h (by
      have := congrArg BitVec.toNat e
      simp only [BitVec.toNat_ofNat] at this
      omega)
    rw [if_neg h]
    simp [FloatOps.sitofp, IntOp.cmpi]
    rw [bne_iff_ne.mpr hne]
    rfl

theorem pay6_at (i : grid0.Coords) (r : Fin 1024) : (k0_pay6 (F := Ideal) i (ix2 r 0) : EReal) = if ((i 0).val * 1024 + r.val) % 4096 = 0 then 0 else 1 := by
  pointwise [k0_pay6]
  rw [pay5_at]
  exact mask_w _ 0 (by omega) (by omega)

theorem pay7_at (i : grid0.Coords) (r : Fin 1024) : (k0_pay7 (F := Ideal) i (ix2 r 0) : EReal) = if ((i 0).val * 1024 + r.val) % 4096 = 4095 then 0 else 1 := by
  pointwise [k0_pay7]
  rw [pay5_at]
  exact mask_w _ 4095 (by omega) (by omega)

end Cert.Ffn
-- ==== Proof.FfnRef.lean ====
module

public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.Ffn

open Idealize.ShloMosaic Idealize.SL.Sem Idealize.ShloMosaic.TcCoe

/-! The reference in closed form. -/

abbrev HArr := Vec Ideal Cert.Reference2Ideal.S32768x4096 .bf16
abbrev WArr := Vec Ideal Cert.Reference2Ideal.S4096x22016 .f32
abbrev CArr := Vec Ideal Cert.Reference2Ideal.S3x22016 .f32
abbrev BArr := Vec Ideal Cert.Reference2Ideal.S22016 .f32

/-- The product's element of row `R` and column `f`. -/
def uAt (h : HArr) (w : WArr) (R : Fin 32768) (f : Fin 22016) : EReal := ∑ k : Fin 4096, (h (ix2 R k) : EReal) * (w (ix2 k f) : EReal)

/-- The row before within the sequence; zero before its first. -/
def uPrev (h : HArr) (w : WArr) (R : Fin 32768) (f : Fin 22016) : EReal :=
  if R.val % 4096 = 0 then 0 else uAt h w ⟨R.val - 1, by omega⟩ f

/-- The row after within the sequence; zero after its last. -/
def uNext (h : HArr) (w : WArr) (R : Fin 32768) (f : Fin 22016) : EReal :=
  if hl : R.val % 4096 = 4095 then 0 else uAt h w ⟨R.val + 1, by omega⟩ f

/-- The convolution of width 3 with its bias. -/
def convAt (h : HArr) (w : WArr) (cw : CArr) (cb : BArr) (R : Fin 32768) (f : Fin 22016) : EReal :=
  uPrev h w R f * (cw (ix2 0 f) : EReal) + uAt h w R f * (cw (ix2 1 f) : EReal) + uNext h w R f * (cw (ix2 2 f) : EReal) + (cb (ix1 f) : EReal)

/-- The gate: an element times its logistic function. -/
def gateE (x : EReal) : EReal := x * Ideal.logistic x

open Cert.Reference2Ideal Cert.Reference2Ideal.Gen Cert.Reference2Ideal.Read

/-- The row of the whole array at a place of a sequence. -/
def rowS (b : Fin 8) (t : Fin 4096) : Fin 32768 := ⟨b.val * 4096 + t.val, by omega⟩

theorem v2_at (h : HArr) (w : WArr) (b : Fin 8) (t : Fin 4096) (f : Fin 22016) :
    (val_main_v2 (F := Ideal) h w (ix3 b t f) : EReal) = uAt h w (rowS b t) f := by
  refine (val_main_v2_apply h w _).trans ?_
  refine Finset.sum_congr rfl fun k _ => ?_
  refine congrArg₂ (fun a b : EReal => a * b) ?_ (congrArg w (funext fun a => match a with | ⟨0, _⟩ => rfl | ⟨1, _⟩ => rfl))
  refine (val_main_v1_apply h _).trans ((val_main_v0_apply h _).trans (congrArg h (funext fun a => match a with | ⟨0, _⟩ => Fin.ext ?_ | ⟨1, _⟩ => Fin.ext ?_)))
  · show ((b.val * 4096 + t.val) * 4096 + k.val) / 4096 = b.val * 4096 + t.val
    omega
  · show ((b.val * 4096 + t.val) * 4096 + k.val) % 4096 = k.val
    omega

theorem zero_word : (FloatOps.sitofp (F := Ideal) FTy.f32 (0#32 : BitVec 32) : EReal) = 0 := by
  simp [FloatOps.sitofp]

theorem pad_rows (y : Vec Ideal S8x4096x22016 .f32) (v : Vec Ideal S_ .f32) (hp) (hs) (hv : ∀ i, (v i : EReal) = 0) (b : Fin 8) (s : Fin 4098) (f : Fin 22016) :
    (pad (α := EReal) S8x4098x22016 ![0, 1, 0] ![0, 1, 0] ![0, 0, 0] y v hp hs (ix3 b s f)) = if h : 1 ≤ s.val ∧ s.val - 1 < 4096 then (y (ix3 b ⟨s.val - 1, h.2⟩ f) : EReal) else 0 := by
  pointwise
  simp only [hv]

theorem v3_at (h : HArr) (w : WArr) (b : Fin 8) (s : Fin 4098) (f : Fin 22016) :
    (val_main_v3 (F := Ideal) h w (ix3 b s f) : EReal) = if hs : 1 ≤ s.val ∧ s.val - 1 < 4096 then uAt h w (rowS b ⟨s.val - 1, hs.2⟩) f else 0 := by
  unfold val_main_v3
  refine (pad_rows _ _ _ _ (fun i => zero_word) b s f).trans ?_
  simp only [v2_at]

theorem taps (cw : CArr) (f : Fin 22016) (b : Fin 8) (t : Fin 4096) :
    (cw (idx_main_v5 (idx_main_v6 (idx_main_v7 (idx_main_v8 (ix3 b t f))))) = cw (ix2 0 f)
    ∧ cw (idx_main_v11 (idx_main_v12 (idx_main_v13 (idx_main_v14 (ix3 b t f))))) = cw (ix2 1 f))
    ∧ cw (idx_main_v18 (idx_main_v19 (idx_main_v20 (idx_main_v21 (ix3 b t f))))) = cw (ix2 2 f) := by
  refine ⟨⟨congrArg cw (funext fun a => ?_), congrArg cw (funext fun a => ?_)⟩, congrArg cw (funext fun a => ?_)⟩
  all_goals exact match a with
    | ⟨0, _⟩ => Fin.ext rfl
    | ⟨1, _⟩ => Fin.ext (Nat.mod_eq_of_lt f.isLt)

theorem v26_at (h : HArr) (w : WArr) (cw : CArr) (cb : BArr) (b : Fin 8) (t : Fin 4096) (f : Fin 22016) :
    (val_main_v26 (F := Ideal) h w cw cb (ix3 b t f) : EReal) = convAt h w cw cb (rowS b t) f := by
  rw [val_main_v26_apply, val_main_v23_apply, val_main_v16_apply, val_main_v9_apply, val_main_v15_apply, val_main_v22_apply]
  rw [val_main_v25_apply, val_main_v24_apply, val_main_v21_apply, val_main_v20_apply, val_main_v19_apply, val_main_v18_apply]
  rw [val_main_v14_apply, val_main_v13_apply, val_main_v12_apply, val_main_v11_apply, val_main_v8_apply, val_main_v7_apply, val_main_v6_apply, val_main_v5_apply]
  rw [val_main_v17_apply, val_main_v10_apply, val_main_v4_apply, (taps cw f b t).1.1, (taps cw f b t).1.2, (taps cw f b t).2]
  have e0 : (val_main_v3 (F := Ideal) h w (idx_main_v4 (ix3 b t f)) : EReal) = uPrev h w (rowS b t) f := by
    refine (congrArg (val_main_v3 (F := Ideal) h w) (show idx_main_v4 (ix3 b t f) = ix3 b (⟨t.val, by omega⟩ : Fin 4098) f from funext fun a => match a with | ⟨0, _⟩ => rfl | ⟨1, _⟩ => rfl | ⟨2, _⟩ => rfl)).trans ((v3_at h w b _ f).trans ?_)
    have hm : (rowS b t).val % 4096 = t.val := by show (b.val * 4096 + t.val) % 4096 = t.val; omega
    unfold uPrev
    by_cases ht : t.val = 0
    · rw [if_pos (by omega), dif_neg (by show ¬ (1 ≤ t.val ∧ t.val - 1 < 4096); omega)]
    · rw [if_neg (by omega), dif_pos (by show 1 ≤ t.val ∧ t.val - 1 < 4096; omega)]
      exact congrArg (fun R => uAt h w R f) (Fin.ext (by show b.val * 4096 + (t.val - 1) = b.val * 4096 + t.val - 1; omega))
  have e1 : (val_main_v3 (F := Ideal) h w (idx_main_v10 (ix3 b t f)) : EReal) = uAt h w (rowS b t) f := by
    refine (congrArg (val_main_v3 (F := Ideal) h w) (show idx_main_v10 (ix3 b t f) = ix3 b (⟨1 + t.val, by omega⟩ : Fin 4098) f from funext fun a => match a with | ⟨0, _⟩ => rfl | ⟨1, _⟩ => rfl | ⟨2, _⟩ => rfl)).trans ((v3_at h w b _ f).trans ?_)
    rw [dif_pos (by show 1 ≤ 1 + t.val ∧ 1 + t.val - 1 < 4096; omega)]
    exact congrArg (fun R => uAt h w R f) (Fin.ext (by show b.val * 4096 + (1 + t.val - 1) = b.val * 4096 + t.val; omega))
  have e2 : (val_main_v3 (F := Ideal) h w (idx_main_v17 (ix3 b t f)) : EReal) = uNext h w (rowS b t) f := by
    refine (congrArg (val_main_v3 (F := Ideal) h w) (show idx_main_v17 (ix3 b t f) = ix3 b (⟨2 + t.val, by omega⟩ : Fin 4098) f from funext fun a => match a with | ⟨0, _⟩ => rfl | ⟨1, _⟩ => rfl | ⟨2, _⟩ => rfl)).trans ((v3_at h w b _ f).trans ?_)
    have hm : (rowS b t).val % 4096 = t.val := by show (b.val * 4096 + t.val) % 4096 = t.val; omega
    unfold uNext
    by_cases ht : t.val = 4095
    · rw [dif_neg (by show ¬ (1 ≤ 2 + t.val ∧ 2 + t.val - 1 < 4096); omega), dif_pos (by omega)]
    · rw [dif_pos (by show 1 ≤ 2 + t.val ∧ 2 + t.val - 1 < 4096; omega), dif_neg (by omega)]
      exact congrArg (fun R => uAt h w R f) (Fin.ext (by show b.val * 4096 + (2 + t.val - 1) = b.val * 4096 + t.val + 1; omega))
  have eb : cb (idx_main_v24 (idx_main_v25 (ix3 b t f))) = cb (ix1 f) := congrArg cb (funext fun a => match a with | ⟨0, _⟩ => by first | exact Fin.ext rfl | exact Fin.ext (Nat.mod_eq_of_lt f.isLt))
  rw [e0, e1, e2, eb]
  rfl

/-- The gate's column. -/
def colG (f : Fin 11008) : Fin 22016 := ⟨f.val, by omega⟩
/-- The value's column. -/
def colV (f : Fin 11008) : Fin 22016 := ⟨11008 + f.val, by omega⟩

theorem v30_at (h : HArr) (w : WArr) (cw : CArr) (cb : BArr) (b : Fin 8) (t : Fin 4096) (f : Fin 11008) :
    (val_main_v30 (F := Ideal) h w cw cb (ix3 b t f) : EReal) = gateE (convAt h w cw cb (rowS b t) (colG f)) * convAt h w cw cb (rowS b t) (colV f) := by
  have eg : (val_main_v27 (F := Ideal) h w cw cb (ix3 b t f) : EReal) = convAt h w cw cb (rowS b t) (colG f) :=
    (val_main_v27_apply h w cw cb _).trans ((congrArg (val_main_v26 (F := Ideal) h w cw cb) (show idx_main_v27 (ix3 b t f) = ix3 b t (colG f) from funext fun a => match a with | ⟨0, _⟩ => rfl | ⟨1, _⟩ => rfl | ⟨2, _⟩ => rfl)).trans (v26_at h w cw cb b t _))
  have ev : (val_main_v28 (F := Ideal) h w cw cb (ix3 b t f) : EReal) = convAt h w cw cb (rowS b t) (colV f) :=
    (val_main_v28_apply h w cw cb _).trans ((congrArg (val_main_v26 (F := Ideal) h w cw cb) (show idx_main_v28 (ix3 b t f) = ix3 b t (colV f) from funext fun a => match a with | ⟨0, _⟩ => rfl | ⟨1, _⟩ => rfl | ⟨2, _⟩ => rfl)).trans (v26_at h w cw cb b t _))
  rw [val_main_v30_apply, val_main_v29_apply, val_main_call1_v5_apply, val_main_call1_v3_apply, val_main_call1_v1_apply, val_main_call1_v0_apply,
    val_main_call1_v4_apply, val_main_call1_v2_apply, val_main_call1_cst_0_apply, val_main_call1_cst_apply, eg, ev]
  have h1 : (FloatOps.ofBits (F := Ideal) .f32 0x3F800000#32 : EReal) = 1 := by pointwise
  unfold gateE Ideal.logistic
  rw [h1]
  rfl

theorem pad_cols (y : Vec Ideal S32768x11008 .f32) (v : Vec Ideal S_ .f32) (hp) (hs) (hv : ∀ i, (v i : EReal) = 0) (R : Fin 32768) (f : Fin 11264) :
    (pad (α := EReal) S32768x11264 ![0, 0] ![0, 256] ![0, 0] y v hp hs (ix2 R f)) = if h : f.val < 11008 then (y (ix2 R ⟨f.val, h⟩) : EReal) else 0 := by
  pointwise
  simp only [hv]

/-- The reference's result at an index. -/
theorem ref_at (h : HArr) (w : WArr) (cw : CArr) (cb : BArr) (R : Fin 32768) (f : Fin 11264) :
    (val_main_v33 (F := Ideal) h w cw cb (ix2 R f) : EReal)
      = if hf : f.val < 11008 then gateE (convAt h w cw cb R (colG ⟨f.val, hf⟩)) * convAt h w cw cb R (colV ⟨f.val, hf⟩) else 0 := by
  refine (val_main_v33_apply h w cw cb _).trans ?_
  show (val_main_v32 (F := Ideal) h w cw cb (ix2 R f) : EReal) = _
  unfold val_main_v32
  refine (pad_cols _ _ _ _ (fun i => zero_word) R f).trans ?_
  by_cases hf : f.val < 11008
  · rw [dif_pos hf, dif_pos hf, val_main_v31_apply]
    refine (congrArg (val_main_v30 (F := Ideal) h w cw cb) (show idx_main_v31 (ix2 R (⟨f.val, hf⟩ : Fin 11008)) = ix3 (⟨R.val / 4096, by omega⟩ : Fin 8) (⟨R.val % 4096, by omega⟩ : Fin 4096) (⟨f.val, hf⟩ : Fin 11008) from funext fun a => match a with
      | ⟨0, _⟩ => Fin.ext (by show (R.val * 11008 + f.val) / 45088768 = R.val / 4096; omega)
      | ⟨1, _⟩ => Fin.ext (by show (R.val * 11008 + f.val) / 11008 % 4096 = R.val % 4096; omega)
      | ⟨2, _⟩ => Fin.ext (by show (R.val * 11008 + f.val) % 11008 = f.val; omega))).trans ((v30_at h w cw cb _ _ _).trans ?_)
    have hR : rowS (⟨R.val / 4096, by omega⟩ : Fin 8) (⟨R.val % 4096, by omega⟩ : Fin 4096) = R := Fin.ext (by show R.val / 4096 * 4096 + R.val % 4096 = R.val; omega)
    rw [hR]
  · rw [dif_neg hf, dif_neg hf]

end Cert.Ffn
-- ==== Proof.FfnBlk.lean ====
module

public import proofs.«01_k».proof.Proof.FfnPay
public import proofs.«01_k».proof.Proof.FfnRef

@[expose] public section

set_option maxRecDepth 16384

noncomputable section

namespace Cert.Ffn

open Cert.Kernel2Ideal Cert.Kernel2Ideal.Gen Idealize.ShloMosaic Idealize.SL.Sem Idealize.ShloMosaic.TcCoe

/-! What a grid point leaves in its result block and in the extended block it keeps. -/

section Points
variable {F : FTy → Type} [FloatOps F] [Named F]
variable (m : (ℓ : Loc nD τ sig) → Buf (Elt F) ℓ)

/-- The three stores of the extended block: the rows, the eight before, the eight after. -/
def pieces (c : Dev nD) (t : Fin cfg0.N) : List (View.Piece (Elt F) S1040x4096 .bf16) :=
  [⟨Rect.unit (s := S1040x4096) ![1032, 0] S8x4096.size inb_S1040x4096_S8x4096_1032_0, k0_pay4 (iblk m c 2 t)⟩,
    ⟨Rect.unit (s := S1040x4096) ![8, 0] S1024x4096.size inb_S1040x4096_S1024x4096_8_0, k0_pay3 (iblk m c 0 t)⟩,
    ⟨Rect.unit (s := S1040x4096) ![0, 0] S8x4096.size inb_S1040x4096_S8x4096_0_0, k0_pay2 (iblk m c 1 t)⟩]

/-- The taps of one half. -/
def tapsOf (x : Vec F S2x3x512 .f32) (a : Fin 2) : Vec F S1x3x512 .f32 := fun i => x (ix3 a (i 1) (i 2))

theorem ld_taps0 (x : Vec F S2x3x512 .f32) : View.ld x (Rect.unit (s := S2x3x512) ![0, 0, 0] S1x3x512.size inb_S2x3x512_S1x3x512_0_0_0) = tapsOf x 0 := by
  funext i
  refine View.ld_unit_apply_of x _ _ _ _ _ fun a => ?_
  have h0 : (i 0).val < 1 := (i 0).isLt
  exact match a with
    | ⟨0, _⟩ => by show 0 = 0 + (i 0).val; omega
    | ⟨1, _⟩ => by show (i 1).val = 0 + (i 1).val; omega
    | ⟨2, _⟩ => by show (i 2).val = 0 + (i 2).val; omega

theorem ld_taps1 (x : Vec F S2x3x512 .f32) : View.ld x (Rect.unit (s := S2x3x512) ![1, 0, 0] S1x3x512.size inb_S2x3x512_S1x3x512_1_0_0) = tapsOf x 1 := by
  funext i
  refine View.ld_unit_apply_of x _ _ _ _ _ fun a => ?_
  have h0 : (i 0).val < 1 := (i 0).isLt
  exact match a with
    | ⟨0, _⟩ => by show 1 = 1 + (i 0).val; omega
    | ⟨1, _⟩ => by show (i 1).val = 0 + (i 1).val; omega
    | ⟨2, _⟩ => by show (i 2).val = 0 + (i 2).val; omega

/-- The bias of one half. -/
def biasOf (x : Vec F S2x1x512 .f32) (a : Fin 2) : Vec F S1x1x512 .f32 := fun i => x (ix3 a (i 1) (i 2))

theorem ld_bias0 (x : Vec F S2x1x512 .f32) : View.ld x (Rect.unit (s := S2x1x512) ![0, 0, 0] S1x1x512.size inb_S2x1x512_S1x1x512_0_0_0) = biasOf x 0 := by
  funext i
  refine View.ld_unit_apply_of x _ _ _ _ _ fun a => ?_
  have h0 : (i 0).val < 1 := (i 0).isLt
  exact match a with
    | ⟨0, _⟩ => by show 0 = 0 + (i 0).val; omega
    | ⟨1, _⟩ => by show (i 1).val = 0 + (i 1).val; omega
    | ⟨2, _⟩ => by show (i 2).val = 0 + (i 2).val; omega

theorem ld_bias1 (x : Vec F S2x1x512 .f32) : View.ld x (Rect.unit (s := S2x1x512) ![1, 0, 0] S1x1x512.size inb_S2x1x512_S1x1x512_1_0_0) = biasOf x 1 := by
  funext i
  refine View.ld_unit_apply_of x _ _ _ _ _ fun a => ?_
  have h0 : (i 0).val < 1 := (i 0).isLt
  exact match a with
    | ⟨0, _⟩ => by show 1 = 1 + (i 0).val; omega
    | ⟨1, _⟩ => by show (i 1).val = 0 + (i 1).val; omega
    | ⟨2, _⟩ => by show (i 2).val = 0 + (i 2).val; omega

/-- A grid point's result block, over the extended block. -/
def outOf (i : grid0.Coords) (x : Vec F S1040x4096 .bf16) (wg wv : Vec F S4096x512 .bf16) (cw : Vec F S2x3x512 .f32) (cb : Vec F S2x1x512 .f32) : Vec F S1024x512 .bf16 :=
  k0_pay1 (k0_pay11 (k0_pay6 i) (k0_pay7 i) (k0_pay8 x wg) (k0_pay9 x wg) (k0_pay10 x wg) (tapsOf cw 0) (biasOf cb 0))
    (k0_pay14 x (k0_pay6 i) wv (tapsOf cw 1)) (k0_pay15 x (k0_pay7 i) wv (tapsOf cw 1)) (biasOf cb 1)

theorem scr_A (c : Dev nD) (t : Fin cfg0.N) (h0 : t.val % 22 = 0) :
    (outsAt0 m c t.val t.isLt).2 = View.canon (pieces m c t) := by
  rw [outsAt0_A m c t h0]
  frame_out
  rfl

theorem scr_B (c : Dev nD) (t : Fin cfg0.N) (h0 : ¬ t.val % 22 = 0) :
    (outsAt0 m c t.val t.isLt).2 = (outsAt0 m c (t.val - 1) (Nat.lt_of_le_of_lt (Nat.sub_le _ _) t.isLt)).2 := by
  rw [outsAt0_B m c t h0]
  rfl

theorem out_A (c : Dev nD) (t : Fin cfg0.N) (h0 : t.val % 22 = 0) :
    (outsAt0 m c t.val t.isLt).1 = outOf (grid0.coords t) (outsAt0 m c t.val t.isLt).2 (iblk m c 3 t) (iblk m c 4 t) (iblk m c 5 t) (iblk m c 6 t) := by
  rw [scr_A m c t h0, outsAt0_A m c t h0]
  frame_out
  unfold outOf
  rw [← ld_taps0, ← ld_taps1, ← ld_bias0, ← ld_bias1]
  have e : (View.whole cc0_scratch0).readCov (pieces m c t) (Rect.unit (s := S1040x4096) ![0, 0] S1040x4096.size inb_S1040x4096_S1040x4096_0_0).toLoadRect = View.canon (pieces m c t) :=
    (View.readCov_eq_canon' _ _ _).trans (funext fun j => congrArg (View.canon (pieces m c t)) (funext fun a => match a with
      | ⟨0, _⟩ => Fin.ext (by show 0 + 1 * (j 0).val = (j 0).val; omega)
      | ⟨1, _⟩ => Fin.ext (by show 0 + 1 * (j 1).val = (j 1).val; omega)))
  rw [← e]
  rfl

theorem out_B (c : Dev nD) (t : Fin cfg0.N) (h0 : ¬ t.val % 22 = 0) :
    (outsAt0 m c t.val t.isLt).1 = outOf (grid0.coords t) (outsAt0 m c t.val t.isLt).2 (iblk m c 3 t) (iblk m c 4 t) (iblk m c 5 t) (iblk m c 6 t) := by
  rw [scr_B m c t h0, outsAt0_B m c t h0]
  frame_out
  rw [(Memref.isWhole_whole cc0_scratch0).read_unread]
  unfold outOf
  rw [← ld_taps0, ← ld_taps1, ← ld_bias0, ← ld_bias1]

theorem out_at (c : Dev nD) (t : Fin cfg0.N) :
    (outsAt0 m c t.val t.isLt).1 = outOf (grid0.coords t) (outsAt0 m c t.val t.isLt).2 (iblk m c 3 t) (iblk m c 4 t) (iblk m c 5 t) (iblk m c 6 t) := by
  by_cases h0 : t.val % 22 = 0
  · exact out_A m c t h0
  · exact out_B m c t h0

theorem cover (c : Dev nD) (t : Fin cfg0.N) (s : Fin 1040) (k : Fin 4096) : ∃ p ∈ pieces m c t, (ix2 s k : S1040x4096.Idx) ∈ p.1.set := by
  by_cases h1 : s.val < 8
  · refine ⟨⟨Rect.unit (s := S1040x4096) ![0, 0] S8x4096.size inb_S1040x4096_S8x4096_0_0, k0_pay2 (iblk m c 1 t)⟩, by unfold pieces; simp, ?_⟩
    rw [Rect.mem_set_unit]
    exact fun a => match a with
      | ⟨0, _⟩ => by show 0 ≤ s.val ∧ s.val < 0 + 8; omega
      | ⟨1, _⟩ => by show 0 ≤ k.val ∧ k.val < 0 + 4096; omega
  by_cases h2 : s.val < 1032
  · refine ⟨⟨Rect.unit (s := S1040x4096) ![8, 0] S1024x4096.size inb_S1040x4096_S1024x4096_8_0, k0_pay3 (iblk m c 0 t)⟩, by unfold pieces; simp, ?_⟩
    rw [Rect.mem_set_unit]
    exact fun a => match a with
      | ⟨0, _⟩ => by show 8 ≤ s.val ∧ s.val < 8 + 1024; omega
      | ⟨1, _⟩ => by show 0 ≤ k.val ∧ k.val < 0 + 4096; omega
  · refine ⟨⟨Rect.unit (s := S1040x4096) ![1032, 0] S8x4096.size inb_S1040x4096_S8x4096_1032_0, k0_pay4 (iblk m c 2 t)⟩, by unfold pieces; simp, ?_⟩
    rw [Rect.mem_set_unit]
    exact fun a => match a with
      | ⟨0, _⟩ => by show 1032 ≤ s.val ∧ s.val < 1032 + 8; omega
      | ⟨1, _⟩ => by show 0 ≤ k.val ∧ k.val < 0 + 4096; omega

end Points

end Cert.Ffn
-- ==== Proof.FfnHost.lean ====
module

public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Ffn

open Cert.Kernel2Ideal Cert.Kernel2Ideal.Gen Idealize.ShloMosaic Idealize.SL.Sem Idealize.ShloMosaic.TcCoe

/-! What the program hands the call in place of the weights, the taps and the biases: each array's two halves
apart, and each half's columns padded with zeros. -/

/-- The word the padding is made of, read as a number. -/
theorem zero_pad : (FloatOps.sitofp (F := Ideal) FTy.f32 (0#32 : BitVec 32) : EReal) = 0 := by
  simp [FloatOps.sitofp]

theorem pad_w (y : Vec Ideal S4096x11008 .f32) (v : Vec Ideal S_ .f32) (hv : ∀ i, (v i : EReal) = 0) (k : Fin 4096) (f : Fin 11264) :
    (pad (α := EReal) S4096x11264 ![0, 0] ![0, 256] ![0, 0] y v pads_S4096x11008_S4096x11264_000_02560 h_S_ (ix2 k f)) = if h : f.val < 11008 then (y (ix2 k ⟨f.val, h⟩) : EReal) else 0 := by
  pointwise
  simp only [hv]

theorem pad_c (y : Vec Ideal S2x3x11008 .f32) (v : Vec Ideal S_ .f32) (hv : ∀ i, (v i : EReal) = 0) (a : Fin 2) (k : Fin 3) (f : Fin 11264) :
    (pad (α := EReal) S2x3x11264 ![0, 0, 0] ![0, 0, 256] ![0, 0, 0] y v pads_S2x3x11008_S2x3x11264_000_000_02560 h_S_ (ix3 a k f)) = if h : f.val < 11008 then (y (ix3 a k ⟨f.val, h⟩) : EReal) else 0 := by
  pointwise
  simp only [hv]

theorem pad_b (y : Vec Ideal S2x1x11008 .f32) (v : Vec Ideal S_ .f32) (hv : ∀ i, (v i : EReal) = 0) (a : Fin 2) (f : Fin 11264) :
    (pad (α := EReal) S2x1x11264 ![0, 0, 0] ![0, 0, 256] ![0, 0, 0] y v pads_S2x1x11008_S2x1x11264_000_000_02560 h_S_ (ix3 a 0 f)) = if h : f.val < 11008 then (y (ix3 a 0 ⟨f.val, h⟩) : EReal) else 0 := by
  pointwise
  simp only [hv]

variable (m : (ℓ : Loc nD τ sig) → Buf (Elt Ideal) ℓ)

/-- The zero the padding is made of. -/
def zeroV : Vec Ideal S_ .f32 := sitofp (F := Ideal) .f32 (constantI S_ 32 0#32)

theorem zeroV_at (i : S_.Idx) : (zeroV i : EReal) = 0 := zero_pad

/-- The gate's half of the weights. -/
def halfG (w : Vec Ideal S4096x22016 .f32) : Vec Ideal S4096x11008 .f32 :=
  shapeCast S4096x11008 (extractStridedSlice S4096x1x11008 ![0, 0, 0] (shapeCast S4096x2x11008 w shapeCasts_S4096x22016_S4096x2x11008) slices_S4096x2x11008_S4096x1x11008_0_0_0) shapeCasts_S4096x1x11008_S4096x11008

/-- The value's half of the weights. -/
def halfV (w : Vec Ideal S4096x22016 .f32) : Vec Ideal S4096x11008 .f32 :=
  shapeCast S4096x11008 (extractStridedSlice S4096x1x11008 ![0, 1, 0] (shapeCast S4096x2x11008 w shapeCasts_S4096x22016_S4096x2x11008) slices_S4096x2x11008_S4096x1x11008_0_1_0) shapeCasts_S4096x1x11008_S4096x11008

theorem V_wg (c : Dev nD) : (V m c main_v4 : Vec Ideal S4096x11264 .bf16) = truncf (F := Ideal) .bf16 (pad S4096x11264 ![0, 0] ![0, 256] ![0, 0] (halfG (m ((c.tc : Thread nD τ).loc main_arg1))) zeroV pads_S4096x11008_S4096x11264_000_02560 h_S_) bitsLt_bf16_f32 := by
  unfold V
  simp only [hostOps0, hostOps0_1, hostOps0_2, hostOps0_3, hostOps0_4, hostOps0_5, hostOps0_6, hostOps0_7, List.flatten_cons, List.flatten_nil, List.append_nil, List.cons_append, List.nil_append]
  after_results
  rfl

theorem V_wv (c : Dev nD) : (V m c main_v8 : Vec Ideal S4096x11264 .bf16) = truncf (F := Ideal) .bf16 (pad S4096x11264 ![0, 0] ![0, 256] ![0, 0] (halfV (m ((c.tc : Thread nD τ).loc main_arg1))) zeroV pads_S4096x11008_S4096x11264_000_02560 h_S_) bitsLt_bf16_f32 := by
  unfold V
  simp only [hostOps0, hostOps0_1, hostOps0_2, hostOps0_3, hostOps0_4, hostOps0_5, hostOps0_6, hostOps0_7, List.flatten_cons, List.flatten_nil, List.append_nil, List.cons_append, List.nil_append]
  after_results
  rfl

/-- The taps, half by half. -/
def halvesC (x : Vec Ideal S3x22016 .f32) : Vec Ideal S2x3x11008 .f32 :=
  transpose S2x3x11008 [1, 0, 2] (shapeCast S3x2x11008 x shapeCasts_S3x22016_S3x2x11008) transposes_S3x2x11008_S2x3x11008_1_0_2

theorem V_cw (c : Dev nD) : (V m c main_v11 : Vec Ideal S2x3x11264 .f32) = pad S2x3x11264 ![0, 0, 0] ![0, 0, 256] ![0, 0, 0] (halvesC (m ((c.tc : Thread nD τ).loc main_arg2))) zeroV pads_S2x3x11008_S2x3x11264_000_000_02560 h_S_ := by
  unfold V
  simp only [hostOps0, hostOps0_1, hostOps0_2, hostOps0_3, hostOps0_4, hostOps0_5, hostOps0_6, hostOps0_7, List.flatten_cons, List.flatten_nil, List.append_nil, List.cons_append, List.nil_append]
  after_results
  rfl

theorem V_cb (c : Dev nD) : (V m c main_v13 : Vec Ideal S2x1x11264 .f32) = pad S2x1x11264 ![0, 0, 0] ![0, 0, 256] ![0, 0, 0] (shapeCast S2x1x11008 (m ((c.tc : Thread nD τ).loc main_arg3) : Vec Ideal S22016 .f32) shapeCasts_S22016_S2x1x11008) zeroV pads_S2x1x11008_S2x1x11264_000_000_02560 h_S_ := by
  unfold V
  simp only [hostOps0, hostOps0_1, hostOps0_2, hostOps0_3, hostOps0_4, hostOps0_5, hostOps0_6, hostOps0_7, List.flatten_cons, List.flatten_nil, List.append_nil, List.cons_append, List.nil_append]
  after_results
  rfl

/-- The column of the whole array, of a column of one of its halves. -/
def colH (a : Fin 2) (f : Fin 11008) : Fin 22016 := ⟨a.val * 11008 + f.val, by omega⟩

theorem halfG_at (w : Vec Ideal S4096x22016 .f32) (k : Fin 4096) (f : Fin 11008) : halfG w (ix2 k f) = w (ix2 k (colH 0 f)) := by
  unfold halfG
  pointwise
  exact congrArg (fun g => w (ix2 k g)) (Fin.ext (by show f.val = 0 * 11008 + f.val; omega))

theorem halfV_at (w : Vec Ideal S4096x22016 .f32) (k : Fin 4096) (f : Fin 11008) : halfV w (ix2 k f) = w (ix2 k (colH 1 f)) := by
  unfold halfV
  pointwise
  exact congrArg (fun g => w (ix2 k g)) (Fin.ext (by show 11008 + f.val = 1 * 11008 + f.val; omega))

theorem halvesC_at (x : Vec Ideal S3x22016 .f32) (a : Fin 2) (k : Fin 3) (f : Fin 11008) : halvesC x (ix3 a k f) = x (ix2 k (colH a f)) := by
  unfold halvesC
  pointwise
  rfl

theorem halvesB_at (x : Vec Ideal S22016 .f32) (a : Fin 2) (f : Fin 11008) : shapeCast S2x1x11008 x shapeCasts_S22016_S2x1x11008 (ix3 a 0 f) = x (ix1 (colH a f)) := by
  pointwise
  rfl

theorem wg_at (c : Dev nD) (k : Fin 4096) (f : Fin 11264) :
    ((V m c main_v4 : Vec Ideal S4096x11264 .bf16) (ix2 k f) : EReal) = if h : f.val < 11008 then ((m ((c.tc : Thread nD τ).loc main_arg1) : Vec Ideal S4096x22016 .f32) (ix2 k (colH 0 ⟨f.val, h⟩)) : EReal) else (0 : EReal) := by
  rw [V_wg]
  refine (pad_w _ _ zeroV_at k f).trans ?_
  by_cases h : f.val < 11008
  · rw [dif_pos h, dif_pos h, halfG_at]
  · rw [dif_neg h, dif_neg h]

theorem wv_at (c : Dev nD) (k : Fin 4096) (f : Fin 11264) :
    ((V m c main_v8 : Vec Ideal S4096x11264 .bf16) (ix2 k f) : EReal) = if h : f.val < 11008 then ((m ((c.tc : Thread nD τ).loc main_arg1) : Vec Ideal S4096x22016 .f32) (ix2 k (colH 1 ⟨f.val, h⟩)) : EReal) else (0 : EReal) := by
  rw [V_wv]
  refine (pad_w _ _ zeroV_at k f).trans ?_
  by_cases h : f.val < 11008
  · rw [dif_pos h, dif_pos h, halfV_at]
  · rw [dif_neg h, dif_neg h]

theorem cw_at (c : Dev nD) (a : Fin 2) (k : Fin 3) (f : Fin 11264) :
    ((V m c main_v11 : Vec Ideal S2x3x11264 .f32) (ix3 a k f) : EReal) = if h : f.val < 11008 then ((m ((c.tc : Thread nD τ).loc main_arg2) : Vec Ideal S3x22016 .f32) (ix2 k (colH a ⟨f.val, h⟩)) : EReal) else (0 : EReal) := by
  rw [V_cw]
  refine (pad_c _ _ zeroV_at a k f).trans ?_
  by_cases h : f.val < 11008
  · rw [dif_pos h, dif_pos h, halvesC_at]
  · rw [dif_neg h, dif_neg h]

theorem cb_at (c : Dev nD) (a : Fin 2) (f : Fin 11264) :
    ((V m c main_v13 : Vec Ideal S2x1x11264 .f32) (ix3 a 0 f) : EReal) = if h : f.val < 11008 then ((m ((c.tc : Thread nD τ).loc main_arg3) : Vec Ideal S22016 .f32) (ix1 (colH a ⟨f.val, h⟩)) : EReal) else (0 : EReal) := by
  rw [V_cb]
  refine (pad_b _ _ zeroV_at a f).trans ?_
  by_cases h : f.val < 11008
  · rw [dif_pos h, dif_pos h, halvesB_at]
  · rw [dif_neg h, dif_neg h]

end Cert.Ffn
-- ==== Proof.Ffn.lean ====
module

public import proofs.«01_k».proof.Proof.FfnBlk
public import proofs.«01_k».proof.Proof.FfnHost

@[expose] public section

set_option maxRecDepth 16384

noncomputable section

namespace Cert.Ffn

open Cert.Kernel2Ideal Cert.Kernel2Ideal.Gen Idealize.ShloMosaic Idealize.SL.Sem Idealize.ShloMosaic.TcCoe

/-! The launch's result array is the reference's. -/

/-- Which blocks a grid point reads and writes. -/
theorem idx : ∀ t : Fin cfg0.N, win0_0.index t = ![t.val / 22, 0] ∧ win0_1.index t = ![t.val / 22 * 128 - 1, 0] ∧ win0_2.index t = ![min ((t.val / 22 + 1) * 128) 4095, 0]
    ∧ win0_3.index t = ![0, t.val % 22] ∧ win0_4.index t = ![0, t.val % 22] ∧ win0_5.index t = ![0, 0, t.val % 22] ∧ win0_6.index t = ![0, 0, t.val % 22] ∧ win0_7.index t = ![t.val / 22, t.val % 22] :=
  (by decide +kernel : ∀ t : Fin grid0.N, _)

theorem coord0 : ∀ t : Fin cfg0.N, ((grid0.coords t) 0).val = t.val / 22 := (by decide +kernel : ∀ t : Fin grid0.N, _)

theorem lt_N (t : Fin cfg0.N) : t.val < 704 := lt_of_lt_of_eq t.isLt N_0

/-- The row of the whole array that a row of a grid point's block is. -/
def rowOf (t : Fin cfg0.N) (r : Fin 1024) : Fin 32768 := ⟨t.val / 22 * 1024 + r.val, by have h := lt_N t; omega⟩
/-- The column likewise. -/
def colOf (t : Fin cfg0.N) (y : Fin 512) : Fin 11264 := ⟨t.val % 22 * 512 + y.val, by omega⟩
/-- A row of the block before. -/
def befOf (t : Fin cfg0.N) (r : Fin 8) : Fin 32768 := ⟨(t.val / 22 * 128 - 1) * 8 + r.val, by have h := lt_N t; omega⟩
/-- A row of the block after. -/
def aftOf (t : Fin cfg0.N) (r : Fin 8) : Fin 32768 := ⟨min ((t.val / 22 + 1) * 128) 4095 * 8 + r.val, by have h := lt_N t; omega⟩

/-- The row of the whole array that a row of the extended block is. -/
def extRow (t : Fin cfg0.N) (s : Fin 1040) : Fin 32768 :=
  if h1 : s.val < 8 then befOf t ⟨s.val, h1⟩ else if h2 : s.val < 1032 then rowOf t ⟨s.val - 8, by omega⟩ else aftOf t ⟨s.val - 1032, by omega⟩

theorem pay2_at (x : Vec Ideal S8x4096 .bf16) (r : Fin 8) (k : Fin 4096) : k0_pay2 x (ix2 r k) = x (ix2 r k) := by
  pointwise [k0_pay2]
theorem pay3_at (x : Vec Ideal S1024x4096 .bf16) (r : Fin 1024) (k : Fin 4096) : k0_pay3 x (ix2 r k) = x (ix2 r k) := by
  pointwise [k0_pay3]
theorem pay4_at (x : Vec Ideal S8x4096 .bf16) (r : Fin 8) (k : Fin 4096) : k0_pay4 x (ix2 r k) = x (ix2 r k) := by
  pointwise [k0_pay4]

variable (m : (ℓ : Loc nD τ sig) → Buf (Elt Ideal) ℓ)

/-- The rows. -/
def hA (c : Dev nD) : Vec Ideal S32768x4096 .bf16 := m ((c.tc : Thread nD τ).loc main_arg0)

theorem x_blk (c : Dev nD) (t : Fin cfg0.N) (r : Fin 1024) (k : Fin 4096) :
    (iblk m c 0 t : Vec Ideal S1024x4096 .bf16) (ix2 r k) = hA m c (ix2 (rowOf t r) k) := by
  unfold hA
  blk_ext [iblk, V, idx t, rowOf]

theorem bef_blk (c : Dev nD) (t : Fin cfg0.N) (r : Fin 8) (k : Fin 4096) :
    (iblk m c 1 t : Vec Ideal S8x4096 .bf16) (ix2 r k) = hA m c (ix2 (befOf t r) k) := by
  unfold hA
  blk_ext [iblk, V, idx t, befOf]

theorem aft_blk (c : Dev nD) (t : Fin cfg0.N) (r : Fin 8) (k : Fin 4096) :
    (iblk m c 2 t : Vec Ideal S8x4096 .bf16) (ix2 r k) = hA m c (ix2 (aftOf t r) k) := by
  unfold hA
  blk_ext [iblk, V, idx t, aftOf]

theorem wg_blk (c : Dev nD) (t : Fin cfg0.N) (k : Fin 4096) (y : Fin 512) :
    (iblk m c 3 t : Vec Ideal S4096x512 .bf16) (ix2 k y) = (V m c main_v4 : Vec Ideal S4096x11264 .bf16) (ix2 k (colOf t y)) := by
  blk_ext [iblk, idx t, colOf]

theorem wv_blk (c : Dev nD) (t : Fin cfg0.N) (k : Fin 4096) (y : Fin 512) :
    (iblk m c 4 t : Vec Ideal S4096x512 .bf16) (ix2 k y) = (V m c main_v8 : Vec Ideal S4096x11264 .bf16) (ix2 k (colOf t y)) := by
  blk_ext [iblk, idx t, colOf]

theorem cw_blk (c : Dev nD) (t : Fin cfg0.N) (a : Fin 2) (k : Fin 3) (y : Fin 512) :
    (iblk m c 5 t : Vec Ideal S2x3x512 .f32) (ix3 a k y) = (V m c main_v11 : Vec Ideal S2x3x11264 .f32) (ix3 a k (colOf t y)) := by
  blk_ext [iblk, idx t, colOf]

theorem cb_blk (c : Dev nD) (t : Fin cfg0.N) (a : Fin 2) (y : Fin 512) :
    (iblk m c 6 t : Vec Ideal S2x1x512 .f32) (ix3 a 0 y) = (V m c main_v13 : Vec Ideal S2x1x11264 .f32) (ix3 a 0 (colOf t y)) := by
  blk_ext [iblk, idx t, colOf]

/-- The extended block as one function of its index. -/
def extG (c : Dev nD) (t : Fin cfg0.N) (y : S1040x4096.Idx) : Elt Ideal .bf16 := hA m c (ix2 (extRow t (y 0)) (y 1))

theorem ext_A (c : Dev nD) (t : Fin cfg0.N) (h0 : t.val % 22 = 0) (s : Fin 1040) (k : Fin 4096) :
    (outsAt0 m c t.val t.isLt).2 (ix2 s k) = hA m c (ix2 (extRow t s) k) := by
  rw [scr_A m c t h0]
  refine View.canon_apply_of_pieces (Val := Elt Ideal) (extG m c t) (pieces m c t) ?_ (ix2 s k) (cover m c t s k)
  intro p hp x
  unfold pieces at hp
  simp only [List.mem_cons, List.not_mem_nil, or_false] at hp
  rcases hp with rfl | rfl | rfl
  · change S8x4096.Idx at x
    obtain ⟨r, q, rfl⟩ : ∃ (r : Fin 8) (q : Fin 4096), x = ix2 r q := ⟨x 0, x 1, funext fun a => match a with | ⟨0, _⟩ => rfl | ⟨1, _⟩ => rfl⟩
    refine (pay4_at _ r q).trans ((aft_blk m c t r q).trans ?_)
    refine congrArg (hA m c) (funext fun a => match a with | ⟨0, _⟩ => ?_ | ⟨1, _⟩ => ?_)
    · refine Eq.trans (b := extRow t ⟨1032 + r.val, by omega⟩) ?_ (congrArg (extRow t) (Fin.ext ?_))
      · unfold extRow
        rw [dif_neg (by show ¬ 1032 + r.val < 8; omega), dif_neg (by show ¬ 1032 + r.val < 1032; omega)]
        exact congrArg (aftOf t) (Fin.ext (by show r.val = 1032 + r.val - 1032; omega))
      · exact (ValueKit.rect_emb_unit_val (s := S1040x4096) ![1032, 0] S8x4096.size inb_S1040x4096_S8x4096_1032_0 (ix2 r q) 0).symm
    · exact Fin.ext ((Nat.zero_add _).symm.trans (ValueKit.rect_emb_unit_val (s := S1040x4096) ![1032, 0] S8x4096.size inb_S1040x4096_S8x4096_1032_0 (ix2 r q) 1).symm)
  · change S1024x4096.Idx at x
    obtain ⟨r, q, rfl⟩ : ∃ (r : Fin 1024) (q : Fin 4096), x = ix2 r q := ⟨x 0, x 1, funext fun a => match a with | ⟨0, _⟩ => rfl | ⟨1, _⟩ => rfl⟩
    refine (pay3_at _ r q).trans ((x_blk m c t r q).trans ?_)
    refine congrArg (hA m c) (funext fun a => match a with | ⟨0, _⟩ => ?_ | ⟨1, _⟩ => ?_)
    · refine Eq.trans (b := extRow t ⟨8 + r.val, by omega⟩) ?_ (congrArg (extRow t) (Fin.ext ?_))
      · unfold extRow
        rw [dif_neg (by show ¬ 8 + r.val < 8; omega), dif_pos (by show 8 + r.val < 1032; omega)]
        exact congrArg (rowOf t) (Fin.ext (by show r.val = 8 + r.val - 8; omega))
      · exact (ValueKit.rect_emb_unit_val (s := S1040x4096) ![8, 0] S1024x4096.size inb_S1040x4096_S1024x4096_8_0 (ix2 r q) 0).symm
    · exact Fin.ext ((Nat.zero_add _).symm.trans (ValueKit.rect_emb_unit_val (s := S1040x4096) ![8, 0] S1024x4096.size inb_S1040x4096_S1024x4096_8_0 (ix2 r q) 1).symm)
  · change S8x4096.Idx at x
    obtain ⟨r, q, rfl⟩ : ∃ (r : Fin 8) (q : Fin 4096), x = ix2 r q := ⟨x 0, x 1, funext fun a => match a with | ⟨0, _⟩ => rfl | ⟨1, _⟩ => rfl⟩
    refine (pay2_at _ r q).trans ((bef_blk m c t r q).trans ?_)
    refine congrArg (hA m c) (funext fun a => match a with | ⟨0, _⟩ => ?_ | ⟨1, _⟩ => ?_)
    · refine Eq.trans (b := extRow t ⟨0 + r.val, by omega⟩) ?_ (congrArg (extRow t) (Fin.ext ?_))
      · unfold extRow
        rw [dif_pos (by show 0 + r.val < 8; omega)]
        exact congrArg (befOf t) (Fin.ext (by show r.val = 0 + r.val; omega))
      · exact (ValueKit.rect_emb_unit_val (s := S1040x4096) ![0, 0] S8x4096.size inb_S1040x4096_S8x4096_0_0 (ix2 r q) 0).symm
    · exact Fin.ext ((Nat.zero_add _).symm.trans (ValueKit.rect_emb_unit_val (s := S1040x4096) ![0, 0] S8x4096.size inb_S1040x4096_S8x4096_0_0 (ix2 r q) 1).symm)

theorem extRow_congr (t u : Fin cfg0.N) (h : t.val / 22 = u.val / 22) (s : Fin 1040) : extRow t s = extRow u s := by
  unfold extRow befOf aftOf rowOf
  simp only [h]

/-- The extended block holds the rows, the eight before and the eight after, at every grid point. -/
theorem ext_at (c : Dev nD) : ∀ (n : ℕ) (hn : n < cfg0.N) (s : Fin 1040) (k : Fin 4096), (outsAt0 m c n hn).2 (ix2 s k) = hA m c (ix2 (extRow ⟨n, hn⟩ s) k)
  | n, hn, s, k => by
    by_cases h0 : n % 22 = 0
    · exact ext_A m c ⟨n, hn⟩ h0 s k
    · have ih := ext_at c (n - 1) (by omega) s k
      rw [extRow_congr ⟨n - 1, by omega⟩ ⟨n, hn⟩ (by show (n - 1) / 22 = n / 22; omega) s] at ih
      rw [scr_B m c ⟨n, hn⟩ h0]
      exact ih
termination_by n => n

/-- The factor that leaves out the row before where there is none. -/
def mP (i : grid0.Coords) (r : Fin 1024) : EReal := if ((i 0).val * 1024 + r.val) % 4096 = 0 then 0 else 1
/-- The factor that leaves out the row after where there is none. -/
def mN (i : grid0.Coords) (r : Fin 1024) : EReal := if ((i 0).val * 1024 + r.val) % 4096 = 4095 then 0 else 1

theorem mP_at (t : Fin cfg0.N) (r : Fin 1024) : mP (grid0.coords t) r = if (rowOf t r).val % 4096 = 0 then 0 else 1 := by
  unfold mP
  rw [coord0]
  rfl

theorem mN_at (t : Fin cfg0.N) (r : Fin 1024) : mN (grid0.coords t) r = if (rowOf t r).val % 4096 = 4095 then 0 else 1 := by
  unfold mN
  rw [coord0]
  rfl

/-- The convolution of a block, with its bias. -/
def convB (i : grid0.Coords) (x : Vec Ideal S1040x4096 .bf16) (w : Vec Ideal S4096x512 .bf16) (cw : Vec Ideal S2x3x512 .f32) (cb : Vec Ideal S2x1x512 .f32) (a : Fin 2) (r : Fin 1024) (y : Fin 512) : EReal :=
  uB x w (rowP r) y * mP i r * (cw (ix3 a 0 y) : EReal) + uB x w (rowM r) y * (cw (ix3 a 1 y) : EReal) + uB x w (rowN r) y * mN i r * (cw (ix3 a 2 y) : EReal) + (cb (ix3 a 0 y) : EReal)

theorem outOf_at (i : grid0.Coords) (x : Vec Ideal S1040x4096 .bf16) (wg wv : Vec Ideal S4096x512 .bf16) (cw : Vec Ideal S2x3x512 .f32) (cb : Vec Ideal S2x1x512 .f32) (r : Fin 1024) (y : Fin 512) :
    (outOf i x wg wv cw cb (ix2 r y) : EReal) = gateE (convB i x wg cw cb 0 r y) * convB i x wv cw cb 1 r y := by
  unfold outOf
  rw [pay1_at, pay11_at, pay14_at, pay15_at, pay8_at, pay9_at, pay10_at, pay6_at, pay7_at]
  rfl

theorem uB_at (x : Vec Ideal S1040x4096 .bf16) (wb : Vec Ideal S4096x512 .bf16) (h : HArr) (w : WArr) (s : Fin 1040) (y : Fin 512) (R : Fin 32768) (f : Fin 22016)
    (hx : ∀ k, x (ix2 s k) = h (ix2 R k)) (hw : ∀ k, (wb (ix2 k y) : EReal) = w (ix2 k f)) : uB x wb s y = uAt h w R f :=
  Finset.sum_congr rfl fun k _ => congrArg₂ (fun a b : EReal => a * b) (hx k) (hw k)

theorem uB_zero (x : Vec Ideal S1040x4096 .bf16) (wb : Vec Ideal S4096x512 .bf16) (s : Fin 1040) (y : Fin 512) (hw : ∀ k, (wb (ix2 k y) : EReal) = 0) : uB x wb s y = 0 :=
  Finset.sum_eq_zero fun k _ => by rw [hw k, mul_zero]

theorem extRow_M (t : Fin cfg0.N) (r : Fin 1024) : extRow t (rowM r) = rowOf t r := by
  unfold extRow rowM
  rw [dif_neg (by show ¬ 8 + r.val < 8; omega), dif_pos (by show 8 + r.val < 1032; omega)]
  exact congrArg (rowOf t) (Fin.ext (by show 8 + r.val - 8 = r.val; omega))

theorem extRow_P (t : Fin cfg0.N) (r : Fin 1024) (h : ¬ (rowOf t r).val % 4096 = 0) : (extRow t (rowP r)).val = (rowOf t r).val - 1 := by
  change ¬ (t.val / 22 * 1024 + r.val) % 4096 = 0 at h
  show _ = t.val / 22 * 1024 + r.val - 1
  unfold extRow rowP
  by_cases h1 : 7 + r.val < 8
  · rw [dif_pos h1]
    show (t.val / 22 * 128 - 1) * 8 + (7 + r.val) = _
    omega
  · rw [dif_neg h1, dif_pos (by show 7 + r.val < 1032; omega)]
    show t.val / 22 * 1024 + (7 + r.val - 8) = _
    omega

theorem extRow_N (t : Fin cfg0.N) (r : Fin 1024) (h : ¬ (rowOf t r).val % 4096 = 4095) : (extRow t (rowN r)).val = (rowOf t r).val + 1 := by
  have ht := lt_N t
  change ¬ (t.val / 22 * 1024 + r.val) % 4096 = 4095 at h
  show _ = t.val / 22 * 1024 + r.val + 1
  unfold extRow rowN
  rw [dif_neg (by show ¬ 9 + r.val < 8; omega)]
  by_cases h1 : 9 + r.val < 1032
  · rw [dif_pos h1]
    show t.val / 22 * 1024 + (9 + r.val - 8) = _
    omega
  · rw [dif_neg h1]
    show min ((t.val / 22 + 1) * 128) 4095 * 8 + (9 + r.val - 1032) = _
    omega

theorem convB_in (t : Fin cfg0.N) (x : Vec Ideal S1040x4096 .bf16) (wb : Vec Ideal S4096x512 .bf16) (cwb : Vec Ideal S2x3x512 .f32) (cbb : Vec Ideal S2x1x512 .f32) (a : Fin 2) (r : Fin 1024) (y : Fin 512)
    (h : HArr) (w : WArr) (cw : CArr) (cb : BArr) (f : Fin 22016)
    (hx : ∀ s k, x (ix2 s k) = h (ix2 (extRow t s) k)) (hw : ∀ k, (wb (ix2 k y) : EReal) = w (ix2 k f))
    (hc : ∀ k, (cwb (ix3 a k y) : EReal) = cw (ix2 k f)) (hb : (cbb (ix3 a 0 y) : EReal) = cb (ix1 f)) :
    convB (grid0.coords t) x wb cwb cbb a r y = convAt h w cw cb (rowOf t r) f := by
  have hP : uB x wb (rowP r) y * mP (grid0.coords t) r = uPrev h w (rowOf t r) f := by
    unfold uPrev
    rw [mP_at]
    by_cases h0 : (rowOf t r).val % 4096 = 0
    · rw [if_pos h0, if_pos h0, mul_zero]
    · rw [if_neg h0, if_neg h0, mul_one]
      exact uB_at x wb h w _ y _ f (fun k => (hx _ k).trans (congrArg (fun R => h (ix2 R k)) (Fin.ext (extRow_P t r h0)))) hw
  have hN : uB x wb (rowN r) y * mN (grid0.coords t) r = uNext h w (rowOf t r) f := by
    unfold uNext
    rw [mN_at]
    by_cases h0 : (rowOf t r).val % 4096 = 4095
    · rw [if_pos h0, dif_pos h0, mul_zero]
    · rw [if_neg h0, dif_neg h0, mul_one]
      exact uB_at x wb h w _ y _ f (fun k => (hx _ k).trans (congrArg (fun R => h (ix2 R k)) (Fin.ext (extRow_N t r h0)))) hw
  have hM : uB x wb (rowM r) y = uAt h w (rowOf t r) f :=
    uB_at x wb h w _ y _ f (fun k => (hx _ k).trans (congrArg (fun R => h (ix2 R k)) (extRow_M t r))) hw
  unfold convB convAt
  rw [hP, hN, hM, hc, hc, hc, hb]

theorem convB_out (i : grid0.Coords) (x : Vec Ideal S1040x4096 .bf16) (wb : Vec Ideal S4096x512 .bf16) (cwb : Vec Ideal S2x3x512 .f32) (cbb : Vec Ideal S2x1x512 .f32) (a : Fin 2) (r : Fin 1024) (y : Fin 512)
    (hw : ∀ k, (wb (ix2 k y) : EReal) = 0) (hc : ∀ k, (cwb (ix3 a k y) : EReal) = 0) (hb : (cbb (ix3 a 0 y) : EReal) = 0) :
    convB i x wb cwb cbb a r y = 0 := by
  unfold convB
  rw [hc, hc, hc, hb, mul_zero, mul_zero, mul_zero, add_zero, add_zero, add_zero]

theorem colH_0 (f : Fin 11008) : colH 0 f = colG f := Fin.ext (by show 0 * 11008 + f.val = f.val; omega)
theorem colH_1 (f : Fin 11008) : colH 1 f = colV f := Fin.ext (by show 1 * 11008 + f.val = 11008 + f.val; omega)

/-- The weights, the taps and the biases. -/
def wA (c : Dev nD) : Vec Ideal S4096x22016 .f32 := m ((c.tc : Thread nD τ).loc main_arg1)
def cA (c : Dev nD) : Vec Ideal S3x22016 .f32 := m ((c.tc : Thread nD τ).loc main_arg2)
def bA (c : Dev nD) : Vec Ideal S22016 .f32 := m ((c.tc : Thread nD τ).loc main_arg3)

theorem wg_in (c : Dev nD) (t : Fin cfg0.N) (x : Fin 512) (hf : (colOf t x).val < 11008) (k : Fin 4096) :
    ((iblk m c 3 t : Vec Ideal S4096x512 .bf16) (ix2 k x) : EReal) = wA m c (ix2 k (colG ⟨(colOf t x).val, hf⟩)) := by
  rw [wg_blk, wg_at, dif_pos hf, colH_0]; unfold wA; exact Eq.refl _

theorem wv_in (c : Dev nD) (t : Fin cfg0.N) (x : Fin 512) (hf : (colOf t x).val < 11008) (k : Fin 4096) :
    ((iblk m c 4 t : Vec Ideal S4096x512 .bf16) (ix2 k x) : EReal) = wA m c (ix2 k (colV ⟨(colOf t x).val, hf⟩)) := by
  rw [wv_blk, wv_at, dif_pos hf, colH_1]; unfold wA; exact Eq.refl _

theorem cg_in (c : Dev nD) (t : Fin cfg0.N) (x : Fin 512) (hf : (colOf t x).val < 11008) (k : Fin 3) :
    ((iblk m c 5 t : Vec Ideal S2x3x512 .f32) (ix3 0 k x) : EReal) = cA m c (ix2 k (colG ⟨(colOf t x).val, hf⟩)) := by
  rw [cw_blk, cw_at, dif_pos hf, colH_0]; unfold cA; exact Eq.refl _

theorem cv_in (c : Dev nD) (t : Fin cfg0.N) (x : Fin 512) (hf : (colOf t x).val < 11008) (k : Fin 3) :
    ((iblk m c 5 t : Vec Ideal S2x3x512 .f32) (ix3 1 k x) : EReal) = cA m c (ix2 k (colV ⟨(colOf t x).val, hf⟩)) := by
  rw [cw_blk, cw_at, dif_pos hf, colH_1]; unfold cA; exact Eq.refl _

theorem bg_in (c : Dev nD) (t : Fin cfg0.N) (x : Fin 512) (hf : (colOf t x).val < 11008) :
    ((iblk m c 6 t : Vec Ideal S2x1x512 .f32) (ix3 0 0 x) : EReal) = bA m c (ix1 (colG ⟨(colOf t x).val, hf⟩)) := by
  rw [cb_blk, cb_at, dif_pos hf, colH_0]; unfold bA; exact Eq.refl _

theorem bv_in (c : Dev nD) (t : Fin cfg0.N) (x : Fin 512) (hf : (colOf t x).val < 11008) :
    ((iblk m c 6 t : Vec Ideal S2x1x512 .f32) (ix3 1 0 x) : EReal) = bA m c (ix1 (colV ⟨(colOf t x).val, hf⟩)) := by
  rw [cb_blk, cb_at, dif_pos hf, colH_1]; unfold bA; exact Eq.refl _

/-- The launch's result array is the reference's. -/
theorem final (c : Dev nD) :
    (dats m 0 c).arrAt 7 cfg0.N = Cert.Reference2Ideal.Read.val_main_v33 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  rw [after0_7, out_at]
  blk_simp
  change S1024x512.Idx at y
  obtain ⟨r, x, rfl⟩ : ∃ (r : Fin 1024) (x : Fin 512), y = ix2 r x := ⟨y 0, y 1, funext fun a => match a with | ⟨0, _⟩ => rfl | ⟨1, _⟩ => rfl⟩
  refine (outOf_at _ _ _ _ _ _ r x).trans ?_
  refine Eq.trans (b := (Cert.Reference2Ideal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (ix2 (rowOf t r) (colOf t x)) : EReal)) ?_ ?_
  · rw [ref_at]
    by_cases hf : (colOf t x).val < 11008
    · rw [dif_pos hf]
      refine congrArg₂ (fun a b : EReal => gateE a * b) ?_ ?_
      · exact convB_in t _ _ _ _ 0 r x (hA m c) (wA m c) (cA m c) (bA m c) _ (ext_at m c t.val t.isLt) (wg_in m c t x hf) (cg_in m c t x hf) (bg_in m c t x hf)
      · exact convB_in t _ _ _ _ 1 r x (hA m c) (wA m c) (cA m c) (bA m c) _ (ext_at m c t.val t.isLt) (wv_in m c t x hf) (cv_in m c t x hf) (bv_in m c t x hf)
    · rw [dif_neg hf, convB_out _ _ _ _ _ 0 r x (fun k => by rw [wg_blk, wg_at, dif_neg hf]) (fun k => by rw [cw_blk, cw_at, dif_neg hf]) (by rw [cb_blk, cb_at, dif_neg hf])]
      unfold gateE
      rw [zero_mul, zero_mul]
  · blk_ext [idx t, rowOf, colOf]

end Cert.Ffn
-- ==== Proof.Down.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Down

open Cert.Kernel3Ideal Cert.Kernel3Ideal.Gen Idealize.ShloMosaic Idealize.SL.Sem Idealize.ShloMosaic.TcCoe

/-- Which blocks a grid point reads and writes. -/
theorem idx : ∀ t : Fin cfg0.N, win0_0.index t = ![t.val / 16, t.val % 4] ∧ win0_1.index t = ![t.val % 4, t.val / 4 % 4] ∧ win0_2.index t = ![t.val / 16, t.val / 4 % 4] :=
  (by decide +kernel : ∀ t : Fin grid0.N, _)

theorem pay1_at (r y : Fin 1024) : (k0_pay1 (F := Ideal) (ix2 r y) : EReal) = 0 := by
  pointwise [k0_pay1]

/-- One step of the sum: the product of two blocks is added to what is there. -/
theorem pay2_at (a : Vec Ideal S1024x1024 .f32) (x : Vec Ideal S1024x2816 .bf16) (w : Vec Ideal S2816x1024 .bf16) (r y : Fin 1024) :
    (k0_pay2 a x w (ix2 r y) : EReal) = (a (ix2 r y) : EReal) + ∑ k : Fin 2816, (x (ix2 r k) : EReal) * (w (ix2 k y) : EReal) := by
  pointwise [k0_pay2]

theorem pay3_at (a : Vec Ideal S1024x1024 .f32) (r y : Fin 1024) : (k0_pay3 a (ix2 r y) : EReal) = (a (ix2 r y) : EReal) := by
  pointwise [k0_pay3]

section Points
variable {F : FTy → Type} [FloatOps F]
variable (m : (ℓ : Loc nD τ sig) → Buf (Elt F) ℓ)

/-- The grid point before. -/
abbrev before (c : Dev nD) (t : Fin cfg0.N) : Vec F S1024x1024 .f32 := (outsAt0 m c (t.val - 1) (Nat.lt_of_le_of_lt (Nat.sub_le _ _) t.isLt)).2

theorem scr_A (c : Dev nD) (t : Fin cfg0.N) (h0 : t.val % 4 = 0) :
    (outsAt0 m c t.val t.isLt).2 = k0_pay2 k0_pay1 (iblk m c 0 t) (iblk m c 1 t) := by
  rw [outsAt0_A m c t h0 (by omega)]
  frame_out

theorem scr_B (c : Dev nD) (t : Fin cfg0.N) (h0 : ¬ t.val % 4 = 0) (h1 : ¬ t.val % 4 = 3) :
    (outsAt0 m c t.val t.isLt).2 = k0_pay2 (before m c t) (iblk m c 0 t) (iblk m c 1 t) := by
  rw [outsAt0_B m c t h0 h1]
  frame_out
  rw [(Memref.isWhole_whole cc0_scratch0).read_unread]

theorem out_C (c : Dev nD) (t : Fin cfg0.N) (h1 : t.val % 4 = 3) :
    (outsAt0 m c t.val t.isLt).1 = k0_pay3 (k0_pay2 (before m c t) (iblk m c 0 t) (iblk m c 1 t)) := by
  rw [outsAt0_C m c t (by omega) h1]
  frame_out
  rw [(Memref.isWhole_whole cc0_scratch0).read_unread]

end Points

variable (m : (ℓ : Loc nD τ sig) → Buf (Elt Ideal) ℓ)

/-- What the program hands the call in place of the second factor: its rows padded, and narrowed. -/
theorem V_w (c : Dev nD) : (V m c main_v1 : Vec Ideal S11264x4096 .bf16) = truncf (F := Ideal) .bf16 (pad S11264x4096 ![0, 0] ![256, 0] ![0, 0] (m ((c.tc : Thread nD τ).loc main_arg1)) (sitofp (F := Ideal) .f32 (constantI S_ 32 0#32)) pads_S11008x4096_S11264x4096_02560_000 h_S_) bitsLt_bf16_f32 := by
  unfold V
  simp only [hostOps0, hostOps0_1, hostOps0_2, List.flatten_cons, List.flatten_nil, List.append_nil, List.cons_append, List.nil_append]
  after_results
  try rfl

theorem w_at (c : Dev nD) (k : Fin 11264) (y : Fin 4096) :
    ((V m c main_v1 : Vec Ideal S11264x4096 .bf16) (ix2 k y) : EReal) = if h : k.val < 11008 then ((m ((c.tc : Thread nD τ).loc main_arg1) : Vec Ideal S11008x4096 .f32) (ix2 ⟨k.val, h⟩ y) : EReal) else (0 : EReal) := by
  have hz : (FloatOps.sitofp (F := Ideal) FTy.f32 (0#32 : BitVec 32) : EReal) = 0 := by
    simp [FloatOps.sitofp]
  rw [V_w]
  pointwise
  by_cases h : k.val < 11008
  · rw [dif_pos h, dif_pos]
    intro a
    match a with
    | ⟨0, _⟩ => exact ⟨Nat.zero_le _, Nat.mod_one _, by show (k.val - 0) / 1 < 11008; omega⟩
    | ⟨1, _⟩ => exact ⟨Nat.zero_le _, Nat.mod_one _, by show (y.val - 0) / 1 < 4096; omega⟩
  · rw [dif_neg h, dif_neg]
    · exact hz
    · intro hall
      have := (hall (⟨0, by show 0 < 2; omega⟩ : Fin S11008x4096.rank)).2.2
      change (k.val - 0) / 1 < 11008 at this
      omega

/-- The row of the whole array that a row of a grid point's block is. -/
def rowOf (t : Fin cfg0.N) (r : Fin 1024) : Fin 32768 := ⟨t.val / 16 * 1024 + r.val, by have h := t.isLt; have e : cfg0.N = 512 := N_0; omega⟩
/-- The column likewise. -/
def colOf (t : Fin cfg0.N) (y : Fin 1024) : Fin 4096 := ⟨t.val / 4 % 4 * 1024 + y.val, by omega⟩
/-- The inner index of a grid point's block. -/
def innerOf (j : Fin 4) (k : Fin 2816) : Fin 11264 := ⟨j.val * 2816 + k.val, by omega⟩
/-- The fourth of the sum that a grid point adds. -/
def partOf (t : Fin cfg0.N) : Fin 4 := ⟨t.val % 4, Nat.mod_lt _ (by norm_num)⟩

theorem x_blk (c : Dev nD) (t : Fin cfg0.N) (r : Fin 1024) (k : Fin 2816) :
    (iblk m c 0 t : Vec Ideal S1024x2816 .bf16) (ix2 r k) = (m ((c.tc : Thread nD τ).loc main_arg0) : Vec Ideal S32768x11264 .bf16) (ix2 (rowOf t r) (innerOf (partOf t) k)) := by
  blk_ext [iblk, V, idx t, rowOf, innerOf, partOf]

theorem w_blk (c : Dev nD) (t : Fin cfg0.N) (k : Fin 2816) (y : Fin 1024) :
    (iblk m c 1 t : Vec Ideal S2816x1024 .bf16) (ix2 k y) = (V m c main_v1 : Vec Ideal S11264x4096 .bf16) (ix2 (innerOf (partOf t) k) (colOf t y)) := by
  blk_ext [iblk, idx t, innerOf, partOf, colOf]

/-- One term of a product's sum. -/
def prodAt (x : Vec Ideal S32768x11264 .bf16) (w : Vec Ideal S11264x4096 .bf16) (R : Fin 32768) (Y : Fin 4096) (k : Fin 11264) : EReal :=
  (x (ix2 R k) : EReal) * (w (ix2 k Y) : EReal)

/-- One term of the product's sum, without the padding. -/
def prodOf (x : Vec Ideal S32768x11264 .bf16) (w : Vec Ideal S11008x4096 .f32) (R : Fin 32768) (Y : Fin 4096) (k : Fin 11008) : EReal :=
  (x (ix2 R (Fin.castAdd 256 k)) : EReal) * (w (ix2 k Y) : EReal)

/-- One term of the whole sum, over the padded inner index. -/
def term (c : Dev nD) (R : Fin 32768) (Y : Fin 4096) (k : Fin 11264) : EReal :=
  prodAt (m ((c.tc : Thread nD τ).loc main_arg0)) (V m c main_v1) R Y k

/-- A fourth of the sum. -/
def part (c : Dev nD) (R : Fin 32768) (Y : Fin 4096) (j : Fin 4) : EReal := ∑ k : Fin 2816, term m c R Y (innerOf j k)

theorem part_at (c : Dev nD) (t : Fin cfg0.N) (r y : Fin 1024) (a : Vec Ideal S1024x1024 .f32) :
    (k0_pay2 a (iblk m c 0 t) (iblk m c 1 t) (ix2 r y) : EReal) = (a (ix2 r y) : EReal) + part m c (rowOf t r) (colOf t y) (partOf t) := by
  refine (pay2_at _ _ _ r y).trans ?_
  simp only [x_blk, w_blk]
  rfl

/-- The last grid point of a run writes the sum of the four parts. -/
theorem out_at (c : Dev nD) (t : Fin cfg0.N) (h : t.val % 4 = 3) (r y : Fin 1024) :
    ((outsAt0 m c t.val t.isLt).1 (ix2 r y) : EReal)
      = part m c (rowOf t r) (colOf t y) 0 + part m c (rowOf t r) (colOf t y) 1 + part m c (rowOf t r) (colOf t y) 2 + part m c (rowOf t r) (colOf t y) 3 := by
  have ht := t.isLt
  let t2 : Fin cfg0.N := ⟨t.val - 1, by omega⟩
  let t1 : Fin cfg0.N := ⟨t.val - 1 - 1, by omega⟩
  let t0 : Fin cfg0.N := ⟨t.val - 1 - 1 - 1, by omega⟩
  have e0 : ((outsAt0 m c t0.val t0.isLt).2 (ix2 r y) : EReal) = 0 + part m c (rowOf t0 r) (colOf t0 y) (partOf t0) := by
    rw [scr_A m c t0 (by show (t.val - 1 - 1 - 1) % 4 = 0; omega), part_at, pay1_at]
  have e1 : ((outsAt0 m c t1.val t1.isLt).2 (ix2 r y) : EReal) = ((outsAt0 m c t0.val t0.isLt).2 (ix2 r y) : EReal) + part m c (rowOf t1 r) (colOf t1 y) (partOf t1) := by
    rw [scr_B m c t1 (by show ¬ (t.val - 1 - 1) % 4 = 0; omega) (by show ¬ (t.val - 1 - 1) % 4 = 3; omega), part_at]
  have e2 : ((outsAt0 m c t2.val t2.isLt).2 (ix2 r y) : EReal) = ((outsAt0 m c t1.val t1.isLt).2 (ix2 r y) : EReal) + part m c (rowOf t2 r) (colOf t2 y) (partOf t2) := by
    rw [scr_B m c t2 (by show ¬ (t.val - 1) % 4 = 0; omega) (by show ¬ (t.val - 1) % 4 = 3; omega), part_at]
  have e3 : ((outsAt0 m c t.val t.isLt).1 (ix2 r y) : EReal) = ((outsAt0 m c t2.val t2.isLt).2 (ix2 r y) : EReal) + part m c (rowOf t r) (colOf t y) (partOf t) := by
    rw [out_C m c t h, pay3_at, part_at]
  have r2 : rowOf t2 r = rowOf t r := Fin.ext (by show (t.val - 1) / 16 * 1024 + r.val = t.val / 16 * 1024 + r.val; omega)
  have r1 : rowOf t1 r = rowOf t r := Fin.ext (by show (t.val - 1 - 1) / 16 * 1024 + r.val = t.val / 16 * 1024 + r.val; omega)
  have r0 : rowOf t0 r = rowOf t r := Fin.ext (by show (t.val - 1 - 1 - 1) / 16 * 1024 + r.val = t.val / 16 * 1024 + r.val; omega)
  have c2 : colOf t2 y = colOf t y := Fin.ext (by show (t.val - 1) / 4 % 4 * 1024 + y.val = t.val / 4 % 4 * 1024 + y.val; omega)
  have c1 : colOf t1 y = colOf t y := Fin.ext (by show (t.val - 1 - 1) / 4 % 4 * 1024 + y.val = t.val / 4 % 4 * 1024 + y.val; omega)
  have c0 : colOf t0 y = colOf t y := Fin.ext (by show (t.val - 1 - 1 - 1) / 4 % 4 * 1024 + y.val = t.val / 4 % 4 * 1024 + y.val; omega)
  have p3 : partOf t = 3 := Fin.ext h
  have p2 : partOf t2 = 2 := Fin.ext (by show (t.val - 1) % 4 = 2; omega)
  have p1 : partOf t1 = 1 := Fin.ext (by show (t.val - 1 - 1) % 4 = 1; omega)
  have p0 : partOf t0 = 0 := Fin.ext (by show (t.val - 1 - 1 - 1) % 4 = 0; omega)
  rw [e3, e2, e1, e0, r2, r1, r0, c2, c1, c0, p3, p2, p1, p0, zero_add]

/-- Four sums of 2816 terms are one of 11264. -/
theorem sum_parts (f : Fin 11264 → EReal) :
    (∑ k, f (innerOf 0 k)) + (∑ k, f (innerOf 1 k)) + (∑ k, f (innerOf 2 k)) + (∑ k, f (innerOf 3 k)) = ∑ k, f k := by
  rw [← Equiv.sum_comp (finProdFinEquiv (m := 4) (n := 2816)) f, Fintype.sum_prod_type, Fin.sum_univ_four]
  have e : ∀ (j : Fin 4) (k : Fin 2816), innerOf j k = (finProdFinEquiv (j, k) : Fin (4 * 2816)) := fun j k => Fin.ext (by
    show j.val * 2816 + k.val = k.val + 2816 * j.val; omega)
  simp only [e]

/-- The padded rows add nothing. -/
theorem sum_pad (f : Fin 11264 → EReal) (g : Fin 11008 → EReal) (hf : ∀ k, f (Fin.castAdd 256 k) = g k) (h0 : ∀ k : Fin 256, f (Fin.natAdd 11008 k) = 0) :
    ∑ k, f k = ∑ k, g k := by
  refine (Fin.sum_univ_add (a := 11008) (b := 256) f).trans ?_
  simp only [hf, h0, Finset.sum_const_zero, add_zero]

/-- The reference's product, at an index. -/
theorem ref_at (x : Vec Ideal S32768x11264 .bf16) (w : Vec Ideal S11008x4096 .f32) (r : Fin 32768) (y : Fin 4096) :
    (Cert.Reference3Ideal.Read.val_main_v3 (F := Ideal) x w (ix2 r y) : EReal) = ∑ k : Fin 11008, (x (ix2 r (Fin.castAdd 256 k)) : EReal) * (w (ix2 k y) : EReal) := by
  refine (Cert.Reference3Ideal.Read.val_main_v2_apply x w (ix2 r y)).trans ?_
  refine Finset.sum_congr rfl fun k _ => ?_
  refine congrArg₂ (fun a b : EReal => a * b) ?_ (congrArg w (funext fun a => match a with | ⟨0, _⟩ => rfl | ⟨1, _⟩ => rfl))
  refine (Cert.Reference3Ideal.Read.val_main_v0_apply x _).trans (congrArg x (funext fun a => match a with | ⟨0, _⟩ => Fin.ext ?_ | ⟨1, _⟩ => Fin.ext ?_))
  · first | rfl | exact Nat.zero_add _
  · first | rfl | exact Nat.zero_add _

/-- The launch's result array is the reference's product. -/
theorem final (c : Dev nD) :
    (dats m 0 c).arrAt 2 cfg0.N = Cert.Reference3Ideal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  rw [after0_2]
  blk_simp
  change S1024x1024.Idx at y
  obtain ⟨r, x, rfl⟩ : ∃ (r x : Fin 1024), y = ix2 r x := ⟨y 0, y 1, funext fun a => match a with | ⟨0, _⟩ => rfl | ⟨1, _⟩ => rfl⟩
  have h3 : t.val % 4 = 3 := (by decide +kernel : ∀ t : Fin cfg0.N, (cfg0.win 2).flush t = true → t.val % 4 = 3) t hf
  refine (out_at m c t h3 r x).trans ?_
  refine (sum_parts (term m c (rowOf t r) (colOf t x))).trans ?_
  refine (sum_pad _ (prodOf (m ((c.tc : Thread nD τ).loc main_arg0)) (m ((c.tc : Thread nD τ).loc main_arg1)) (rowOf t r) (colOf t x)) (fun k => ?_) (fun k => ?_)).trans ?_
  · unfold term prodAt prodOf
    rw [w_at, dif_pos (show (Fin.castAdd 256 k).val < 11008 from k.isLt)]
    rfl
  · unfold term prodAt
    rw [w_at, dif_neg (show ¬ (Fin.natAdd 11008 k).val < 11008 by show ¬ 11008 + k.val < 11008; omega), mul_zero]
  · refine (ref_at _ _ (rowOf t r) (colOf t x)).symm.trans ?_
    blk_ext [idx t, rowOf, colOf]

end Cert.Down
-- ==== Proof.Proj.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.Proj

open Cert.Kernel4Ideal Cert.Kernel4Ideal.Gen Idealize.ShloMosaic Idealize.SL.Sem Idealize.ShloMosaic.TcCoe

/-- Which blocks a grid point reads and writes. -/
theorem idx : ∀ t : Fin cfg0.N, win0_0.index t = ![t.val / 12, 0] ∧ win0_1.index t = ![0, t.val % 12] ∧ win0_2.index t = ![t.val / 12, t.val % 12] :=
  (by decide +kernel : ∀ t : Fin grid0.N, _)

/-- An element of the product of two blocks. -/
theorem pay_at (x : Vec Ideal S1024x4096 .bf16) (w : Vec Ideal S4096x1024 .bf16) (r y : Fin 1024) :
    (k0_pay1 x w (ix2 r y) : EReal) = ∑ k : Fin 4096, (x (ix2 r k) : EReal) * (w (ix2 k y) : EReal) := by
  pointwise [k0_pay1]

variable (m : (ℓ : Loc nD τ sig) → Buf (Elt Ideal) ℓ)

/-- The row of the whole array that a row of a grid point's block is. -/
def rowOf (t : Fin cfg0.N) (r : Fin 1024) : Fin 8192 := ⟨t.val / 12 * 1024 + r.val, by have h := t.isLt; have e : cfg0.N = 96 := N_0; omega⟩
/-- The column likewise. -/
def colOf (t : Fin cfg0.N) (y : Fin 1024) : Fin 12288 := ⟨t.val % 12 * 1024 + y.val, by omega⟩

theorem x_blk (c : Dev nD) (t : Fin cfg0.N) (r : Fin 1024) (k : Fin 4096) :
    (iblk m c 0 t : Vec Ideal S1024x4096 .bf16) (ix2 r k) = (m ((c.tc : Thread nD τ).loc main_arg0) : Vec Ideal S8192x4096 .bf16) (ix2 (rowOf t r) k) := by
  blk_ext [iblk, V, idx t, rowOf]

theorem w_at (c : Dev nD) (k : Fin 4096) (y : Fin 12288) :
    (V m c main_v0 : Vec Ideal S4096x12288 .bf16) (ix2 k y) = (m ((c.tc : Thread nD τ).loc main_arg1) : Vec Ideal S4096x12288 .f32) (ix2 k y) := by
  entry_read
  pointwise

theorem w_blk (c : Dev nD) (t : Fin cfg0.N) (k : Fin 4096) (y : Fin 1024) :
    (iblk m c 1 t : Vec Ideal S4096x1024 .bf16) (ix2 k y) = (m ((c.tc : Thread nD τ).loc main_arg1) : Vec Ideal S4096x12288 .f32) (ix2 k (colOf t y)) := by
  rw [← w_at m c]
  blk_ext [iblk, idx t, colOf]

/-- The reference's product, at an index. -/
theorem ref_at (x : Vec Ideal S8192x4096 .bf16) (w : Vec Ideal S4096x12288 .f32) (r : Fin 8192) (y : Fin 12288) :
    (Cert.Reference4Ideal.Read.val_main_v2 (F := Ideal) x w (ix2 r y) : EReal) = ∑ k : Fin 4096, (x (ix2 r k) : EReal) * (w (ix2 k y) : EReal) := by
  refine (Cert.Reference4Ideal.Read.val_main_v1_apply x w (ix2 r y)).trans ?_
  refine Finset.sum_congr rfl fun k _ => ?_
  exact congrArg₂ (fun a b : EReal => a * b) (congrArg x (funext fun a => match a with | ⟨0, _⟩ => rfl | ⟨1, _⟩ => rfl)) (congrArg w (funext fun a => match a with | ⟨0, _⟩ => rfl | ⟨1, _⟩ => rfl))

/-- The launch's result array is the reference's product. -/
theorem final (c : Dev nD) :
    (dats m 0 c).arrAt 2 cfg0.N = Cert.Reference4Ideal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  blk_simp
  change S1024x1024.Idx at y
  obtain ⟨r, x, rfl⟩ : ∃ (r x : Fin 1024), y = ix2 r x := ⟨y 0, y 1, funext fun a => match a with | ⟨0, _⟩ => rfl | ⟨1, _⟩ => rfl⟩
  refine (pay_at _ _ r x).trans ?_
  simp only [x_blk, w_blk]
  refine (ref_at _ _ (rowOf t r) (colOf t x)).symm.trans ?_
  blk_ext [idx t, rowOf, colOf]

end Cert.Proj
-- ==== Proof.Resid.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

namespace Cert.Resid

open Cert.Kernel5Ideal Cert.Kernel5Ideal.Gen Idealize.ShloMosaic Idealize.SL.Sem Idealize.ShloMosaic.TcCoe

/-- The residual sum at one element: `y` of the stream, `f` the branch's row, `a` its element there, `g` the norm's gain, `u` the gate. -/
def step (y u a g : EReal) (f : Fin 4096 → EReal) : EReal :=
  y + u * (a * Ideal.rsqrt (Ideal.div (∑ k, f k * f k) (Ideal.ofBits .f32 0x45800000#32) + Ideal.ofBits .f32 0x358637BD#32) * g)

/-- Which blocks a grid point reads and writes: 256 rows of the stream and the branch, the gains, the gate of the sequence. -/
theorem idx : ∀ t : Fin cfg0.N, win0_0.index t = ![t.val, 0] ∧ win0_1.index t = ![t.val, 0] ∧ win0_2.index t = ![0, 0] ∧
    win0_3.index t = ![3, 1 + t.val / 16, 0, 5] ∧ win0_4.index t = ![t.val, 0] :=
  (by decide +kernel : ∀ t : Fin grid0.N, _)

/-- What a block's element becomes. -/
theorem pay_at (v0 : Vec Ideal S256x4096 .f32) (v1 : Vec Ideal S1x1x1x4096 .f32) (v3 : Vec Ideal S256x4096 .bf16) (v15 : Vec Ideal S1x4096 .f32)
    (r : Fin 256) (x : Fin 4096) :
    (k0_pay1 v0 v1 v3 v15 (ix2 r x) : EReal)
      = step (v0 (ix2 r x)) (v1 (ix4 0 0 0 x)) (v3 (ix2 r x)) (v15 (ix2 0 x)) (fun k => v3 (ix2 r k)) := by
  pointwise [k0_pay1, step]

variable (m : (ℓ : Loc nD τ sig) → Buf (Elt Ideal) ℓ)

/-- The row of the whole array that a row of a grid point's block is. -/
def rowOf (t : Fin cfg0.N) (r : Fin 256) : Fin 32768 := ⟨t.val * 256 + r.val, by have h := t.isLt; have e : cfg0.N = 128 := N_0; omega⟩

/-- The row of the modulation table of a row's sequence: the prompt's row is the first. -/
def seqOf (r : Fin 32768) : Fin 16 := ⟨1 + r.val / 4096, by omega⟩

/-- The column of the modulation table where the gate of a column lies. -/
def gateOf (x : Fin 4096) : Fin 24576 := ⟨20480 + x.val, by omega⟩

theorem y_blk (c : Dev nD) (t : Fin cfg0.N) (r : Fin 256) (k : Fin 4096) :
    (iblk m c 0 t : Vec Ideal S256x4096 .f32) (ix2 r k) = (m ((c.tc : Thread nD τ).loc main_arg0) : Vec Ideal S32768x4096 .f32) (ix2 (rowOf t r) k) := by
  blk_ext [iblk, V, idx t, rowOf]

theorem f_blk (c : Dev nD) (t : Fin cfg0.N) (r : Fin 256) (k : Fin 4096) :
    (iblk m c 1 t : Vec Ideal S256x4096 .bf16) (ix2 r k) = (m ((c.tc : Thread nD τ).loc main_arg1) : Vec Ideal S32768x4096 .bf16) (ix2 (rowOf t r) k) := by
  blk_ext [iblk, V, idx t, rowOf]

theorem g_at (c : Dev nD) (x : Fin 4096) :
    (V m c main_v0 : Vec Ideal S1x4096 .f32) (ix2 0 x) = (m ((c.tc : Thread nD τ).loc main_arg2) : Vec Ideal S4096 .f32) (ix1 x) := by
  entry_read
  pointwise

theorem g_blk (c : Dev nD) (t : Fin cfg0.N) (x : Fin 4096) :
    (iblk m c 2 t : Vec Ideal S1x4096 .f32) (ix2 0 x) = (m ((c.tc : Thread nD τ).loc main_arg2) : Vec Ideal S4096 .f32) (ix1 x) := by
  rw [← g_at m c]
  blk_ext [iblk, idx t]

theorem u_blk (c : Dev nD) (t : Fin cfg0.N) (r : Fin 256) (x : Fin 4096) :
    (iblk m c 3 t : Vec Ideal S1x1x1x4096 .f32) (ix4 0 0 0 x)
      = (m ((c.tc : Thread nD τ).loc main_arg3) : Vec Ideal S4x16x1x24576 .f32) (ix4 3 (seqOf (rowOf t r)) 0 (gateOf x)) := by
  blk_ext [iblk, V, idx t, rowOf, seqOf, gateOf]

section
open Cert.Reference5Ideal.Read

/-- The branch in the reference's layout. -/
theorem branch_at (f : Vec Ideal S32768x4096 .bf16) (r : Fin 32768) (x : Fin 4096) :
    (val_main_v9 (F := Ideal) f (ix3 ⟨r.val / 4096, by omega⟩ ⟨r.val % 4096, by omega⟩ x) : EReal) = f (ix2 r x) := by
  refine (val_main_v9_apply f _).trans ?_
  refine congrArg f (funext fun a => match a with | ⟨0, _⟩ => Fin.ext ?_ | ⟨1, _⟩ => Fin.ext ?_)
  · show ((r.val / 4096 * 4096 + r.val % 4096) * 4096 + x.val) / 4096 = r.val
    omega
  · show ((r.val / 4096 * 4096 + r.val % 4096) * 4096 + x.val) % 4096 = x.val
    omega

/-- The row's sum of squares. -/
theorem squares_at (f : Vec Ideal S32768x4096 .bf16) (r : Fin 32768) :
    (val_main_v11 (F := Ideal) f (ix2 ⟨r.val / 4096, by omega⟩ ⟨r.val % 4096, by omega⟩) : EReal) = ∑ k : Fin 4096, (f (ix2 r k) : EReal) * f (ix2 r k) := by
  refine (val_main_v11_apply f _).trans ?_
  refine (congrArg (· + _) (show (val_main_cst (F := Ideal) (Shape.Idx.first Cert.Reference5Ideal.Facts₀.h_S_) : EReal) = 0 from Ideal.ofBits_zero_f32)).trans ?_
  refine (zero_add _).trans (Finset.sum_congr rfl fun k _ => ?_)
  have e : (val_main_v9 (F := Ideal) f (idx_main_v11 (ix2 ⟨r.val / 4096, by omega⟩ ⟨r.val % 4096, by omega⟩) k) : EReal) = f (ix2 r k) :=
    (congrArg (val_main_v9 (F := Ideal) f) (show idx_main_v11 (ix2 ⟨r.val / 4096, by omega⟩ ⟨r.val % 4096, by omega⟩) k
      = ix3 ⟨r.val / 4096, by omega⟩ ⟨r.val % 4096, by omega⟩ k from funext fun a => match a with | ⟨0, _⟩ => rfl | ⟨1, _⟩ => rfl | ⟨2, _⟩ => rfl)).trans (branch_at f r k)
  exact congrArg₂ (fun a b : EReal => a * b) e e

/-- The factor a row is scaled by. -/
theorem scale_at (f : Vec Ideal S32768x4096 .bf16) (r : Fin 32768) (x : Fin 4096) :
    (val_main_v18 (F := Ideal) f (ix3 ⟨r.val / 4096, by omega⟩ ⟨r.val % 4096, by omega⟩ x) : EReal)
      = Ideal.rsqrt (Ideal.div (∑ k : Fin 4096, (f (ix2 r k) : EReal) * f (ix2 r k)) (Ideal.ofBits .f32 0x45800000#32) + Ideal.ofBits .f32 0x358637BD#32) := by
  refine (val_main_v18_apply f _).trans ?_
  refine congrArg (fun q : EReal => Ideal.rsqrt (Ideal.div q (Ideal.ofBits .f32 0x45800000#32) + Ideal.ofBits .f32 0x358637BD#32)) ?_
  refine (val_main_v12_apply f _).trans ((congrArg (val_main_v11 (F := Ideal) f) ?_).trans (squares_at f r))
  exact funext fun a => match a with | ⟨0, _⟩ => rfl | ⟨1, _⟩ => rfl

/-- The gate of a row's sequence. -/
theorem gate_at (u : Vec Ideal S4x16x1x24576 .f32) (r : Fin 32768) (x : Fin 4096) :
    (val_main_v25 (F := Ideal) u (ix3 ⟨r.val / 4096, by omega⟩ ⟨r.val % 4096, by omega⟩ x) : EReal) = u (ix4 3 (seqOf r) 0 (gateOf x)) := by
  refine (val_main_v25_apply u _).trans ?_
  refine (val_main_v24_apply u _).trans ?_
  refine (val_main_v7_apply u _).trans ?_
  refine (val_main_v1_apply u _).trans ?_
  refine (val_main_v0_apply u _).trans ?_
  refine congrArg u (funext fun a => match a with | ⟨0, _⟩ => Fin.ext ?_ | ⟨1, _⟩ => Fin.ext ?_ | ⟨2, _⟩ => Fin.ext ?_ | ⟨3, _⟩ => Fin.ext ?_)
  · rfl
  · show 1 + (r.val / 4096 * 24576 + (20480 + x.val)) / 24576 % 8 = 1 + r.val / 4096
    have := r.isLt; omega
  · rfl
  · show (r.val / 4096 * 24576 + (20480 + x.val)) % 24576 = 20480 + x.val
    omega

/-- The gain of a column. -/
theorem gain_at (g : Vec Ideal S4096 .f32) (r : Fin 32768) (x : Fin 4096) :
    (val_main_v21 (F := Ideal) g (ix3 ⟨r.val / 4096, by omega⟩ ⟨r.val % 4096, by omega⟩ x) : EReal) = g (ix1 x) := by
  refine (val_main_v21_apply g _).trans ?_
  refine (val_main_v20_apply g _).trans ?_
  exact congrArg g (funext fun a => match a with | ⟨0, _⟩ => rfl)

/-- The stream in the reference's layout. -/
theorem stream_at (y : Vec Ideal S32768x4096 .f32) (r : Fin 32768) (x : Fin 4096) :
    (val_main_v23 (F := Ideal) y (ix3 ⟨r.val / 4096, by omega⟩ ⟨r.val % 4096, by omega⟩ x) : EReal) = y (ix2 r x) := by
  refine (val_main_v23_apply y _).trans ?_
  refine congrArg y (funext fun a => match a with | ⟨0, _⟩ => Fin.ext ?_ | ⟨1, _⟩ => Fin.ext ?_)
  · show ((r.val / 4096 * 4096 + r.val % 4096) * 4096 + x.val) / 4096 = r.val
    omega
  · show ((r.val / 4096 * 4096 + r.val % 4096) * 4096 + x.val) % 4096 = x.val
    omega

/-- The reference's result, at an index. -/
theorem ref_at (y : Vec Ideal S32768x4096 .f32) (f : Vec Ideal S32768x4096 .bf16) (g : Vec Ideal S4096 .f32) (u : Vec Ideal S4x16x1x24576 .f32)
    (r : Fin 32768) (x : Fin 4096) :
    (val_main_v28 (F := Ideal) y f g u (ix2 r x) : EReal)
      = step (y (ix2 r x)) (u (ix4 3 (seqOf r) 0 (gateOf x))) (f (ix2 r x)) (g (ix1 x)) (fun k => f (ix2 r k)) := by
  refine (val_main_v28_apply y f g u _).trans ?_
  refine (congrArg (val_main_v27 (F := Ideal) y f g u) (show idx_main_v28 (ix2 r x) = ix3 ⟨r.val / 4096, by omega⟩ ⟨r.val % 4096, by omega⟩ x from
    funext fun a => match a with
      | ⟨0, _⟩ => Fin.ext (by show (r.val * 4096 + x.val) / 16777216 = r.val / 4096; omega)
      | ⟨1, _⟩ => Fin.ext (by show (r.val * 4096 + x.val) / 4096 % 4096 = r.val % 4096; omega)
      | ⟨2, _⟩ => Fin.ext (by show (r.val * 4096 + x.val) % 4096 = x.val; omega))).trans ?_
  refine congrArg₂ (fun a b : EReal => a + b) (stream_at y r x) ?_
  refine congrArg₂ (fun a b : EReal => a * b) (gate_at u r x) ?_
  refine congrArg₂ (fun a b : EReal => a * b) ?_ (gain_at g r x)
  exact congrArg₂ (fun a b : EReal => a * b) (branch_at f r x) (scale_at f r x)
end

/-- The launch's result array is the reference's. -/
theorem final (c : Dev nD) :
    (dats m 0 c).arrAt 4 cfg0.N = Cert.Reference5Ideal.Read.val_main_v28 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  rw [after0_4]
  frame_out
  blk_simp
  change S256x4096.Idx at y
  obtain ⟨r, x, rfl⟩ : ∃ (r : Fin 256) (x : Fin 4096), y = ix2 r x := ⟨y 0, y 1, funext fun a => match a with | ⟨0, _⟩ => rfl | ⟨1, _⟩ => rfl⟩
  refine (pay_at _ _ _ _ r x).trans ?_
  simp only [y_blk, f_blk, g_blk, u_blk m c t r x]
  refine (ref_at _ _ _ _ (rowOf t r) x).symm.trans ?_
  blk_ext [idx t, rowOf]

end Cert.Resid
-- ==== Proof.ResidPrompt.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.ResidPrompt

open Cert.Kernel6Ideal Cert.Kernel6Ideal.Gen Idealize.ShloMosaic Idealize.SL.Sem Idealize.ShloMosaic.TcCoe

/-- The residual sum at one element: `y` of the stream, `f` the branch's row, `a` its element there, `g` the norm's gain, `u` the gate. -/
def step (y u a g : EReal) (f : Fin 4096 → EReal) : EReal :=
  y + u * (a * Ideal.rsqrt (Ideal.div (∑ k, f k * f k) (Ideal.ofBits .f32 0x45800000#32) + Ideal.ofBits .f32 0x358637BD#32) * g)

/-- Which blocks a grid point reads and writes: 256 rows of the stream and the branch, the gains, the gate of the prompt. -/
theorem idx : ∀ t : Fin cfg0.N, win0_0.index t = ![t.val, 0] ∧ win0_1.index t = ![t.val, 0] ∧ win0_2.index t = ![0, 0] ∧
    win0_3.index t = ![3, 0, 0, 5] ∧ win0_4.index t = ![t.val, 0] :=
  (by decide +kernel : ∀ t : Fin grid0.N, _)

/-- What a block's element becomes. -/
theorem pay_at (v0 : Vec Ideal S256x4096 .f32) (v1 : Vec Ideal S1x1x1x4096 .f32) (v3 : Vec Ideal S256x4096 .bf16) (v15 : Vec Ideal S1x4096 .f32)
    (r : Fin 256) (x : Fin 4096) :
    (k0_pay1 v0 v1 v3 v15 (ix2 r x) : EReal)
      = step (v0 (ix2 r x)) (v1 (ix4 0 0 0 x)) (v3 (ix2 r x)) (v15 (ix2 0 x)) (fun k => v3 (ix2 r k)) := by
  pointwise [k0_pay1, step]

variable (m : (ℓ : Loc nD τ sig) → Buf (Elt Ideal) ℓ)

/-- The row of the whole array that a row of a grid point's block is. -/
def rowOf (t : Fin cfg0.N) (r : Fin 256) : Fin 8192 := ⟨t.val * 256 + r.val, by have h := t.isLt; have e : cfg0.N = 32 := N_0; omega⟩

/-- The column of the modulation table where the gate of a column lies. -/
def gateOf (x : Fin 4096) : Fin 24576 := ⟨20480 + x.val, by omega⟩

theorem y_blk (c : Dev nD) (t : Fin cfg0.N) (r : Fin 256) (k : Fin 4096) :
    (iblk m c 0 t : Vec Ideal S256x4096 .f32) (ix2 r k) = (m ((c.tc : Thread nD τ).loc main_arg0) : Vec Ideal S8192x4096 .f32) (ix2 (rowOf t r) k) := by
  blk_ext [iblk, V, idx t, rowOf]

theorem f_blk (c : Dev nD) (t : Fin cfg0.N) (r : Fin 256) (k : Fin 4096) :
    (iblk m c 1 t : Vec Ideal S256x4096 .bf16) (ix2 r k) = (m ((c.tc : Thread nD τ).loc main_arg1) : Vec Ideal S8192x4096 .bf16) (ix2 (rowOf t r) k) := by
  blk_ext [iblk, V, idx t, rowOf]

theorem g_at (c : Dev nD) (x : Fin 4096) :
    (V m c main_v0 : Vec Ideal S1x4096 .f32) (ix2 0 x) = (m ((c.tc : Thread nD τ).loc main_arg2) : Vec Ideal S4096 .f32) (ix1 x) := by
  entry_read
  pointwise

theorem g_blk (c : Dev nD) (t : Fin cfg0.N) (x : Fin 4096) :
    (iblk m c 2 t : Vec Ideal S1x4096 .f32) (ix2 0 x) = (m ((c.tc : Thread nD τ).loc main_arg2) : Vec Ideal S4096 .f32) (ix1 x) := by
  rw [← g_at m c]
  blk_ext [iblk, idx t]

theorem u_blk (c : Dev nD) (t : Fin cfg0.N) (x : Fin 4096) :
    (iblk m c 3 t : Vec Ideal S1x1x1x4096 .f32) (ix4 0 0 0 x)
      = (m ((c.tc : Thread nD τ).loc main_arg3) : Vec Ideal S4x16x1x24576 .f32) (ix4 3 0 0 (gateOf x)) := by
  blk_ext [iblk, V, idx t, gateOf]

section
open Cert.Reference6Ideal.Read

/-- The row's sum of squares. -/
theorem squares_at (f : Vec Ideal S8192x4096 .bf16) (r : Fin 8192) :
    (val_main_v10 (F := Ideal) f (ix1 r) : EReal) = ∑ k : Fin 4096, (f (ix2 r k) : EReal) * f (ix2 r k) := by
  refine (val_main_v10_apply f _).trans ?_
  refine (congrArg (· + _) (show (val_main_cst (F := Ideal) (Shape.Idx.first Cert.Reference6Ideal.Facts₀.h_S_) : EReal) = 0 from Ideal.ofBits_zero_f32)).trans ?_
  refine (zero_add _).trans (Finset.sum_congr rfl fun k _ => ?_)
  have e : (val_main_v8 (F := Ideal) f (idx_main_v10 (ix1 r) k) : EReal) = f (ix2 r k) :=
    congrArg f (show idx_main_v10 (ix1 r) k = ix2 r k from funext fun a => match a with | ⟨0, _⟩ => rfl | ⟨1, _⟩ => rfl)
  exact congrArg₂ (fun a b : EReal => a * b) e e

/-- The factor a row is scaled by. -/
theorem scale_at (f : Vec Ideal S8192x4096 .bf16) (r : Fin 8192) (x : Fin 4096) :
    (val_main_v17 (F := Ideal) f (ix2 r x) : EReal)
      = Ideal.rsqrt (Ideal.div (∑ k : Fin 4096, (f (ix2 r k) : EReal) * f (ix2 r k)) (Ideal.ofBits .f32 0x45800000#32) + Ideal.ofBits .f32 0x358637BD#32) := by
  refine (val_main_v17_apply f _).trans ?_
  refine congrArg (fun q : EReal => Ideal.rsqrt (Ideal.div q (Ideal.ofBits .f32 0x45800000#32) + Ideal.ofBits .f32 0x358637BD#32)) ?_
  refine (val_main_v11_apply f _).trans ((congrArg (val_main_v10 (F := Ideal) f) ?_).trans (squares_at f r))
  exact funext fun a => match a with | ⟨0, _⟩ => rfl

/-- The prompt's gate. -/
theorem gate_at (u : Vec Ideal S4x16x1x24576 .f32) (r : Fin 8192) (x : Fin 4096) :
    (val_main_v22 (F := Ideal) u (ix2 r x) : EReal) = u (ix4 3 0 0 (gateOf x)) := by
  refine (val_main_v22_apply u _).trans ?_
  refine (val_main_v7_apply u _).trans ?_
  refine (val_main_v1_apply u _).trans ?_
  refine (val_main_v0_apply u _).trans ?_
  refine congrArg u (funext fun a => match a with | ⟨0, _⟩ => rfl | ⟨1, _⟩ => rfl | ⟨2, _⟩ => rfl | ⟨3, _⟩ => Fin.ext ?_)
  show (0 * 24576 + (20480 + x.val)) % 24576 = 20480 + x.val
  omega

/-- The gain of a column. -/
theorem gain_at (g : Vec Ideal S4096 .f32) (r : Fin 8192) (x : Fin 4096) :
    (val_main_v20 (F := Ideal) g (ix2 r x) : EReal) = g (ix1 x) := by
  refine (val_main_v20_apply g _).trans ?_
  refine (val_main_v19_apply g _).trans ?_
  exact congrArg g (funext fun a => match a with | ⟨0, _⟩ => rfl)

/-- The reference's result, at an index. -/
theorem ref_at (y : Vec Ideal S8192x4096 .f32) (f : Vec Ideal S8192x4096 .bf16) (g : Vec Ideal S4096 .f32) (u : Vec Ideal S4x16x1x24576 .f32)
    (r : Fin 8192) (x : Fin 4096) :
    (val_main_v24 (F := Ideal) y f g u (ix2 r x) : EReal)
      = step (y (ix2 r x)) (u (ix4 3 0 0 (gateOf x))) (f (ix2 r x)) (g (ix1 x)) (fun k => f (ix2 r k)) := by
  refine congrArg (fun b : EReal => (y (ix2 r x) : EReal) + b) ?_
  refine congrArg₂ (fun a b : EReal => a * b) (gate_at u r x) ?_
  refine congrArg₂ (fun a b : EReal => a * b) ?_ (gain_at g r x)
  exact congrArg (fun b : EReal => (f (ix2 r x) : EReal) * b) (scale_at f r x)
end

/-- The launch's result array is the reference's. -/
theorem final (c : Dev nD) :
    (dats m 0 c).arrAt 4 cfg0.N = Cert.Reference6Ideal.Read.val_main_v24 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  rw [after0_4]
  frame_out
  blk_simp
  change S256x4096.Idx at y
  obtain ⟨r, x, rfl⟩ : ∃ (r : Fin 256) (x : Fin 4096), y = ix2 r x := ⟨y 0, y 1, funext fun a => match a with | ⟨0, _⟩ => rfl | ⟨1, _⟩ => rfl⟩
  refine (pay_at _ _ _ _ r x).trans ?_
  simp only [y_blk, f_blk, g_blk, u_blk m c t x]
  refine (ref_at _ _ _ _ (rowOf t r) x).symm.trans ?_
  blk_ext [idx t, rowOf]

end Cert.ResidPrompt
-- ==== Proof.EvenIn.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.EvenIn

open Cert.Kernel7Ideal Cert.Kernel7Ideal.Gen Idealize.ShloMosaic Idealize.SL.Sem Idealize.ShloMosaic.TcCoe

/-- Which blocks a grid point reads and writes. -/
theorem idx : ∀ t : Fin cfg0.N, win0_0.index t = ![t.val / 14, 0] ∧ win0_1.index t = ![0, t.val % 14] ∧ win0_2.index t = ![t.val / 14, t.val % 14] :=
  (by decide +kernel : ∀ t : Fin grid0.N, _)

/-- An element of the product of two blocks. -/
theorem pay_at (x : Vec Ideal S1024x4096 .bf16) (w : Vec Ideal S4096x1024 .bf16) (r y : Fin 1024) :
    (k0_pay1 x w (ix2 r y) : EReal) = ∑ k : Fin 4096, (x (ix2 r k) : EReal) * (w (ix2 k y) : EReal) := by
  pointwise [k0_pay1]

variable (m : (ℓ : Loc nD τ sig) → Buf (Elt Ideal) ℓ)

/-- The row of the whole array that a row of a grid point's block is. -/
def rowOf (t : Fin cfg0.N) (r : Fin 1024) : Fin 8192 := ⟨t.val / 14 * 1024 + r.val, by have h := t.isLt; have e : cfg0.N = 112 := N_0; omega⟩
/-- The column likewise. -/
def colOf (t : Fin cfg0.N) (y : Fin 1024) : Fin 14336 := ⟨t.val % 14 * 1024 + y.val, by omega⟩

theorem x_blk (c : Dev nD) (t : Fin cfg0.N) (r : Fin 1024) (k : Fin 4096) :
    (iblk m c 0 t : Vec Ideal S1024x4096 .bf16) (ix2 r k) = (m ((c.tc : Thread nD τ).loc main_arg0) : Vec Ideal S8192x4096 .bf16) (ix2 (rowOf t r) k) := by
  blk_ext [iblk, V, idx t, rowOf]

/-- A column of the projection is a column of the whole weight. -/
def wide (y : Fin 14336) : Fin 14368 := ⟨y.val, by omega⟩

theorem w_at (c : Dev nD) (k : Fin 4096) (y : Fin 14336) :
    (V m c main_v1 : Vec Ideal S4096x14336 .bf16) (ix2 k y) = (m ((c.tc : Thread nD τ).loc main_arg1) : Vec Ideal S4096x14368 .f32) (ix2 k (wide y)) := by
  entry_read
  pointwise [wide]

theorem w_blk (c : Dev nD) (t : Fin cfg0.N) (k : Fin 4096) (y : Fin 1024) :
    (iblk m c 1 t : Vec Ideal S4096x1024 .bf16) (ix2 k y) = (m ((c.tc : Thread nD τ).loc main_arg1) : Vec Ideal S4096x14368 .f32) (ix2 k (wide (colOf t y))) := by
  rw [← w_at m c]
  blk_ext [iblk, idx t, colOf]

/-- The reference's product, at an index. -/
theorem ref_at (x : Vec Ideal S8192x4096 .bf16) (w : Vec Ideal S4096x14368 .f32) (r : Fin 8192) (y : Fin 14336) :
    (Cert.Reference7Ideal.Read.val_main_v3 (F := Ideal) x w (ix2 r y) : EReal) = ∑ k : Fin 4096, (x (ix2 r k) : EReal) * (w (ix2 k (wide y)) : EReal) := by
  refine (Cert.Reference7Ideal.Read.val_main_v2_apply x w (ix2 r y)).trans ?_
  refine (Cert.Reference7Ideal.Read.val_main_v1_apply x w _).trans ?_
  refine Finset.sum_congr rfl fun k _ => ?_
  exact congrArg₂ (fun a b : EReal => a * b) (congrArg x (funext fun a => match a with | ⟨0, _⟩ => rfl | ⟨1, _⟩ => rfl)) (congrArg w (funext fun a => match a with | ⟨0, _⟩ => rfl | ⟨1, _⟩ => rfl))

/-- The launch's result array is the reference's product, cut. -/
theorem final (c : Dev nD) :
    (dats m 0 c).arrAt 2 cfg0.N = Cert.Reference7Ideal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  blk_simp
  change S1024x1024.Idx at y
  obtain ⟨r, x, rfl⟩ : ∃ (r x : Fin 1024), y = ix2 r x := ⟨y 0, y 1, funext fun a => match a with | ⟨0, _⟩ => rfl | ⟨1, _⟩ => rfl⟩
  refine (pay_at _ _ r x).trans ?_
  simp only [x_blk, w_blk]
  refine (ref_at _ _ (rowOf t r) (colOf t x)).symm.trans ?_
  blk_ext [idx t, rowOf, colOf]

end Cert.EvenIn
-- ==== Proof.Rank.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.Rank

open Cert.Kernel8Ideal Cert.Kernel8Ideal.Gen Idealize.ShloMosaic Idealize.SL.Sem Idealize.ShloMosaic.TcCoe

/-- Which blocks a grid point reads and writes: rows, and the whole weight. -/
theorem idx : ∀ t : Fin cfg0.N, win0_0.index t = ![t.val, 0] ∧ win0_1.index t = ![0, 0] ∧ win0_2.index t = ![t.val, 0] :=
  (by decide +kernel : ∀ t : Fin grid0.N, _)

/-- An element of the product of two blocks. -/
theorem pay_at (x : Vec Ideal S1024x4096 .bf16) (w : Vec Ideal S4096x128 .bf16) (r : Fin 1024) (y : Fin 128) :
    (k0_pay1 x w (ix2 r y) : EReal) = ∑ k : Fin 4096, (x (ix2 r k) : EReal) * (w (ix2 k y) : EReal) := by
  pointwise [k0_pay1]

variable (m : (ℓ : Loc nD τ sig) → Buf (Elt Ideal) ℓ)

/-- The row of the whole array that a row of a grid point's block is. -/
def rowOf (t : Fin cfg0.N) (r : Fin 1024) : Fin 8192 := ⟨t.val * 1024 + r.val, by have h := t.isLt; have e : cfg0.N = 8 := N_0; omega⟩

/-- The column of the whole weight. -/
def wide (y : Fin 32) : Fin 14368 := ⟨14336 + y.val, by omega⟩

theorem x_blk (c : Dev nD) (t : Fin cfg0.N) (r : Fin 1024) (k : Fin 4096) :
    (iblk m c 0 t : Vec Ideal S1024x4096 .bf16) (ix2 r k) = (m ((c.tc : Thread nD τ).loc main_arg0) : Vec Ideal S8192x4096 .bf16) (ix2 (rowOf t r) k) := by
  blk_ext [iblk, V, idx t, rowOf]

/-- The last columns of the weight, with zeros behind: what the program hands the call. -/
theorem V_w (c : Dev nD) : (V m c main_v2 : Vec Ideal S4096x128 .bf16) = truncf (F := Ideal) .bf16 (pad S4096x128 ![0, 0] ![0, 96] ![0, 0] (extractStridedSlice S4096x32 ![0, 14336] (m ((c.tc : Thread nD τ).loc main_arg1)) slices_S4096x14368_S4096x32_0_14336) (sitofp (F := Ideal) .f32 (constantI S_ 32 0#32)) pads_S4096x32_S4096x128_000_0960 h_S_) bitsLt_bf16_f32 := by
  unfold V
  simp only [hostOps0, hostOps0_1, hostOps0_2, List.flatten_cons, List.flatten_nil, List.append_nil, List.cons_append, List.nil_append]
  after_results
  try rfl

theorem zero_word (i : S_.Idx) : (sitofp (F := Ideal) .f32 (constantI S_ 32 0#32) i : EReal) = 0 := by
  show (FloatOps.sitofp (F := Ideal) FTy.f32 (0#32 : BitVec 32) : EReal) = 0
  simp [FloatOps.sitofp]

theorem pad_w (z : Vec Ideal S4096x32 .f32) (v : Vec Ideal S_ .f32) (hp) (hs) (hv : ∀ i, (v i : EReal) = 0) (k : Fin 4096) (y : Fin 128) :
    (pad (α := EReal) S4096x128 ![0, 0] ![0, 96] ![0, 0] z v hp hs (ix2 k y)) = if h : y.val < 32 then (z (ix2 k ⟨y.val, h⟩) : EReal) else 0 := by
  pointwise
  simp only [hv]

theorem pad_r (z : Vec Ideal Cert.Reference8Ideal.S8192x32 .f32) (v : Vec Ideal S_ .f32) (hp) (hs) (hv : ∀ i, (v i : EReal) = 0) (r : Fin 8192) (y : Fin 128) :
    (pad (α := EReal) S8192x128 ![0, 0] ![0, 96] ![0, 0] z v hp hs (ix2 r y)) = if h : y.val < 32 then (z (ix2 r ⟨y.val, h⟩) : EReal) else 0 := by
  pointwise
  simp only [hv]

theorem cut_w (z : Vec Ideal S4096x14368 .f32) (k : Fin 4096) (y : Fin 32) :
    (extractStridedSlice S4096x32 ![0, 14336] z slices_S4096x14368_S4096x32_0_14336 (ix2 k y) : EReal) = z (ix2 k (wide y)) := by
  pointwise [wide]

/-- The weight, with zeros behind its last columns. -/
def zeroed (w : Vec Ideal S4096x14368 .f32) (k : Fin 4096) (y : Fin 128) : EReal := if h : y.val < 32 then (w (ix2 k (wide ⟨y.val, h⟩)) : EReal) else 0

theorem w_at (c : Dev nD) (k : Fin 4096) (y : Fin 128) :
    ((V m c main_v2 : Vec Ideal S4096x128 .bf16) (ix2 k y) : EReal) = zeroed (m ((c.tc : Thread nD τ).loc main_arg1)) k y := by
  rw [V_w]
  unfold zeroed
  refine (pad_w _ _ pads_S4096x32_S4096x128_000_0960 _ zero_word k y).trans ?_
  by_cases h : y.val < 32
  · rw [dif_pos h, dif_pos h]; exact cut_w _ k ⟨y.val, h⟩
  · rw [dif_neg h, dif_neg h]

theorem w_blk (c : Dev nD) (t : Fin cfg0.N) (k : Fin 4096) (y : Fin 128) :
    ((iblk m c 1 t : Vec Ideal S4096x128 .bf16) (ix2 k y) : EReal) = zeroed (m ((c.tc : Thread nD τ).loc main_arg1)) k y := by
  rw [← w_at m c]
  blk_ext [iblk, idx t]

/-- The reference's result, at an index. -/
theorem ref_at (x : Vec Ideal S8192x4096 .bf16) (w : Vec Ideal S4096x14368 .f32) (r : Fin 8192) (y : Fin 128) :
    (Cert.Reference8Ideal.Read.val_main_v4 (F := Ideal) x w (ix2 r y) : EReal)
      = ∑ k : Fin 4096, (x (ix2 r k) : EReal) * zeroed w k y := by
  show (Cert.Reference8Ideal.Read.val_main_v3 (F := Ideal) x w (ix2 r y) : EReal) = _
  unfold Cert.Reference8Ideal.Read.val_main_v3
  refine (pad_r _ _ _ _ zero_word r y).trans ?_
  unfold zeroed
  by_cases h : y.val < 32
  · simp only [dif_pos h]
    refine (Cert.Reference8Ideal.Read.val_main_v2_apply x w _).trans ?_
    refine (Cert.Reference8Ideal.Read.val_main_v1_apply x w _).trans ?_
    refine Finset.sum_congr rfl fun k _ => ?_
    exact congrArg₂ (fun a b : EReal => a * b) (congrArg x (funext fun a => match a with | ⟨0, _⟩ => rfl | ⟨1, _⟩ => rfl)) (congrArg w (funext fun a => match a with | ⟨0, _⟩ => rfl | ⟨1, _⟩ => rfl))
  · simp only [dif_neg h, mul_zero, Finset.sum_const_zero]

/-- The launch's result array is the reference's. -/
theorem final (c : Dev nD) :
    (dats m 0 c).arrAt 2 cfg0.N = Cert.Reference8Ideal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  blk_simp
  change S1024x128.Idx at y
  obtain ⟨r, x, rfl⟩ : ∃ (r : Fin 1024) (x : Fin 128), y = ix2 r x := ⟨y 0, y 1, funext fun a => match a with | ⟨0, _⟩ => rfl | ⟨1, _⟩ => rfl⟩
  refine (pay_at _ _ r x).trans ?_
  simp only [x_blk, w_blk]
  refine (ref_at _ _ (rowOf t r) x).symm.trans ?_
  blk_ext [idx t, rowOf]

end Cert.Rank
-- ==== Proof.Pair.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

namespace Cert.Pair

open Cert.Kernel9Ideal Cert.Kernel9Ideal.Gen Idealize.ShloMosaic Idealize.SL.Sem Idealize.ShloMosaic.TcCoe

/-- Which blocks a grid point reads and writes: rows of the two arrays, and columns of the two halves of the weight. -/
theorem idx : ∀ t : Fin cfg0.N, win0_0.index t = ![t.val / 4, 0] ∧ win0_1.index t = ![t.val / 4, 0] ∧ win0_2.index t = ![0, t.val % 4] ∧
    win0_3.index t = ![1, t.val % 4] ∧ win0_4.index t = ![t.val / 4, t.val % 4] :=
  (by decide +kernel : ∀ t : Fin grid0.N, _)

/-- An element of the sum of two products of blocks. -/
theorem pay_at (x : Vec Ideal S1024x2048 .bf16) (w : Vec Ideal S2048x1024 .bf16) (x' : Vec Ideal S1024x2048 .bf16) (w' : Vec Ideal S2048x1024 .bf16) (r y : Fin 1024) :
    (k0_pay1 x w x' w' (ix2 r y) : EReal)
      = (∑ k : Fin 2048, (x (ix2 r k) : EReal) * (w (ix2 k y) : EReal)) + ∑ k : Fin 2048, (x' (ix2 r k) : EReal) * (w' (ix2 k y) : EReal) := by
  pointwise [k0_pay1]

variable (m : (ℓ : Loc nD τ sig) → Buf (Elt Ideal) ℓ)

/-- The row of the whole array that a row of a grid point's block is. -/
def rowOf (t : Fin cfg0.N) (r : Fin 1024) : Fin 8192 := ⟨t.val / 4 * 1024 + r.val, by have h := t.isLt; have e : cfg0.N = 32 := N_0; omega⟩
/-- The column likewise. -/
def colOf (t : Fin cfg0.N) (y : Fin 1024) : Fin 4096 := ⟨t.val % 4 * 1024 + y.val, by omega⟩
/-- The weight's rows that the first array meets. -/
def lo (k : Fin 2048) : Fin 4096 := ⟨k.val, by omega⟩
/-- The weight's rows that the second array meets. -/
def hi (k : Fin 2048) : Fin 4096 := ⟨2048 + k.val, by omega⟩

theorem x_blk (c : Dev nD) (t : Fin cfg0.N) (r : Fin 1024) (k : Fin 2048) :
    (iblk m c 0 t : Vec Ideal S1024x2048 .bf16) (ix2 r k) = (m ((c.tc : Thread nD τ).loc main_arg0) : Vec Ideal S8192x2048 .bf16) (ix2 (rowOf t r) k) := by
  blk_ext [iblk, V, idx t, rowOf]

theorem x'_blk (c : Dev nD) (t : Fin cfg0.N) (r : Fin 1024) (k : Fin 2048) :
    (iblk m c 1 t : Vec Ideal S1024x2048 .bf16) (ix2 r k) = (m ((c.tc : Thread nD τ).loc main_arg1) : Vec Ideal S8192x2048 .bf16) (ix2 (rowOf t r) k) := by
  blk_ext [iblk, V, idx t, rowOf]

theorem w_at (c : Dev nD) (k : Fin 4096) (y : Fin 4096) :
    (V m c main_v0 : Vec Ideal S4096x4096 .bf16) (ix2 k y) = (m ((c.tc : Thread nD τ).loc main_arg2) : Vec Ideal S4096x4096 .f32) (ix2 k y) := by
  entry_read
  pointwise

theorem w_blk (c : Dev nD) (t : Fin cfg0.N) (k : Fin 2048) (y : Fin 1024) :
    (iblk m c 2 t : Vec Ideal S2048x1024 .bf16) (ix2 k y) = (m ((c.tc : Thread nD τ).loc main_arg2) : Vec Ideal S4096x4096 .f32) (ix2 (lo k) (colOf t y)) := by
  rw [← w_at m c]
  blk_ext [iblk, idx t, colOf, lo]

theorem w'_blk (c : Dev nD) (t : Fin cfg0.N) (k : Fin 2048) (y : Fin 1024) :
    (iblk m c 3 t : Vec Ideal S2048x1024 .bf16) (ix2 k y) = (m ((c.tc : Thread nD τ).loc main_arg2) : Vec Ideal S4096x4096 .f32) (ix2 (hi k) (colOf t y)) := by
  rw [← w_at m c]
  blk_ext [iblk, idx t, colOf, hi]

/-- The first half of the joined array. -/
theorem join_lo (x x' : Vec Ideal S8192x2048 .bf16) (r : Fin 8192) (k : Fin 2048) :
    (Cert.Reference9Ideal.Read.val_main_v0 (F := Ideal) x x' (ix2 r (lo k)) : EReal) = x (ix2 r k) := by
  pointwise [Cert.Reference9Ideal.Read.val_main_v0, lo]

/-- The second half. -/
theorem join_hi (x x' : Vec Ideal S8192x2048 .bf16) (r : Fin 8192) (k : Fin 2048) :
    (Cert.Reference9Ideal.Read.val_main_v0 (F := Ideal) x x' (ix2 r (hi k)) : EReal) = x' (ix2 r k) := by
  pointwise [Cert.Reference9Ideal.Read.val_main_v0, hi]

/-- The reference's product, at an index. -/
theorem ref_at (x x' : Vec Ideal S8192x2048 .bf16) (w : Vec Ideal S4096x4096 .f32) (r : Fin 8192) (y : Fin 4096) :
    (Cert.Reference9Ideal.Read.val_main_v3 (F := Ideal) x x' w (ix2 r y) : EReal)
      = (∑ k : Fin 2048, (x (ix2 r k) : EReal) * (w (ix2 (lo k) y) : EReal)) + ∑ k : Fin 2048, (x' (ix2 r k) : EReal) * (w (ix2 (hi k) y) : EReal) := by
  refine (Cert.Reference9Ideal.Read.val_main_v2_apply x x' w (ix2 r y)).trans ?_
  refine (Fin.sum_univ_add (a := 2048) (b := 2048) _).trans ?_
  refine congrArg₂ (fun a b : EReal => a + b) (Finset.sum_congr rfl fun k _ => ?_) (Finset.sum_congr rfl fun k _ => ?_)
  · refine congrArg₂ (fun a b : EReal => a * b) (Eq.trans (congrArg (Cert.Reference9Ideal.Read.val_main_v0 (F := Ideal) x x') ?_) (join_lo x x' r k)) (congrArg w ?_)
    · exact funext fun a => match a with | ⟨0, _⟩ => rfl | ⟨1, _⟩ => rfl
    · exact funext fun a => match a with | ⟨0, _⟩ => rfl | ⟨1, _⟩ => rfl
  · refine congrArg₂ (fun a b : EReal => a * b) (Eq.trans (congrArg (Cert.Reference9Ideal.Read.val_main_v0 (F := Ideal) x x') ?_) (join_hi x x' r k)) (congrArg w ?_)
    · exact funext fun a => match a with | ⟨0, _⟩ => rfl | ⟨1, _⟩ => rfl
    · exact funext fun a => match a with | ⟨0, _⟩ => rfl | ⟨1, _⟩ => rfl

/-- The launch's result array is the reference's product. -/
theorem final (c : Dev nD) :
    (dats m 0 c).arrAt 4 cfg0.N = Cert.Reference9Ideal.Read.val_main_v3 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  rw [after0_4]
  frame_out
  blk_simp
  change S1024x1024.Idx at y
  obtain ⟨r, x, rfl⟩ : ∃ (r x : Fin 1024), y = ix2 r x := ⟨y 0, y 1, funext fun a => match a with | ⟨0, _⟩ => rfl | ⟨1, _⟩ => rfl⟩
  refine (pay_at _ _ _ _ r x).trans ?_
  simp only [x_blk, x'_blk, w_blk, w'_blk]
  refine (ref_at _ _ _ (rowOf t r) (colOf t x)).symm.trans ?_
  blk_ext [idx t, rowOf, colOf]

end Cert.Pair
-- ==== Proof.OddOut.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

namespace Cert.OddOut

open Cert.Kernel10Ideal Cert.Kernel10Ideal.Gen Idealize.ShloMosaic Idealize.SL.Sem Idealize.ShloMosaic.TcCoe

/-- Which blocks a grid point reads and writes. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- An element of the product of two blocks. -/
theorem pay_at (x : Vec Ideal S1024x4096 .bf16) (w : Vec Ideal S4096x1024 .bf16) (r y : Fin 1024) :
    (k0_pay1 x w (ix2 r y) : EReal) = ∑ k : Fin 4096, (x (ix2 r k) : EReal) * (w (ix2 k y) : EReal) := by
  pointwise [k0_pay1]

variable (m : (ℓ : Loc nD τ sig) → Buf (Elt Ideal) ℓ)

/-- The row of the whole array that a row of a grid point's block is. -/
def rowOf (t : Fin cfg0.N) (r : Fin 1024) : Fin 8192 := ⟨t.val / 4 * 1024 + r.val, by have h := t.isLt; have e : cfg0.N = 32 := N_0; omega⟩
/-- The column likewise. -/
def colOf (t : Fin cfg0.N) (y : Fin 1024) : Fin 4096 := ⟨t.val % 4 * 1024 + y.val, by omega⟩

theorem x_blk (c : Dev nD) (t : Fin cfg0.N) (r : Fin 1024) (k : Fin 4096) :
    (iblk m c 0 t : Vec Ideal S1024x4096 .bf16) (ix2 r k) = (m ((c.tc : Thread nD τ).loc main_arg0) : Vec Ideal S8192x4096 .bf16) (ix2 (rowOf t r) k) := by
  blk_ext [iblk, V, idx t, rowOf]

theorem w_at (c : Dev nD) (k : Fin 4096) (y : Fin 4096) :
    (V m c main_v0 : Vec Ideal S4096x4096 .bf16) (ix2 k y) = (m ((c.tc : Thread nD τ).loc main_arg1) : Vec Ideal S4096x4096 .f32) (ix2 k y) := by
  entry_read
  pointwise

theorem w_blk (c : Dev nD) (t : Fin cfg0.N) (k : Fin 4096) (y : Fin 1024) :
    (iblk m c 1 t : Vec Ideal S4096x1024 .bf16) (ix2 k y) = (m ((c.tc : Thread nD τ).loc main_arg1) : Vec Ideal S4096x4096 .f32) (ix2 k (colOf t y)) := by
  rw [← w_at m c]
  blk_ext [iblk, idx t, colOf]

/-- The reference's product, at an index. -/
theorem ref_at (x : Vec Ideal S8192x4096 .bf16) (w : Vec Ideal S4096x4096 .f32) (r : Fin 8192) (y : Fin 4096) :
    (Cert.Reference10Ideal.Read.val_main_v2 (F := Ideal) x w (ix2 r y) : EReal) = ∑ k : Fin 4096, (x (ix2 r k) : EReal) * (w (ix2 k y) : EReal) := by
  refine (Cert.Reference10Ideal.Read.val_main_v1_apply x w (ix2 r y)).trans ?_
  refine Finset.sum_congr rfl fun k _ => ?_
  exact congrArg₂ (fun a b : EReal => a * b) (congrArg x (funext fun a => match a with | ⟨0, _⟩ => rfl | ⟨1, _⟩ => rfl)) (congrArg w (funext fun a => match a with | ⟨0, _⟩ => rfl | ⟨1, _⟩ => rfl))

/-- The launch's result array is the reference's product. -/
theorem final (c : Dev nD) :
    (dats m 0 c).arrAt 2 cfg0.N = Cert.Reference10Ideal.Read.val_main_v2 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  blk_simp
  change S1024x1024.Idx at y
  obtain ⟨r, x, rfl⟩ : ∃ (r x : Fin 1024), y = ix2 r x := ⟨y 0, y 1, funext fun a => match a with | ⟨0, _⟩ => rfl | ⟨1, _⟩ => rfl⟩
  refine (pay_at _ _ r x).trans ?_
  simp only [x_blk, w_blk]
  refine (ref_at _ _ (rowOf t r) (colOf t x)).symm.trans ?_
  blk_ext [idx t, rowOf, colOf]

end Cert.OddOut
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Pre_finite
public import proofs.«01_k».proof.Proof.Gen.Pre_finite11
public import proofs.«01_k».proof.Proof.Final
public import proofs.«01_k».proof.Proof.Finite
public import proofs.«01_k».proof.Proof.RetPre
public import proofs.«01_k».proof.Proof.RetOut
public import proofs.«01_k».proof.Proof.GlaOut
public import proofs.«01_k».proof.Proof.ModPrompt
public import proofs.«01_k».proof.Proof.MidPrompt
public import proofs.«01_k».proof.Proof.Ffn
public import proofs.«01_k».proof.Proof.Down
public import proofs.«01_k».proof.Proof.Proj
public import proofs.«01_k».proof.Proof.Resid
public import proofs.«01_k».proof.Proof.ResidPrompt
public import proofs.«01_k».proof.Proof.EvenIn
public import proofs.«01_k».proof.Proof.Rank
public import proofs.«01_k».proof.Proof.Pair
public import proofs.«01_k».proof.Proof.OddOut
public import Idealize.ShloMosaic.Lib.Claim
public import Idealize.ShloMosaic.Lib.Quiescent

@[expose] public section

set_option maxRecDepth 16384

noncomputable section

namespace Cert.Proof

open Idealize.ShloMosaic Idealize.SL.Sem Cert.Kernel

/-- At real-valued arguments, what the launch leaves in its result array is the reference's term. -/
theorem final (m : (ℓ : Loc Cert.KernelIdeal.nD Cert.KernelIdeal.τ Cert.KernelIdeal.sig) → Buf (Elt Ideal) ℓ) (hpre : Cert.Pre_KernelIdeal_finite m) (c : Dev Cert.KernelIdeal.nD) :
    (Cert.KernelIdeal.Gen.dats m 0 c).arrAt 9 Cert.KernelIdeal.cfg0.N
      = Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  obtain ⟨h0, h1, h3, h4⟩ := Cert.Attn.reals_of_finite _ _ _ _ _ (hpre c)
  choose z hz using h0
  choose ck hk using h3
  choose cv hv using h4
  exact Cert.Attn.final (z := fun r x => z (ix2 r x)) (ck := fun b j h x => ck (ix4 b j h x)) (cv := fun b j h x => cv (ix4 b j h x))
      (fun r x => hz _) ⟨fun b j h x => hk _, fun b j h x => hv _⟩ fun r d => h1 _

/-- At real-valued arguments the launch and the reference end with equal results. -/
theorem algebraic : Cert.algebraic_KernelIdeal_ReferenceIdeal_pre_finite := by
  pair_intro
  · run_from Cert.KernelIdeal.Value.run_blocks m g
  · run_from Cert.ReferenceIdeal.Value.run m' g'
    obtain ⟨e0, e1, e2, e3, e4⟩ := hagree c
    rw [← e2]
    refine (Cert.ReferenceIdeal.Read.val_main_v125_eq (StableHlo.launchContents m' c)).trans ?_
    show Cert.ReferenceIdeal.Read.val_main_v125 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [e0, e1, e2, e3, e4]
    exact (final m hpre c).symm

/-- The reference runs, leaves its arguments alone, and declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The claim of equal results for the way in of the feed-forward net. -/
theorem algebraic2 : Cert.algebraic_Kernel2Ideal_Reference2Ideal := by
  pair_intro
  · run_from Cert.Kernel2Ideal.Value.run_blocks m g
  · run_from Cert.Reference2Ideal.Value.run m' g'
    obtain ⟨e0, e1, e2, e3⟩ := hagree c
    refine (Cert.Reference2Ideal.Read.val_main_v33_eq m' c).trans ?_
    rw [e0, e1, e2, e3]
    exact (Cert.Ffn.final m c).symm

/-- Its reference runs, leaves its arguments alone, and declares no semaphore. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The claim of equal results for the way out of the feed-forward net. -/
theorem algebraic3 : Cert.algebraic_Kernel3Ideal_Reference3Ideal := by
  pair_intro
  · run_from Cert.Kernel3Ideal.Value.run_blocks m g
  · run_from Cert.Reference3Ideal.Value.run m' g'
    refine (Cert.Reference3Ideal.Read.val_main_v3_eq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).trans ?_
    exact (Cert.Down.final m c).symm

/-- Its reference runs, leaves its arguments alone, and declares no semaphore. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The claim of equal results for the odd layer's projection at the prompt. -/
theorem algebraic4 : Cert.algebraic_Kernel4Ideal_Reference4Ideal := by
  pair_intro
  · run_from Cert.Kernel4Ideal.Value.run_blocks m g
  · run_from Cert.Reference4Ideal.Value.run m' g'
    refine (Cert.Reference4Ideal.Read.val_main_v2_eq (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).trans ?_
    exact (Cert.Proj.final m c).symm

/-- Its reference runs, leaves its arguments alone, and declares no semaphore. -/
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The claim of equal results for the last residual sum over the samples. -/
theorem algebraic5 : Cert.algebraic_Kernel5Ideal_Reference5Ideal := by
  pair_intro
  · run_from Cert.Kernel5Ideal.Value.run_blocks m g
  · run_from Cert.Reference5Ideal.Value.run m' g'
    refine (Cert.Reference5Ideal.Read.val_main_v28_eq (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).trans ?_
    exact (Cert.Resid.final m c).symm

/-- Its reference runs, leaves its arguments alone, and declares no semaphore. -/
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The claim of equal results for the last residual sum over the prompt. -/
theorem algebraic6 : Cert.algebraic_Kernel6Ideal_Reference6Ideal := by
  pair_intro
  · run_from Cert.Kernel6Ideal.Value.run_blocks m g
  · run_from Cert.Reference6Ideal.Value.run m' g'
    refine (Cert.Reference6Ideal.Read.val_main_v24_eq (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).trans ?_
    exact (Cert.ResidPrompt.final m c).symm

/-- Its reference runs, leaves its arguments alone, and declares no semaphore. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The claim of equal results for the even layer's projection. -/
theorem algebraic7 : Cert.algebraic_Kernel7Ideal_Reference7Ideal := by
  pair_intro
  · run_from Cert.Kernel7Ideal.Value.run_blocks m g
  · run_from Cert.Reference7Ideal.Value.run m' g'
    refine (Cert.Reference7Ideal.Read.val_main_v3_eq (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).trans ?_
    exact (Cert.EvenIn.final m c).symm

/-- Its reference runs, leaves its arguments alone, and declares no semaphore. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The claim of equal results for the even layer's projection to the low-rank factors. -/
theorem algebraic8 : Cert.algebraic_Kernel8Ideal_Reference8Ideal := by
  pair_intro
  · run_from Cert.Kernel8Ideal.Value.run_blocks m g
  · run_from Cert.Reference8Ideal.Value.run m' g'
    refine (Cert.Reference8Ideal.Read.val_main_v4_eq (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).trans ?_
    exact (Cert.Rank.final m c).symm

/-- Its reference runs, leaves its arguments alone, and declares no semaphore. -/
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The claim of equal results for the even layer's way out. -/
theorem algebraic9 : Cert.algebraic_Kernel9Ideal_Reference9Ideal := by
  pair_intro
  · run_from Cert.Kernel9Ideal.Value.run_blocks m g
  · run_from Cert.Reference9Ideal.Value.run m' g'
    refine (Cert.Reference9Ideal.Read.val_main_v3_eq (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).trans ?_
    exact (Cert.Pair.final m c).symm

/-- Its reference runs, leaves its arguments alone, and declares no semaphore. -/
theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The claim of equal results for the odd layer's way out. -/
theorem algebraic10 : Cert.algebraic_Kernel10Ideal_Reference10Ideal := by
  pair_intro
  · run_from Cert.Kernel10Ideal.Value.run_blocks m g
  · run_from Cert.Reference10Ideal.Value.run m' g'
    refine (Cert.Reference10Ideal.Read.val_main_v2_eq (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).trans ?_
    exact (Cert.OddOut.final m c).symm

/-- Its reference runs, leaves its arguments alone, and declares no semaphore. -/
theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The claim of equal results for the retention's states. -/
theorem algebraic11 : Cert.algebraic_Kernel11Ideal_Reference11Ideal_pre_finite11 := by
  pair_intro
  · run_from Cert.Kernel11Ideal.Value.run_blocks m g
  · run_from Cert.Reference11Ideal.Value.run m' g'
    obtain ⟨e0, e1, e2⟩ := hagree c
    refine (Cert.Reference11Ideal.Read.val_main_v66_eq m' c).trans ?_
    rw [e0, e2]
    exact (Cert.Ret.final m c fun i => Cert.Ret.logs_real _ _ _ (hpre c) i).symm

/-- Its reference runs, leaves its arguments alone, and declares no semaphore. -/
theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The claim of equal results for the gated linear attention's states. -/
theorem algebraic12 : Cert.algebraic_Kernel12Ideal_Reference12Ideal := by
  pair_intro
  · run_from Cert.Kernel12Ideal.Value.run_blocks m g
  · run_from Cert.Reference12Ideal.Value.run m' g'
    obtain ⟨e0, e1, e2, e3, e4⟩ := hagree c
    refine (Cert.Reference12Ideal.Read.val_main_v92_eq (StableHlo.launchContents m' c)).trans ?_
    show Cert.Reference12Ideal.Read.val_main_v92 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1))
      (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) = _
    rw [e0, e1, e3, e4]
    exact (Cert.Gla.final m c).symm

/-- Its reference runs, leaves its arguments alone, and declares no semaphore. -/
theorem frame_reference12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The claim of equal results for the first layer's modulated norm. -/
theorem algebraic13 : Cert.algebraic_Kernel13Ideal_Reference13Ideal := by
  pair_intro
  · run_from Cert.Kernel13Ideal.Value.run_blocks m g
  · run_from Cert.Reference13Ideal.Value.run m' g'
    refine (Cert.Reference13Ideal.Read.val_main_v27_eq (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).trans ?_
    exact (Cert.ModPrompt.final m c).symm

/-- Its reference runs, leaves its arguments alone, and declares no semaphore. -/
theorem frame_reference13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The claim of equal results for the step between a layer's halves. -/
theorem algebraic14 : Cert.algebraic_Kernel14Ideal_Reference14Ideal := by
  pair_intro
  · run_from Cert.Kernel14Ideal.Value.run_blocks m g
  · run_from Cert.Reference14Ideal.Value.run m' g'
    · refine (Cert.Reference14Ideal.Read.val_main_v24_eq (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg4))).trans ?_
      exact (Cert.MidPrompt.final_sum m c).symm
    · obtain ⟨e0, e1, e2, e3, e4⟩ := hagree c
      refine (Cert.Reference14Ideal.Read.val_main_v44_eq m' c).trans ?_
      rw [e0, e1, e2, e3, e4]
      exact (Cert.MidPrompt.final_mod m c).symm

/-- Its reference runs, leaves its arguments alone, and declares no semaphore. -/
theorem frame_reference14 : Cert.quiescent_Reference14Ideal := fun m ρ _ =>
  (θ_run Cert.Reference14Ideal.defs _ _).mono (fun r h => ⟨fun c => (h c).2.2, Idealize.ShloMosaic.sem_eq_zero_of_no_sems (by decide) r.2⟩)
    (Cert.Reference14Ideal.Value.run (F := Ideal) m ρ)

/-- The certificate's claims. -/
theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    fun m ρ _ => Cert.Kernel11Ideal.Gen.frame m ρ,
    frame_reference11,
    fun m ρ _ => frame_reference11 m ρ trivial,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    IdealRules.named_const.statement Cert.KernelIdeal.κ "s" .f32 0x3E0293EE#32 _ rfl,
    algebraic,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14⟩

end Cert.Proof

end
